-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_inputs4 [hPre_finite_inputs4 : Cert.Pre_finite_inputs4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_inputs4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_inputs4 [hPre_finite_inputs4 : Cert.Pre_finite_inputs4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_inputs4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_inputs4 [hKernel4Ideal : Cert.Kernel4Ideal.Facts] [hPre_finite_inputs4 : Cert.Pre_finite_inputs4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_inputs4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_inputs4 [hReference4Ideal : Cert.Reference4Ideal.Facts] [hPre_finite_inputs4 : Cert.Pre_finite_inputs4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_inputs4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "mask" .f32 0xF149F2CA#32 ⊥

def algebraic_Kernel4Ideal_Reference4Ideal_pre_finite_inputs4 [hKernel4Ideal : Cert.Kernel4Ideal.Facts] [hReference4Ideal : Cert.Reference4Ideal.Facts] [hPre_finite_inputs4 : Cert.Pre_finite_inputs4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_inputs4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts) (hPre_finite_inputs4 : Cert.Pre_finite_inputs4.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_inputs4 (hKernel4Ideal := hKernel4Ideal) (hPre_finite_inputs4 := hPre_finite_inputs4)
    ∧ quiescent_Reference4Ideal (hReference4Ideal := hReference4Ideal)
    ∧ quiescent_Reference4Ideal_pre_finite_inputs4 (hReference4Ideal := hReference4Ideal) (hPre_finite_inputs4 := hPre_finite_inputs4)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_inputs4 (hKernel4Ideal := hKernel4Ideal) (hReference4Ideal := hReference4Ideal) (hPre_finite_inputs4 := hPre_finite_inputs4)
-- ==== Pre_finite_inputs.lean ====
abbrev S4x8192x8x64 : Shape := ⟨4, ![4, 8192, 8, 64]⟩
abbrev S4x8192x2x2x64 : Shape := ⟨5, ![4, 8192, 2, 2, 64]⟩
abbrev S4x8192x8 : Shape := ⟨3, ![4, 8192, 8]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x2x2x64 : S_.BroadcastsInDim S4x8192x2x2x64 (![] : Fin 0 → Fin S4x8192x2x2x64.rank)
  reducesTo_S4x8192x2x2x64_S_d0_1_2_3_4 : S4x8192x2x2x64.ReducesTo [0, 1, 2, 3, 4] S_
  bcast_S_S4x8192x8 : S_.BroadcastsInDim S4x8192x8 (![] : Fin 0 → Fin S4x8192x8.rank)
  reducesTo_S4x8192x8_S_d0_1_2 : S4x8192x8.ReducesTo [0, 1, 2] S_

variable [Facts]

def fn {F : FTy → Type} [FloatOps F] (main_arg0 : FVec F S4x8192x8x64 .f32) (main_arg1 : FVec F S4x8192x2x2x64 .f32) (main_arg2 : FVec F S4x8192x8 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x2x2x64 .f32 := Host.absf main_arg1
  let main_cst_0 : FVec F S_ .f32 := constant S_ .f32 0x7F800000#32
  let main_v5 : FVec F S4x8192x2x2x64 .f32 := broadcastInDim S4x8192x2x2x64 ![] bcast_S_S4x8192x2x2x64 main_cst_0
  let main_v6 : IVec S4x8192x2x2x64 1 := cmpf .olt main_v4 main_v5
  let main_c_1 : IVec S_ 1 := constantI S_ 1 1#1
  let main_v7 : IVec S_ 1 := (fun x v => Host.reduce IntOp.andi x v reducesTo_S4x8192x2x2x64_S_d0_1_2_3_4 h_S_) main_v6 main_c_1
  let main_v8 : IVec S_ 1 := andi main_v3 main_v7
  let main_v9 : FVec F S4x8192x8 .f32 := Host.absf main_arg2
  let main_cst_2 : FVec F S_ .f32 := constant S_ .f32 0x7F800000#32
  let main_v10 : FVec F S4x8192x8 .f32 := broadcastInDim S4x8192x8 ![] bcast_S_S4x8192x8 main_cst_2
  let main_v11 : IVec S4x8192x8 1 := cmpf .olt main_v9 main_v10
  let main_c_3 : IVec S_ 1 := constantI S_ 1 1#1
  let main_v12 : IVec S_ 1 := (fun x v => Host.reduce IntOp.andi x v reducesTo_S4x8192x8_S_d0_1_2 h_S_) main_v11 main_c_3
  let main_v13 : IVec S_ 1 := andi main_v8 main_v12
  main_v13
-- ==== Pre_finite_inputs4.lean ====
abbrev S4x8192x8x96 : Shape := ⟨4, ![4, 8192, 8, 96]⟩
abbrev S4x8192x8x64 : Shape := ⟨4, ![4, 8192, 8, 64]⟩
abbrev S_ : Shape := ⟨0, ![]⟩

class Facts : Prop where
  bcast_S_S4x8192x8x96 : S_.BroadcastsInDim S4x8192x8x96 (![] : Fin 0 → Fin S4x8192x8x96.rank)
  reducesTo_S4x8192x8x96_S_d0_1_2_3 : S4x8192x8x96.ReducesTo [0, 1, 2, 3] S_
  h_S_ : 0 < S_.numel
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_

variable [Facts]

def fn {F : FTy → Type} [FloatOps F] (main_arg0 : FVec F S4x8192x8x96 .f32) (main_arg1 : FVec F S4x8192x8x96 .f32) (main_arg2 : FVec F S4x8192x8x64 .f32) : IVec S_ 1 :=
  let main_v0 : FVec F S4x8192x8x96 .f32 := Host.absf main_arg0
  let main_cst : FVec F S_ .f32 := constant S_ .f32 0x7F800000#32
  let main_v1 : FVec F S4x8192x8x96 .f32 := broadcastInDim S4x8192x8x96 ![] bcast_S_S4x8192x8x96 main_cst
  let main_v2 : IVec S4x8192x8x96 1 := cmpf .olt main_v0 main_v1
  let main_c : IVec S_ 1 := constantI S_ 1 1#1
  let main_v3 : IVec S_ 1 := (fun x v => Host.reduce IntOp.andi x v reducesTo_S4x8192x8x96_S_d0_1_2_3 h_S_) main_v2 main_c
  let main_v4 : FVec F S4x8192x8x96 .f32 := Host.absf main_arg1
  let main_cst_0 : FVec F S_ .f32 := constant S_ .f32 0x7F800000#32
  let main_v5 : FVec F S4x8192x8x96 .f32 := broadcastInDim S4x8192x8x96 ![] bcast_S_S4x8192x8x96 main_cst_0
  let main_v6 : IVec S4x8192x8x96 1 := cmpf .olt main_v4 main_v5
  let main_c_1 : IVec S_ 1 := constantI S_ 1 1#1
  let main_v7 : IVec S_ 1 := (fun x v => Host.reduce IntOp.andi x v reducesTo_S4x8192x8x96_S_d0_1_2_3 h_S_) main_v6 main_c_1
  let main_v8 : IVec S_ 1 := andi main_v3 main_v7
  let main_v9 : FVec F S4x8192x8x64 .f32 := Host.absf main_arg2
  let main_cst_2 : FVec F S_ .f32 := constant S_ .f32 0x7F800000#32
  let main_v10 : FVec F S4x8192x8x64 .f32 := broadcastInDim S4x8192x8x64 ![] bcast_S_S4x8192x8x64 main_cst_2
  let main_v11 : IVec S4x8192x8x64 1 := cmpf .olt main_v9 main_v10
  let main_c_3 : IVec S_ 1 := constantI S_ 1 1#1
  let main_v12 : IVec S_ 1 := (fun x v => Host.reduce IntOp.andi x v reducesTo_S4x8192x8x64_S_d0_1_2_3 h_S_) main_v11 main_c_3
  let main_v13 : IVec S_ 1 := andi main_v8 main_v12
  main_v13
-- ==== Kernel.lean ====
abbrev S4x8192x8x64 : Shape := ⟨4, ![4, 8192, 8, 64]⟩
abbrev S4x8192x2x2x64 : Shape := ⟨5, ![4, 8192, 2, 2, 64]⟩
abbrev S4x8192x8 : Shape := ⟨3, ![4, 8192, 8]⟩
abbrev S_ : Shape := ⟨0, ![]⟩
abbrev S4x8192x4x64 : Shape := ⟨4, ![4, 8192, 4, 64]⟩
abbrev S4x8192x4x128 : Shape := ⟨4, ![4, 8192, 4, 128]⟩
abbrev S4x8192x8x128 : Shape := ⟨4, ![4, 8192, 8, 128]⟩
abbrev S4x8192x1024 : Shape := ⟨3, ![4, 8192, 1024]⟩
abbrev S4x8192x256 : Shape := ⟨3, ![4, 8192, 256]⟩
abbrev S4x8x8192 : Shape := ⟨3, ![4, 8, 8192]⟩
abbrev S4x8192x512 : Shape := ⟨3, ![4, 8192, 512]⟩
abbrev S1x512x1024 : Shape := ⟨3, ![1, 512, 1024]⟩
abbrev S1x512x128 : Shape := ⟨3, ![1, 512, 128]⟩
abbrev S1x512x8 : Shape := ⟨3, ![1, 512, 8]⟩
abbrev S1x8x512 : Shape := ⟨3, ![1, 8, 512]⟩
abbrev S1x512x512 : Shape := ⟨3, ![1, 512, 512]⟩
abbrev S8x512x1 : Shape := ⟨3, ![8, 512, 1]⟩
abbrev S8x512x128 : Shape := ⟨3, ![8, 512, 128]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩
abbrev S512x64 : Shape := ⟨2, ![512, 64]⟩
abbrev S1x512x64 : Shape := ⟨3, ![1, 512, 64]⟩

abbrev nBuf : Space → Nat
  | .hbm => 19
  | .vmem => 15
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x2x64, .f32⟩
  | .hbm, ⟨2, _⟩ => ⟨S4x8192x8, .f32⟩
  | .hbm, ⟨3, _⟩ => ⟨S_, .f32⟩
  | .hbm, ⟨4, _⟩ => ⟨S4x8192x4x64, .f32⟩
  | .hbm, ⟨5, _⟩ => ⟨S_, .f32⟩
  | .hbm, ⟨6, _⟩ => ⟨S4x8192x8x64, .f32⟩
  | .hbm, ⟨7, _⟩ => ⟨S4x8192x8x64, .f32⟩
  | .hbm, ⟨8, _⟩ => ⟨S4x8192x4x64, .f32⟩
  | .hbm, ⟨9, _⟩ => ⟨S4x8192x4x128, .f32⟩
  | .hbm, ⟨10, _⟩ => ⟨S4x8192x4x64, .f32⟩
  | .hbm, ⟨11, _⟩ => ⟨S4x8192x4x128, .f32⟩
  | .hbm, ⟨12, _⟩ => ⟨S4x8192x8x128, .f32⟩
  | .hbm, ⟨13, _⟩ => ⟨S4x8192x1024, .f32⟩
  | .hbm, ⟨14, _⟩ => ⟨S4x8192x1024, .bf16⟩
  | .hbm, ⟨15, _⟩ => ⟨S4x8192x256, .f32⟩
  | .hbm, ⟨16, _⟩ => ⟨S4x8192x256, .bf16⟩
  | .hbm, ⟨17, _⟩ => ⟨S4x8x8192, .f32⟩
  | .hbm, ⟨18, _⟩ => ⟨S4x8192x512, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x8, .f32⟩
  | .local _ .vmem, ⟨7, _⟩ => ⟨S1x512x8, .f32⟩
  | .local _ .vmem, ⟨8, _⟩ => ⟨S1x8x512, .f32⟩
  | .local _ .vmem, ⟨9, _⟩ => ⟨S1x8x512, .f32⟩
  | .local _ .vmem, ⟨10, _⟩ => ⟨S1x512x512, .f32⟩
  | .local _ .vmem, ⟨11, _⟩ => ⟨S1x512x512, .f32⟩
  | .local _ .vmem, ⟨12, _⟩ => ⟨S8x512x1, .f32⟩
  | .local _ .vmem, ⟨13, _⟩ => ⟨S8x512x1, .f32⟩
  | .local _ .vmem, ⟨14, _⟩ => ⟨S8x512x128, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 16], ![false, false, false]⟩

def k0_cond4 (i : grid0.Coords) : BitVec 1 :=
  let arg2 : BitVec 32 := BitVec.ofNat 32 (i 2).val
  let arg1 : BitVec 32 := BitVec.ofNat 32 (i 1).val
  let v9 : BitVec 1 := Scalar.cmpi .eq arg2 arg1
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c1_i32 : BitVec 32 := 1#32
  let c0_i32 : BitVec 32 := 0#32
  ![arg0.toNat, v0.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S4x8192x8x64 : Shape := ⟨4, ![4, 8192, 8, 64]⟩
abbrev S4x8192x2x2x64 : Shape := ⟨5, ![4, 8192, 2, 2, 64]⟩
abbrev S4x8192x8 : Shape := ⟨3, ![4, 8192, 8]⟩
abbrev S8192 : Shape := ⟨1, ![8192]⟩
abbrev S4x8192x1x2x64 : Shape := ⟨5, ![4, 8192, 1, 2, 64]⟩
abbrev S4x8192x2x64 : Shape := ⟨4, ![4, 8192, 2, 64]⟩
abbrev S4x8192x2x4 : Shape := ⟨4, ![4, 8192, 2, 4]⟩
abbrev S4x2x4x8192 : Shape := ⟨4, ![4, 2, 4, 8192]⟩
abbrev S4x2x4x8192x1 : Shape := ⟨5, ![4, 2, 4, 8192, 1]⟩
abbrev S4x2x4x1x8192 : Shape := ⟨5, ![4, 2, 4, 1, 8192]⟩
abbrev S4x2x4x8192x8192 : Shape := ⟨5, ![4, 2, 4, 8192, 8192]⟩
abbrev S4x8192x2x4x64 : Shape := ⟨5, ![4, 8192, 2, 4, 64]⟩
abbrev S4x2x8192x8192x4 : Shape := ⟨5, ![4, 2, 8192, 8192, 4]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x2x64x4x8192 : Shape := ⟨5, ![4, 2, 64, 4, 8192]⟩
abbrev S4x8192x512 : Shape := ⟨3, ![4, 8192, 512]⟩

abbrev nBuf : Space → Nat
  | .hbm => 64
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x2x64, .f32⟩
  | .hbm, ⟨2, _⟩ => ⟨S4x8192x8, .f32⟩
  | .hbm, ⟨3, _⟩ => ⟨S8192, .i32⟩
  | .hbm, ⟨4, _⟩ => ⟨S4x8192x1x2x64, .f32⟩
  | .hbm, ⟨5, _⟩ => ⟨S4x8192x2x64, .f32⟩
  | .hbm, ⟨6, _⟩ => ⟨S4x8192x1x2x64, .f32⟩
  | .hbm, ⟨7, _⟩ => ⟨S4x8192x2x64, .f32⟩
  | .hbm, ⟨8, _⟩ => ⟨S4x8192x2x4, .f32⟩
  | .hbm, ⟨9, _⟩ => ⟨S4x2x4x8192, .f32⟩
  | .hbm, ⟨10, _⟩ => ⟨S4x2x4x8192x1, .f32⟩
  | .hbm, ⟨11, _⟩ => ⟨S4x8192x2x4, .f32⟩
  | .hbm, ⟨12, _⟩ => ⟨S4x2x4x8192, .f32⟩
  | .hbm, ⟨13, _⟩ => ⟨S4x2x4x1x8192, .f32⟩
  | .hbm, ⟨14, _⟩ => ⟨S4x2x4x8192x8192, .f32⟩
  | .hbm, ⟨15, _⟩ => ⟨S4x2x4x8192x8192, .f32⟩
  | .hbm, ⟨16, _⟩ => ⟨S4x2x4x8192x8192, .f32⟩
  | .hbm, ⟨17, _⟩ => ⟨S4x8192x2x4x64, .f32⟩
  | .hbm, ⟨18, _⟩ => ⟨S4x2x8192x8192x4, .f32⟩
  | .hbm, ⟨19, _⟩ => ⟨S4x2x4x8192x8192, .f32⟩
  | .hbm, ⟨20, _⟩ => ⟨S_, .f32⟩
  | .hbm, ⟨21, _⟩ => ⟨S4x2x4x8192x8192, .f32⟩
  | .hbm, ⟨22, _⟩ => ⟨S4x2x4x8192x8192, .f32⟩
  | .hbm, ⟨23, _⟩ => ⟨S4x2x4x8192x8192, .f32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S4x2x4x8192x8192, .i1⟩
  | .hbm, ⟨32, _⟩ => ⟨S4x2x4x8192x8192, .f32⟩
  | .hbm, ⟨33, _⟩ => ⟨S4x2x4x8192x8192, .f32⟩
  | .hbm, ⟨34, _⟩ => ⟨S_, .f32⟩
  | .hbm, ⟨35, _⟩ => ⟨S4x2x4x8192, .f32⟩
  | .hbm, ⟨36, _⟩ => ⟨S4x2x4x8192x1, .f32⟩
  | .hbm, ⟨37, _⟩ => ⟨S4x2x4x8192x1, .f32⟩
  | .hbm, ⟨38, _⟩ => ⟨S_, .f32⟩
  | .hbm, ⟨39, _⟩ => ⟨S4x2x4x8192x1, .f32⟩
  | .hbm, ⟨40, _⟩ => ⟨S4x2x4x8192x1, .i1⟩
  | .hbm, ⟨41, _⟩ => ⟨S_, .f32⟩
  | .hbm, ⟨42, _⟩ => ⟨S_, .f32⟩
  | .hbm, ⟨43, _⟩ => ⟨S4x2x4x8192x1, .f32⟩
  | .hbm, ⟨44, _⟩ => ⟨S4x2x4x8192x1, .f32⟩
  | .hbm, ⟨45, _⟩ => ⟨S4x2x4x8192x8192, .f32⟩
  | .hbm, ⟨46, _⟩ => ⟨S4x2x4x8192x8192, .f32⟩
  | .hbm, ⟨47, _⟩ => ⟨S4x2x4x8192x8192, .f32⟩
  | .hbm, ⟨48, _⟩ => ⟨S_, .f32⟩
  | .hbm, ⟨49, _⟩ => ⟨S_, .f32⟩
  | .hbm, ⟨50, _⟩ => ⟨S4x2x4x8192x8192, .i1⟩
  | .hbm, ⟨51, _⟩ => ⟨S4x2x4x8192x8192, .f32⟩
  | .hbm, ⟨52, _⟩ => ⟨S4x2x4x8192x8192, .f32⟩
  | .hbm, ⟨53, _⟩ => ⟨S_, .f32⟩
  | .hbm, ⟨54, _⟩ => ⟨S4x2x4x8192, .f32⟩
  | .hbm, ⟨55, _⟩ => ⟨S4x2x4x8192x1, .f32⟩
  | .hbm, ⟨56, _⟩ => ⟨S_, .f32⟩
  | .hbm, ⟨57, _⟩ => ⟨S4x2x4x8192x1, .f32⟩
  | .hbm, ⟨58, _⟩ => ⟨S4x2x4x8192x1, .f32⟩
  | .hbm, ⟨59, _⟩ => ⟨S4x2x4x8192x8192, .f32⟩
  | .hbm, ⟨60, _⟩ => ⟨S4x2x4x8192x8192, .f32⟩
  | .hbm, ⟨61, _⟩ => ⟨S4x2x64x4x8192, .f32⟩
  | .hbm, ⟨62, _⟩ => ⟨S4x8192x2x4x64, .f32⟩
  | .hbm, ⟨63, _⟩ => ⟨S4x8192x512, .f32⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x512, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S32768x1024, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S1024x1024, .bf16⟩
  | .hbm, ⟨15, _⟩ => ⟨S1x1024, .f32⟩
  | .hbm, ⟨16, _⟩ => ⟨S1024x4096, .bf16⟩
  | .hbm, ⟨17, _⟩ => ⟨S4096x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S32768x1024 : Shape := ⟨2, ![32768, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x512, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S4x8192x512, .f32⟩
  | .hbm, ⟨10, _⟩ => ⟨S4x8192x512, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S4x8192x4096, .f32⟩
  | .hbm, ⟨31, _⟩ => ⟨S_, .f32⟩
  | .hbm, ⟨32, _⟩ => ⟨S4x8192x4096, .f32⟩
  | .hbm, ⟨33, _⟩ => ⟨S4x8192x4096, .f32⟩
  | .hbm, ⟨34, _⟩ => ⟨S4x8192x4096, .f32⟩
  | .hbm, ⟨35, _⟩ => ⟨S4x8192x1024, .f32⟩
  | .hbm, ⟨36, _⟩ => ⟨S4x8192x1024, .f32⟩
  | .hbm, ⟨37, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S32768x1024, .f32⟩
  | .hbm, ⟨8, _⟩ => ⟨S32768x512, .f32⟩
  | .hbm, ⟨9, _⟩ => ⟨S32768x512, .f32⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S32768x1024 : Shape := ⟨2, ![32768, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x8192x4096, .f32⟩
  | .hbm, ⟨27, _⟩ => ⟨S_, .f32⟩
  | .hbm, ⟨28, _⟩ => ⟨S4x8192x4096, .f32⟩
  | .hbm, ⟨29, _⟩ => ⟨S4x8192x4096, .f32⟩
  | .hbm, ⟨30, _⟩ => ⟨S4x8192x4096, .f32⟩
  | .hbm, ⟨31, _⟩ => ⟨S4x8192x1024, .f32⟩
  | .hbm, ⟨32, _⟩ => ⟨S4x8192x1024, .f32⟩
  | .hbm, ⟨33, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel4.lean ====
abbrev S4x8192x8x96 : Shape := ⟨4, ![4, 8192, 8, 96]⟩
abbrev S4x8192x8x64 : Shape := ⟨4, ![4, 8192, 8, 64]⟩
abbrev S_ : Shape := ⟨0, ![]⟩
abbrev S4x8192x8x128 : Shape := ⟨4, ![4, 8192, 8, 128]⟩
abbrev S4x8192x1024 : Shape := ⟨3, ![4, 8192, 1024]⟩
abbrev S4x8192x512 : Shape := ⟨3, ![4, 8192, 512]⟩
abbrev S1x512x1024 : Shape := ⟨3, ![1, 512, 1024]⟩
abbrev S1x512x512 : Shape := ⟨3, ![1, 512, 512]⟩
abbrev S8x512x1 : Shape := ⟨3, ![8, 512, 1]⟩
abbrev S8x512x128 : Shape := ⟨3, ![8, 512, 128]⟩
abbrev S1x512x128 : Shape := ⟨3, ![1, 512, 128]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S512x64 : Shape := ⟨2, ![512, 64]⟩
abbrev S1x512x64 : Shape := ⟨3, ![1, 512, 64]⟩

abbrev nBuf : Space → Nat
  | .hbm => 20
  | .vmem => 11
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S_, .f32⟩
  | .hbm, ⟨4, _⟩ => ⟨S_, .f32⟩
  | .hbm, ⟨5, _⟩ => ⟨S4x8192x8x96, .f32⟩
  | .hbm, ⟨6, _⟩ => ⟨S4x8192x8x96, .f32⟩
  | .hbm, ⟨7, _⟩ => ⟨S_, .i32⟩
  | .hbm, ⟨8, _⟩ => ⟨S_, .f32⟩
  | .hbm, ⟨9, _⟩ => ⟨S4x8192x8x128, .f32⟩
  | .hbm, ⟨10, _⟩ => ⟨S4x8192x1024, .f32⟩
  | .hbm, ⟨11, _⟩ => ⟨S4x8192x1024, .bf16⟩
  | .hbm, ⟨12, _⟩ => ⟨S_, .i32⟩
  | .hbm, ⟨13, _⟩ => ⟨S_, .f32⟩
  | .hbm, ⟨14, _⟩ => ⟨S4x8192x8x128, .f32⟩
  | .hbm, ⟨15, _⟩ => ⟨S4x8192x1024, .f32⟩
  | .hbm, ⟨16, _⟩ => ⟨S4x8192x1024, .bf16⟩
  | .hbm, ⟨17, _⟩ => ⟨S4x8192x512, .f32⟩
  | .hbm, ⟨18, _⟩ => ⟨S4x8192x512, .bf16⟩
  | .hbm, ⟨19, _⟩ => ⟨S4x8192x512, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .f32⟩
  | .local _ .vmem, ⟨7, _⟩ => ⟨S1x512x512, .f32⟩
  | .local _ .vmem, ⟨8, _⟩ => ⟨S8x512x1, .f32⟩
  | .local _ .vmem, ⟨9, _⟩ => ⟨S8x512x1, .f32⟩
  | .local _ .vmem, ⟨10, _⟩ => ⟨S8x512x128, .f32⟩
  | _, _ => ⟨S4x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 16], ![false, false, false]⟩

def k0_cond4 (i : grid0.Coords) : BitVec 1 :=
  let arg2 : BitVec 32 := BitVec.ofNat 32 (i 2).val
  let arg1 : BitVec 32 := BitVec.ofNat 32 (i 1).val
  let v9 : BitVec 1 := Scalar.cmpi .eq arg2 arg1
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel4Ideal.lean ====
variable {F : FTy → Type} [FloatOps F] [Named F]
def κ : String → Option EReal := fun
  | "mask" => some ⊥
  | _ => none
-- ==== Reference4Ideal.lean ====
abbrev S4x8192x8x96 : Shape := ⟨4, ![4, 8192, 8, 96]⟩
abbrev S4x8192x8x64 : Shape := ⟨4, ![4, 8192, 8, 64]⟩
abbrev S8192 : Shape := ⟨1, ![8192]⟩
abbrev S4x8192x8x1x96 : Shape := ⟨5, ![4, 8192, 8, 1, 96]⟩
abbrev S4x8x8192x8192x1 : Shape := ⟨5, ![4, 8, 8192, 8192, 1]⟩
abbrev S4x8x1x8192x8192 : Shape := ⟨5, ![4, 8, 1, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x8x1x8192 : Shape := ⟨4, ![4, 8, 1, 8192]⟩
abbrev S4x8x1x8192x1 : Shape := ⟨5, ![4, 8, 1, 8192, 1]⟩
abbrev S4x8x64x1x8192 : Shape := ⟨5, ![4, 8, 64, 1, 8192]⟩
abbrev S4x8192x8x1x64 : Shape := ⟨5, ![4, 8192, 8, 1, 64]⟩
abbrev S4x8192x512 : Shape := ⟨3, ![4, 8192, 512]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S8192, .i32⟩
  | .hbm, ⟨4, _⟩ => ⟨S4x8192x8x1x96, .f32⟩
  | .hbm, ⟨5, _⟩ => ⟨S4x8x8192x8192x1, .f32⟩
  | .hbm, ⟨6, _⟩ => ⟨S4x8x1x8192x8192, .f32⟩
  | .hbm, ⟨7, _⟩ => ⟨S_, .f32⟩
  | .hbm, ⟨8, _⟩ => ⟨S_, .f32⟩
  | .hbm, ⟨9, _⟩ => ⟨S4x8x1x8192x8192, .f32⟩
  | .hbm, ⟨10, _⟩ => ⟨S4x8x1x8192x8192, .f32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S4x8x1x8192x8192, .i1⟩
  | .hbm, ⟨19, _⟩ => ⟨S4x8x1x8192x8192, .f32⟩
  | .hbm, ⟨20, _⟩ => ⟨S4x8x1x8192x8192, .f32⟩
  | .hbm, ⟨21, _⟩ => ⟨S_, .f32⟩
  | .hbm, ⟨22, _⟩ => ⟨S4x8x1x8192, .f32⟩
  | .hbm, ⟨23, _⟩ => ⟨S4x8x1x8192x1, .f32⟩
  | .hbm, ⟨24, _⟩ => ⟨S4x8x1x8192x1, .f32⟩
  | .hbm, ⟨25, _⟩ => ⟨S_, .f32⟩
  | .hbm, ⟨26, _⟩ => ⟨S4x8x1x8192x1, .f32⟩
  | .hbm, ⟨27, _⟩ => ⟨S4x8x1x8192x1, .i1⟩
  | .hbm, ⟨28, _⟩ => ⟨S_, .f32⟩
  | .hbm, ⟨29, _⟩ => ⟨S_, .f32⟩
  | .hbm, ⟨30, _⟩ => ⟨S4x8x1x8192x1, .f32⟩
  | .hbm, ⟨31, _⟩ => ⟨S4x8x1x8192x1, .f32⟩
  | .hbm, ⟨32, _⟩ => ⟨S4x8x1x8192x8192, .f32⟩
  | .hbm, ⟨33, _⟩ => ⟨S4x8x1x8192x8192, .f32⟩
  | .hbm, ⟨34, _⟩ => ⟨S4x8x1x8192x8192, .f32⟩
  | .hbm, ⟨35, _⟩ => ⟨S_, .f32⟩
  | .hbm, ⟨36, _⟩ => ⟨S_, .f32⟩
  | .hbm, ⟨37, _⟩ => ⟨S4x8x1x8192x8192, .i1⟩
  | .hbm, ⟨38, _⟩ => ⟨S4x8x1x8192x8192, .f32⟩
  | .hbm, ⟨39, _⟩ => ⟨S4x8x1x8192x8192, .f32⟩
  | .hbm, ⟨40, _⟩ => ⟨S_, .f32⟩
  | .hbm, ⟨41, _⟩ => ⟨S4x8x1x8192, .f32⟩
  | .hbm, ⟨42, _⟩ => ⟨S4x8x1x8192x1, .f32⟩
  | .hbm, ⟨43, _⟩ => ⟨S_, .f32⟩
  | .hbm, ⟨44, _⟩ => ⟨S4x8x1x8192x1, .f32⟩
  | .hbm, ⟨45, _⟩ => ⟨S4x8x1x8192x1, .f32⟩
  | .hbm, ⟨46, _⟩ => ⟨S4x8x1x8192x8192, .f32⟩
  | .hbm, ⟨47, _⟩ => ⟨S4x8x1x8192x8192, .f32⟩
  | .hbm, ⟨48, _⟩ => ⟨S4x8x64x1x8192, .f32⟩
  | .hbm, ⟨49, _⟩ => ⟨S4x8192x8x1x64, .f32⟩
  | .hbm, ⟨50, _⟩ => ⟨S4x8192x512, .f32⟩
  | _, _ => ⟨S4x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Proof.FoxBase.lean ====
/-
  The conditions of the flash body in closed form, its windows' buffers at a point, and its scratch as views.
-/
module

public import proofs.«01_k».proof.Proof.Gen.KernelIdeal.Frame
public import proofs.«01_k».proof.Proof.Gen.KernelIdeal.Skeleton
public import Idealize.ShloMosaic.Lib.Exec
public import Idealize.ShloMosaic.Lib.Tactic

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 16 % 16 := Pipeline.Grid.coords_val t 1 (by decide) rfl
    have e2 : (grid0.coords t 2).val = t.val / 1 % 16 := Pipeline.Grid.coords_val t 2 (by decide) rfl
    simp only [cond0_0, e0, e1, e2]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 2).val) (BitVec.ofNat 32 (i 1).val))) 0#32) = 1#1
/-- It holds at the points whose coordinates have i2 + 1 ≤ i1 — decided over the grid. -/
theorem hcond0_1 : ∀ t : Fin cfg0.N, cond0_1 (grid0.coords t) ↔ t.val % 16 + 1 ≤ t.val / 16 % 16 :=
  (by decide +kernel : ∀ t : Fin grid0.N, cond0_1 (grid0.coords t) ↔ t.val % 16 + 1 ≤ t.val / 16 % 16)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 2).val) (BitVec.ofNat 32 (i 1).val))) 0#32) = 1#1
/-- It holds at the points whose coordinates have i1 = i2 — decided over the grid. -/
theorem hcond0_2 : ∀ t : Fin cfg0.N, cond0_2 (grid0.coords t) ↔ t.val / 16 % 16 = t.val % 16 :=
  (by decide +kernel : ∀ t : Fin grid0.N, cond0_2 (grid0.coords t) ↔ t.val / 16 % 16 = t.val % 16)

/-- The condition of the body's `scf.if` 3 (`k0_h4`), from the grid coordinates (the skeleton's scalar
    chain substituted). -/
abbrev cond0_3 (i : grid0.Coords) : Prop := k0_cond4 i = 1#1
/-- It holds at the points whose coordinates have i1 = i2 — decided over the grid. -/
theorem hcond0_3 : ∀ t : Fin cfg0.N, cond0_3 (grid0.coords t) ↔ t.val / 16 % 16 = t.val % 16 :=
  (by decide +kernel : ∀ t : Fin grid0.N, cond0_3 (grid0.coords t) ↔ t.val / 16 % 16 = t.val % 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x512 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8x512x1 .f32 := Memref.whole cc0_scratch0
abbrev scM0_1 : Memref sig .tc .vmem S8x512x1 .f32 := Memref.whole cc0_scratch1
abbrev scM0_2 : Memref sig .tc .vmem S8x512x128 .f32 := Memref.whole cc0_scratch2
/-- The scratch `arg9` the kernel carries between points, as a view: what it holds is stated through it. -/
abbrev VS0_0 : View sig .tc .vmem S8x512x1 .f32 := scM0_0.view
/-- The scratch `arg10` the kernel carries between points, as a view: what it holds is stated through it. -/
abbrev VS0_1 : View sig .tc .vmem S8x512x1 .f32 := scM0_1.view
/-- The scratch `arg11` the kernel carries between points, as a view: what it holds is stated through it. -/
abbrev VS0_2 : View sig .tc .vmem S8x512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Flash

end
-- ==== Proof.FoxRunA.lean ====
/-
  The flash body run at a point of case A.
-/
module

public import proofs.«01_k».proof.Proof.FoxBase

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a point of case A (the first key block, on the diagonal), on any whole staging buffers: it runs, and what it stores into each buffer is the list of pieces the run finds. -/
noncomputable def kernelRun0_A (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : cond0_0 i) (hc1 : ¬cond0_1 i) (hc2 : cond0_2 i) (hc3 : cond0_3 i)
    (x0 : Vec F S1x512x1024 .bf16) (x1 : Vec F S1x512x128 .bf16) (x2 : Vec F S1x512x128 .bf16) (x3 : Vec F S1x512x8 .f32) (x4 : Vec F S1x8x512 .f32) :
    Σ' (L5 : List (View.Piece (Elt F) S1x512x512 .f32)), Σ' (LS0 : List (View.Piece (Elt F) S8x512x1 .f32)), Σ' (LS1 : List (View.Piece (Elt F) S8x512x1 .f32)), { LS2 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_flash_fox i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_flash_fox_eq_skeleton]; unfold cc0_flash_fox_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Flash

end
-- ==== Proof.FoxRunB.lean ====
/-
  The flash body run at a point of case B.
-/
module

public import proofs.«01_k».proof.Proof.FoxBase

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a point of case B (a key block past the diagonal: nothing runs), on any whole staging buffers: it runs, and what it stores into each buffer is the list of pieces the run finds. -/
theorem kernelRun0_B (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : ¬cond0_0 i) (hc1 : ¬cond0_1 i) (hc2 : ¬cond0_2 i) (hc3 : ¬cond0_3 i)
    (x0 : Vec F S1x512x1024 .bf16) (x1 : Vec F S1x512x128 .bf16) (x2 : Vec F S1x512x128 .bf16) (x3 : Vec F S1x512x8 .f32) (x4 : Vec F S1x8x512 .f32) (x5 : Vec F S1x512x512 .f32) (xs0 : Vec F S8x512x1 .f32) (xs1 : Vec F S8x512x1 .f32) (xs2 : Vec F S8x512x128 .f32) :
          ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xs0 ∗ owns (c : Thread nD τ) arg10 fullShare xs1 ∗ owns (c : Thread nD τ) arg11 fullShare xs2) -∗ K ⟨⟩))
          ⊢ wp frame (wpE (defs₀ (F := F)) Variants.none c none) E (cc0_flash_fox i arg3 harg3 arg4 harg4 arg5 harg5 arg6 harg6 arg7 harg7 arg8 harg8 arg9 harg9 arg10 harg10 arg11 harg11) K := by
  refine fun E K => ?run
  case run =>
    simp only [cc0_flash_fox_eq_skeleton]; unfold cc0_flash_fox_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.KernelIdeal.Flash

end
-- ==== Proof.FoxRunC.lean ====
/-
  The flash body run at a point of case C.
-/
module

public import proofs.«01_k».proof.Proof.FoxBase

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a point of case C (the first key block, below the diagonal), on any whole staging buffers: it runs, and what it stores into each buffer is the list of pieces the run finds. -/
noncomputable def kernelRun0_C (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : cond0_0 i) (hc1 : cond0_1 i) (hc2 : ¬cond0_2 i) (hc3 : ¬cond0_3 i)
    (x0 : Vec F S1x512x1024 .bf16) (x1 : Vec F S1x512x128 .bf16) (x2 : Vec F S1x512x128 .bf16) (x3 : Vec F S1x512x8 .f32) (x4 : Vec F S1x8x512 .f32) (x5 : Vec F S1x512x512 .f32) :
    Σ' (LS0 : List (View.Piece (Elt F) S8x512x1 .f32)), Σ' (LS1 : List (View.Piece (Elt F) S8x512x1 .f32)), { LS2 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_flash_fox i arg3 harg3 arg4 harg4 arg5 harg5 arg6 harg6 arg7 harg7 arg8 harg8 arg9 harg9 arg10 harg10 arg11 harg11) K } := by
  refine ⟨?_, ?_, ?_, fun E K => ?run⟩
  case run =>
    simp only [cc0_flash_fox_eq_skeleton]; unfold cc0_flash_fox_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Flash

end
-- ==== Proof.FoxRunD.lean ====
/-
  The flash body run at a point of case D.
-/
module

public import proofs.«01_k».proof.Proof.FoxBase

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a point of case D (a later key block, on the diagonal), on any whole staging buffers: it runs, and what it stores into each buffer is the list of pieces the run finds. -/
noncomputable def kernelRun0_D (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : ¬cond0_0 i) (hc1 : ¬cond0_1 i) (hc2 : cond0_2 i) (hc3 : cond0_3 i)
    (x0 : Vec F S1x512x1024 .bf16) (x1 : Vec F S1x512x128 .bf16) (x2 : Vec F S1x512x128 .bf16) (x3 : Vec F S1x512x8 .f32) (x4 : Vec F S1x8x512 .f32) (xs0 : Vec F S8x512x1 .f32) (xs1 : Vec F S8x512x1 .f32) (xs2 : Vec F S8x512x128 .f32) :
    Σ' (L5 : List (View.Piece (Elt F) S1x512x512 .f32)), Σ' (LS0 : List (View.Piece (Elt F) S8x512x1 .f32)), Σ' (LS1 : List (View.Piece (Elt F) S8x512x1 .f32)), { LS2 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_flash_fox i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_flash_fox_eq_skeleton]; unfold cc0_flash_fox_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Flash

end
-- ==== Proof.FoxRunE.lean ====
/-
  The flash body run at a point of case E.
-/
module

public import proofs.«01_k».proof.Proof.FoxBase

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a point of case E (a later key block, below the diagonal), on any whole staging buffers: it runs, and what it stores into each buffer is the list of pieces the run finds. -/
noncomputable def kernelRun0_E (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : ¬cond0_0 i) (hc1 : cond0_1 i) (hc2 : ¬cond0_2 i) (hc3 : ¬cond0_3 i)
    (x0 : Vec F S1x512x1024 .bf16) (x1 : Vec F S1x512x128 .bf16) (x2 : Vec F S1x512x128 .bf16) (x3 : Vec F S1x512x8 .f32) (x4 : Vec F S1x8x512 .f32) (x5 : Vec F S1x512x512 .f32) (xs0 : Vec F S8x512x1 .f32) (xs1 : Vec F S8x512x1 .f32) (xs2 : Vec F S8x512x128 .f32) :
    Σ' (LS0 : List (View.Piece (Elt F) S8x512x1 .f32)), Σ' (LS1 : List (View.Piece (Elt F) S8x512x1 .f32)), { LS2 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_flash_fox i arg3 harg3 arg4 harg4 arg5 harg5 arg6 harg6 arg7 harg7 arg8 harg8 arg9 harg9 arg10 harg10 arg11 harg11) K } := by
  refine ⟨?_, ?_, ?_, fun E K => ?run⟩
  case run =>
    simp only [cc0_flash_fox_eq_skeleton]; unfold cc0_flash_fox_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Flash

end
-- ==== Proof.FoxState.lean ====
/-
  What the flash body leaves in its scratch and output point by point.
-/
module

public import proofs.«01_k».proof.Proof.FoxRunA
public import proofs.«01_k».proof.Proof.FoxRunB
public import proofs.«01_k».proof.Proof.FoxRunC
public import proofs.«01_k».proof.Proof.FoxRunD
public import proofs.«01_k».proof.Proof.FoxRunE

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the three scratch buffers hold: the running maxima, the running sums, the accumulators. -/
abbrev St (F : FTy → Type) := Vec F S8x512x1 .f32 × Vec F S8x512x1 .f32 × Vec F S8x512x128 .f32

/-- Case A's run at point `t`, on the point's own buffers and blocks. -/
abbrev runA (c : Dev nD) (t : Fin cfg0.N) (h0 : t.val % 16 = 0) (h1 : ¬t.val % 16 + 1 ≤ t.val / 16 % 16) (h2 : t.val / 16 % 16 = t.val % 16) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) ((hcond0_3 t).mpr h2) (iblk m c 0 t) (iblk m c 1 t) (iblk m c 2 t) (iblk m c 3 t) (iblk m c 4 t)

/-- Case A's stores into scratch 0 leave no element of it out. -/
theorem scoverA_0 (c : Dev nD) (t : Fin cfg0.N) (h0 : t.val % 16 = 0) (h1 : ¬t.val % 16 + 1 ≤ t.val / 16 % 16) (h2 : t.val / 16 % 16 = t.val % 16) (y : S8x512x1.Idx) :
    ∃ pc ∈ (runA m c t h0 h1 h2).2.1, y ∈ pc.1.set :=
  View.cover_of_wholeMem (runA m c t h0 h1 h2).2.1 (by sl_whole_mem) y

/-- Case A's stores into scratch 1 leave no element of it out. -/
theorem scoverA_1 (c : Dev nD) (t : Fin cfg0.N) (h0 : t.val % 16 = 0) (h1 : ¬t.val % 16 + 1 ≤ t.val / 16 % 16) (h2 : t.val / 16 % 16 = t.val % 16) (y : S8x512x1.Idx) :
    ∃ pc ∈ (runA m c t h0 h1 h2).2.2.1, y ∈ pc.1.set :=
  View.cover_of_wholeMem (runA m c t h0 h1 h2).2.2.1 (by sl_whole_mem) y

/-- Case A's stores into scratch 2 leave no element of it out. -/
theorem scoverA_2 (c : Dev nD) (t : Fin cfg0.N) (h0 : t.val % 16 = 0) (h1 : ¬t.val % 16 + 1 ≤ t.val / 16 % 16) (h2 : t.val / 16 % 16 = t.val % 16) (y : S8x512x128.Idx) :
    ∃ pc ∈ (runA m c t h0 h1 h2).2.2.2.1, y ∈ pc.1.set :=
  View.cover_of_wholeMem (runA m c t h0 h1 h2).2.2.2.1 (by sl_whole_mem) y

/-- Case A's stores into the output block leave no element of it out. -/
theorem ocoverA (c : Dev nD) (t : Fin cfg0.N) (h0 : t.val % 16 = 0) (h1 : ¬t.val % 16 + 1 ≤ t.val / 16 % 16) (h2 : t.val / 16 % 16 = t.val % 16) (y : S1x512x512.Idx) :
    ∃ pc ∈ (runA m c t h0 h1 h2).1, y ∈ pc.1.set :=
  View.cover_of_tiledL (runA m c t h0 h1 h2).1 S1x512x64.size (by sl_kernel_rfl) y

/-- What case A leaves in the output block. -/
def outA (c : Dev nD) (t : Fin cfg0.N) (h0 : t.val % 16 = 0) (h1 : ¬t.val % 16 + 1 ≤ t.val / 16 % 16) (h2 : t.val / 16 % 16 = t.val % 16) : Vec F S1x512x512 .f32 :=
  (ms0_5 t).view.read (Elt F) ((ms0_5 t).view.writes (Elt F) (ms0_5 t).view.junk (runA m c t h0 h1 h2).1)

/-- What case A leaves in the scratch. -/
def stA (c : Dev nD) (t : Fin cfg0.N) (h0 : t.val % 16 = 0) (h1 : ¬t.val % 16 + 1 ≤ t.val / 16 % 16) (h2 : t.val / 16 % 16 = t.val % 16) : St F :=
  (VS0_0.read (Elt F) (VS0_0.writes (Elt F) VS0_0.junk (runA m c t h0 h1 h2).2.1),
    VS0_1.read (Elt F) (VS0_1.writes (Elt F) VS0_1.junk (runA m c t h0 h1 h2).2.2.1),
    VS0_2.read (Elt F) (VS0_2.writes (Elt F) VS0_2.junk (runA m c t h0 h1 h2).2.2.2.1))

/-- Case C's run at point `t`, on the point's own buffers and blocks. -/
abbrev runC (c : Dev nD) (t : Fin cfg0.N) (h0 : t.val % 16 = 0) (h1 : t.val % 16 + 1 ≤ t.val / 16 % 16) (h2 : ¬t.val / 16 % 16 = t.val % 16) (x5 : Vec F S1x512x512 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h2 ((hcond0_3 t).mp h)) (iblk m c 0 t) (iblk m c 1 t) (iblk m c 2 t) (iblk m c 3 t) (iblk m c 4 t) x5

/-- Case C's stores into scratch 0 leave no element of it out. -/
theorem scoverC_0 (c : Dev nD) (t : Fin cfg0.N) (h0 : t.val % 16 = 0) (h1 : t.val % 16 + 1 ≤ t.val / 16 % 16) (h2 : ¬t.val / 16 % 16 = t.val % 16) (x5 : Vec F S1x512x512 .f32) (y : S8x512x1.Idx) :
    ∃ pc ∈ (runC m c t h0 h1 h2 x5).1, y ∈ pc.1.set :=
  View.cover_of_wholeMem (runC m c t h0 h1 h2 x5).1 (by sl_whole_mem) y

/-- Case C's stores into scratch 1 leave no element of it out. -/
theorem scoverC_1 (c : Dev nD) (t : Fin cfg0.N) (h0 : t.val % 16 = 0) (h1 : t.val % 16 + 1 ≤ t.val / 16 % 16) (h2 : ¬t.val / 16 % 16 = t.val % 16) (x5 : Vec F S1x512x512 .f32) (y : S8x512x1.Idx) :
    ∃ pc ∈ (runC m c t h0 h1 h2 x5).2.1, y ∈ pc.1.set :=
  View.cover_of_wholeMem (runC m c t h0 h1 h2 x5).2.1 (by sl_whole_mem) y

/-- Case C's stores into scratch 2 leave no element of it out. -/
theorem scoverC_2 (c : Dev nD) (t : Fin cfg0.N) (h0 : t.val % 16 = 0) (h1 : t.val % 16 + 1 ≤ t.val / 16 % 16) (h2 : ¬t.val / 16 % 16 = t.val % 16) (x5 : Vec F S1x512x512 .f32) (y : S8x512x128.Idx) :
    ∃ pc ∈ (runC m c t h0 h1 h2 x5).2.2.1, y ∈ pc.1.set :=
  View.cover_of_wholeMem (runC m c t h0 h1 h2 x5).2.2.1 (by sl_whole_mem) y

/-- What case C leaves in the scratch. -/
def stC (c : Dev nD) (t : Fin cfg0.N) (h0 : t.val % 16 = 0) (h1 : t.val % 16 + 1 ≤ t.val / 16 % 16) (h2 : ¬t.val / 16 % 16 = t.val % 16) : St F :=
  (VS0_0.read (Elt F) (VS0_0.writes (Elt F) VS0_0.junk (runC m c t h0 h1 h2 (Pipeline.Dat.unnamed (cfg := cfg0) 5 t)).1),
    VS0_1.read (Elt F) (VS0_1.writes (Elt F) VS0_1.junk (runC m c t h0 h1 h2 (Pipeline.Dat.unnamed (cfg := cfg0) 5 t)).2.1),
    VS0_2.read (Elt F) (VS0_2.writes (Elt F) VS0_2.junk (runC m c t h0 h1 h2 (Pipeline.Dat.unnamed (cfg := cfg0) 5 t)).2.2.1))

/-- Case D's run at point `t`, on the point's own buffers and blocks. -/
abbrev runD (c : Dev nD) (t : Fin cfg0.N) (h0 : ¬t.val % 16 = 0) (h1 : ¬t.val % 16 + 1 ≤ t.val / 16 % 16) (h2 : t.val / 16 % 16 = t.val % 16) (s : St F) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h2) (iblk m c 0 t) (iblk m c 1 t) (iblk m c 2 t) (iblk m c 3 t) (iblk m c 4 t) s.1 s.2.1 s.2.2

/-- Case D's stores into scratch 0 leave no element of it out. -/
theorem scoverD_0 (c : Dev nD) (t : Fin cfg0.N) (h0 : ¬t.val % 16 = 0) (h1 : ¬t.val % 16 + 1 ≤ t.val / 16 % 16) (h2 : t.val / 16 % 16 = t.val % 16) (s : St F) (y : S8x512x1.Idx) :
    ∃ pc ∈ (runD m c t h0 h1 h2 s).2.1, y ∈ pc.1.set :=
  View.cover_of_tiledL (runD m c t h0 h1 h2 s).2.1 S1x512x1.size (by sl_kernel_rfl) y

/-- Case D's stores into scratch 1 leave no element of it out. -/
theorem scoverD_1 (c : Dev nD) (t : Fin cfg0.N) (h0 : ¬t.val % 16 = 0) (h1 : ¬t.val % 16 + 1 ≤ t.val / 16 % 16) (h2 : t.val / 16 % 16 = t.val % 16) (s : St F) (y : S8x512x1.Idx) :
    ∃ pc ∈ (runD m c t h0 h1 h2 s).2.2.1, y ∈ pc.1.set :=
  View.cover_of_tiledL (runD m c t h0 h1 h2 s).2.2.1 S1x512x1.size (by sl_kernel_rfl) y

/-- Case D's stores into scratch 2 leave no element of it out. -/
theorem scoverD_2 (c : Dev nD) (t : Fin cfg0.N) (h0 : ¬t.val % 16 = 0) (h1 : ¬t.val % 16 + 1 ≤ t.val / 16 % 16) (h2 : t.val / 16 % 16 = t.val % 16) (s : St F) (y : S8x512x128.Idx) :
    ∃ pc ∈ (runD m c t h0 h1 h2 s).2.2.2.1, y ∈ pc.1.set :=
  View.cover_of_tiledL (runD m c t h0 h1 h2 s).2.2.2.1 S1x512x128.size (by sl_kernel_rfl) y

/-- Case D's stores into the output block leave no element of it out. -/
theorem ocoverD (c : Dev nD) (t : Fin cfg0.N) (h0 : ¬t.val % 16 = 0) (h1 : ¬t.val % 16 + 1 ≤ t.val / 16 % 16) (h2 : t.val / 16 % 16 = t.val % 16) (s : St F) (y : S1x512x512.Idx) :
    ∃ pc ∈ (runD m c t h0 h1 h2 s).1, y ∈ pc.1.set :=
  View.cover_of_tiledL (runD m c t h0 h1 h2 s).1 S1x512x64.size (by sl_kernel_rfl) y

/-- What case D leaves in the output block. -/
def outD (c : Dev nD) (t : Fin cfg0.N) (h0 : ¬t.val % 16 = 0) (h1 : ¬t.val % 16 + 1 ≤ t.val / 16 % 16) (h2 : t.val / 16 % 16 = t.val % 16) (s : St F) : Vec F S1x512x512 .f32 :=
  (ms0_5 t).view.read (Elt F) ((ms0_5 t).view.writes (Elt F) (ms0_5 t).view.junk (runD m c t h0 h1 h2 s).1)

/-- What case D leaves in the scratch. -/
def stD (c : Dev nD) (t : Fin cfg0.N) (h0 : ¬t.val % 16 = 0) (h1 : ¬t.val % 16 + 1 ≤ t.val / 16 % 16) (h2 : t.val / 16 % 16 = t.val % 16) (s : St F) : St F :=
  (VS0_0.read (Elt F) (VS0_0.writes (Elt F) VS0_0.junk (runD m c t h0 h1 h2 s).2.1),
    VS0_1.read (Elt F) (VS0_1.writes (Elt F) VS0_1.junk (runD m c t h0 h1 h2 s).2.2.1),
    VS0_2.read (Elt F) (VS0_2.writes (Elt F) VS0_2.junk (runD m c t h0 h1 h2 s).2.2.2.1))

/-- Case E's run at point `t`, on the point's own buffers and blocks. -/
abbrev runE (c : Dev nD) (t : Fin cfg0.N) (h0 : ¬t.val % 16 = 0) (h1 : t.val % 16 + 1 ≤ t.val / 16 % 16) (h2 : ¬t.val / 16 % 16 = t.val % 16) (x5 : Vec F S1x512x512 .f32) (s : St F) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h2 ((hcond0_3 t).mp h)) (iblk m c 0 t) (iblk m c 1 t) (iblk m c 2 t) (iblk m c 3 t) (iblk m c 4 t) x5 s.1 s.2.1 s.2.2

/-- Case E's stores into scratch 0 leave no element of it out. -/
theorem scoverE_0 (c : Dev nD) (t : Fin cfg0.N) (h0 : ¬t.val % 16 = 0) (h1 : t.val % 16 + 1 ≤ t.val / 16 % 16) (h2 : ¬t.val / 16 % 16 = t.val % 16) (x5 : Vec F S1x512x512 .f32) (s : St F) (y : S8x512x1.Idx) :
    ∃ pc ∈ (runE m c t h0 h1 h2 x5 s).1, y ∈ pc.1.set :=
  View.cover_of_tiledL (runE m c t h0 h1 h2 x5 s).1 S1x512x1.size (by sl_kernel_rfl) y

/-- Case E's stores into scratch 1 leave no element of it out. -/
theorem scoverE_1 (c : Dev nD) (t : Fin cfg0.N) (h0 : ¬t.val % 16 = 0) (h1 : t.val % 16 + 1 ≤ t.val / 16 % 16) (h2 : ¬t.val / 16 % 16 = t.val % 16) (x5 : Vec F S1x512x512 .f32) (s : St F) (y : S8x512x1.Idx) :
    ∃ pc ∈ (runE m c t h0 h1 h2 x5 s).2.1, y ∈ pc.1.set :=
  View.cover_of_tiledL (runE m c t h0 h1 h2 x5 s).2.1 S1x512x1.size (by sl_kernel_rfl) y

/-- Case E's stores into scratch 2 leave no element of it out. -/
theorem scoverE_2 (c : Dev nD) (t : Fin cfg0.N) (h0 : ¬t.val % 16 = 0) (h1 : t.val % 16 + 1 ≤ t.val / 16 % 16) (h2 : ¬t.val / 16 % 16 = t.val % 16) (x5 : Vec F S1x512x512 .f32) (s : St F) (y : S8x512x128.Idx) :
    ∃ pc ∈ (runE m c t h0 h1 h2 x5 s).2.2.1, y ∈ pc.1.set :=
  View.cover_of_tiledL (runE m c t h0 h1 h2 x5 s).2.2.1 S1x512x128.size (by sl_kernel_rfl) y

/-- What case E leaves in the scratch. -/
def stE (c : Dev nD) (t : Fin cfg0.N) (h0 : ¬t.val % 16 = 0) (h1 : t.val % 16 + 1 ≤ t.val / 16 % 16) (h2 : ¬t.val / 16 % 16 = t.val % 16) (s : St F) : St F :=
  (VS0_0.read (Elt F) (VS0_0.writes (Elt F) VS0_0.junk (runE m c t h0 h1 h2 (Pipeline.Dat.unnamed (cfg := cfg0) 5 t) s).1),
    VS0_1.read (Elt F) (VS0_1.writes (Elt F) VS0_1.junk (runE m c t h0 h1 h2 (Pipeline.Dat.unnamed (cfg := cfg0) 5 t) s).2.1),
    VS0_2.read (Elt F) (VS0_2.writes (Elt F) VS0_2.junk (runE m c t h0 h1 h2 (Pipeline.Dat.unnamed (cfg := cfg0) 5 t) s).2.2.1))

/-- What the scratch holds after point `n`: at the first key block of a row the row starts afresh, at a later one up to the
    diagonal the block is folded in, past the diagonal nothing changes. -/
def stAt (c : Dev nD) : (n : ℕ) → n < cfg0.N → St F
  | 0, hn => stA m c ⟨0, hn⟩ (Nat.zero_mod 16) (by show ¬ 0 % 16 + 1 ≤ 0 / 16 % 16; omega) (by show 0 / 16 % 16 = 0 % 16; omega)
  | n + 1, hn =>
    if h0 : (n + 1) % 16 = 0 then
      if h1 : (n + 1) % 16 + 1 ≤ (n + 1) / 16 % 16 then stC m c ⟨n + 1, hn⟩ h0 h1 (by show ¬ (n + 1) / 16 % 16 = (n + 1) % 16; omega)
      else stA m c ⟨n + 1, hn⟩ h0 h1 (by show (n + 1) / 16 % 16 = (n + 1) % 16; omega)
    else
      if h1 : (n + 1) % 16 + 1 ≤ (n + 1) / 16 % 16 then
        stE m c ⟨n + 1, hn⟩ h0 h1 (by show ¬ (n + 1) / 16 % 16 = (n + 1) % 16; omega) (stAt c n (Nat.lt_of_succ_lt hn))
      else
        if h2 : (n + 1) / 16 % 16 = (n + 1) % 16 then stD m c ⟨n + 1, hn⟩ h0 h1 h2 (stAt c n (Nat.lt_of_succ_lt hn))
        else stAt c n (Nat.lt_of_succ_lt hn)

theorem stAt_succ (c : Dev nD) (n : ℕ) (hn : n + 1 < cfg0.N) : stAt m c (n + 1) hn =
    (if h0 : (n + 1) % 16 = 0 then
      if h1 : (n + 1) % 16 + 1 ≤ (n + 1) / 16 % 16 then stC m c ⟨n + 1, hn⟩ h0 h1 (by show ¬ (n + 1) / 16 % 16 = (n + 1) % 16; omega)
      else stA m c ⟨n + 1, hn⟩ h0 h1 (by show (n + 1) / 16 % 16 = (n + 1) % 16; omega)
    else
      if h1 : (n + 1) % 16 + 1 ≤ (n + 1) / 16 % 16 then
        stE m c ⟨n + 1, hn⟩ h0 h1 (by show ¬ (n + 1) / 16 % 16 = (n + 1) % 16; omega) (stAt m c n (Nat.lt_of_succ_lt hn))
      else
        if h2 : (n + 1) / 16 % 16 = (n + 1) % 16 then stD m c ⟨n + 1, hn⟩ h0 h1 h2 (stAt m c n (Nat.lt_of_succ_lt hn))
        else stAt m c n (Nat.lt_of_succ_lt hn)) := rfl

theorem stAt_A (c : Dev nD) (t : Fin cfg0.N) (h0 : t.val % 16 = 0) (h1 : ¬t.val % 16 + 1 ≤ t.val / 16 % 16) (h2 : t.val / 16 % 16 = t.val % 16) : stAt m c t.val t.isLt = stA m c t h0 h1 h2 := by
  obtain ⟨n, hn⟩ := t
  cases n with
  | zero => rfl
  | succ n => rw [stAt_succ]; exact (dif_pos h0).trans (dif_neg h1)

theorem stAt_C (c : Dev nD) (t : Fin cfg0.N) (h0 : t.val % 16 = 0) (h1 : t.val % 16 + 1 ≤ t.val / 16 % 16) (h2 : ¬t.val / 16 % 16 = t.val % 16) : stAt m c t.val t.isLt = stC m c t h0 h1 h2 := by
  obtain ⟨n, hn⟩ := t
  cases n with
  | zero => exfalso; simp at h1
  | succ n => rw [stAt_succ]; exact (dif_pos h0).trans (dif_pos h1)

theorem stAt_D (c : Dev nD) (t : Fin cfg0.N) (h0 : ¬t.val % 16 = 0) (h1 : ¬t.val % 16 + 1 ≤ t.val / 16 % 16) (h2 : t.val / 16 % 16 = t.val % 16) : stAt m c t.val t.isLt = stD m c t h0 h1 h2 (stAt m c (t.val - 1) (lt_of_le_of_lt (Nat.sub_le _ _) t.isLt)) := by
  obtain ⟨n, hn⟩ := t
  cases n with
  | zero => exact absurd rfl h0
  | succ n =>
    rw [stAt_succ]
    refine Eq.trans ((dif_neg h0).trans ((dif_neg h1).trans (dif_pos h2))) ?_
    rfl

theorem stAt_E (c : Dev nD) (t : Fin cfg0.N) (h0 : ¬t.val % 16 = 0) (h1 : t.val % 16 + 1 ≤ t.val / 16 % 16) (h2 : ¬t.val / 16 % 16 = t.val % 16) : stAt m c t.val t.isLt = stE m c t h0 h1 h2 (stAt m c (t.val - 1) (lt_of_le_of_lt (Nat.sub_le _ _) t.isLt)) := by
  obtain ⟨n, hn⟩ := t
  cases n with
  | zero => exact absurd rfl h0
  | succ n =>
    rw [stAt_succ]
    refine Eq.trans ((dif_neg h0).trans (dif_pos h1)) ?_
    rfl

theorem stAt_B (c : Dev nD) (t : Fin cfg0.N) (h0 : ¬t.val % 16 = 0) (h1 : ¬t.val % 16 + 1 ≤ t.val / 16 % 16) (h2 : ¬t.val / 16 % 16 = t.val % 16) : stAt m c t.val t.isLt = stAt m c (t.val - 1) (lt_of_le_of_lt (Nat.sub_le _ _) t.isLt) := by
  obtain ⟨n, hn⟩ := t
  cases n with
  | zero => exact absurd rfl h0
  | succ n =>
    rw [stAt_succ]
    refine Eq.trans ((dif_neg h0).trans ((dif_neg h1).trans (dif_neg h2))) ?_
    rfl

/-- The point on the diagonal of `t`'s row of points. -/
def diag (t : Fin cfg0.N) : Fin cfg0.N := ⟨t.val / 16 * 16 + t.val / 16 % 16, by
  have h : t.val < 1024 := lt_of_lt_of_eq t.isLt (show cfg0.N = 1024 from N_0)
  exact lt_of_lt_of_eq (show t.val / 16 * 16 + t.val / 16 % 16 < 1024 by omega) (show cfg0.N = 1024 from N_0).symm⟩

/-- What a point on the diagonal leaves in the output block (at another point, anything). -/
def outBlk (c : Dev nD) (t : Fin cfg0.N) : Vec F S1x512x512 .f32 :=
  if h2 : t.val / 16 % 16 = t.val % 16 then
    if h0 : t.val % 16 = 0 then outA m c t h0 (by omega) h2
    else outD m c t h0 (by omega) h2 (stAt m c (t.val - 1) (lt_of_le_of_lt (Nat.sub_le _ _) t.isLt))
  else Pipeline.Dat.unnamed (cfg := cfg0) 5 t

end Cert.KernelIdeal.Flash

end
-- ==== Proof.FoxStep.lean ====
/-
  One head's step of the online softmax as the kernel computes it on a block of keys, and its quotient at the end.
-/
module

public import proofs.«01_k».proof.Proof.FoxState

@[expose] public section

set_option maxRecDepth 16384

noncomputable section

namespace Cert.KernelIdeal.Flash

open Cert.KernelIdeal.Gen Cert.KernelIdeal.Facts
open Idealize.ShloMosaic Idealize.ShloMosaic.TcCoe

variable {F : FTy → Type} [FloatOps F] [Named F]

/-- The scores of a block of queries against a block of keys, with the decay between their places. -/
def scores (q k : Vec F S1x512x128 .bf16) (cq : Vec F S1x512x1 .f32) (ck : Vec F S1x1x512 .f32) : FVec F S512x512 .f32 :=
  addf (matmul dot_S512x128_S512x128_S512x512_1_1_0_0_n_n none (shapeCast S512x128 q shapeCasts_S1x512x128_S512x128) (shapeCast S512x128 k shapeCasts_S1x512x128_S512x128) (constant S512x512 .f32 0x00000000#32))
    (subf (broadcastTo S512x512 (shapeCast S512x1 cq shapeCasts_S1x512x1_S512x1) broadcasts_S512x1_S512x512) (broadcastTo S512x512 (shapeCast S1x512 ck shapeCasts_S1x1x512_S1x512) broadcasts_S1x512_S512x512))

/-- Keys not after the query, at query block `a` and key block `b`. -/
def causal (a b : BitVec 32) : IVec S512x512 1 :=
  cmpi .sge (subi (addi (broadcast S512x512 (Scalar.muli a 512#32)) (iota .tc S512x512 32 [0] iota_S512x512_d0_w32)) (addi (broadcast S512x512 (Scalar.muli b 512#32)) (iota .tc S512x512 32 [1] iota_S512x512_d1_w32))) (broadcast S512x512 0#32)

/-- The scores with the keys after the query masked out. -/
def masked (a b : BitVec 32) (s : FVec F S512x512 .f32) : FVec F S512x512 .f32 :=
  select (causal a b) s (broadcast S512x512 (Named.named κ "mask" 0xF149F2CA#32))

/-- The running maximum after the block. -/
def newMax (s : FVec F S512x512 .f32) (mp : Vec F S1x512x1 .f32) : FVec F S512x1 .f32 :=
  maximumf (shapeCast S512x1 mp shapeCasts_S1x512x1_S512x1) (shapeCast S512x1 (multiReduction .maximumf [1] S512 s 0xFF800000#32 reduces_S512x512_S512 (.inl rfl) rfl) shapeCasts_S512_S512x1)

/-- The factor the sums so far are rescaled by. -/
def rescale (s : FVec F S512x512 .f32) (mp : Vec F S1x512x1 .f32) : FVec F S512x1 .f32 :=
  exp (subf (shapeCast S512x1 mp shapeCasts_S1x512x1_S512x1) (newMax s mp))

/-- The block's weights. -/
def weights (s : FVec F S512x512 .f32) (mp : Vec F S1x512x1 .f32) : FVec F S512x512 .bf16 :=
  truncf .bf16 (exp (subf s (broadcastTo S512x512 (newMax s mp) broadcasts_S512x1_S512x512))) bitsLt_bf16_f32

/-- The running sum after the block. -/
def newSum (s : FVec F S512x512 .f32) (mp lp : Vec F S1x512x1 .f32) : FVec F S512x1 .f32 :=
  addf (mulf (rescale s mp) (shapeCast S512x1 lp shapeCasts_S1x512x1_S512x1))
    (extractStridedSlice S512x1 ![0, 0] (matmul dot_S512x512_S512x128_S512x128_1_0_0_1_n_n none (weights s mp) (broadcast S512x128 (Scalar.ofBits .bf16 0x3F80#16)) (constant S512x128 .f32 0x00000000#32)) slices_S512x128_o0_0_S512x1)

/-- The running weighted sum after the block. -/
def newAcc (s : FVec F S512x512 .f32) (mp : Vec F S1x512x1 .f32) (ap : Vec F S1x512x128 .f32) (v : Vec F S1x512x128 .bf16) : FVec F S512x128 .f32 :=
  addf (mulf (broadcastTo S512x128 (rescale s mp) broadcasts_S512x1_S512x128) (shapeCast S512x128 ap shapeCasts_S1x512x128_S512x128))
    (matmul dot_S512x512_S512x128_S512x128_1_0_0_1_n_n none (weights s mp) (shapeCast S512x128 v shapeCasts_S1x512x128_S512x128) (constant S512x128 .f32 0x00000000#32))

end Cert.KernelIdeal.Flash

end
-- ==== Proof.FoxRects.lean ====
/-
  The rectangles of the eight heads, and the lists of eight stores the body leaves.
-/
module

public import proofs.«01_k».proof.Proof.FoxStep

@[expose] public section

set_option maxRecDepth 16384

noncomputable section

namespace Cert.KernelIdeal.Flash

open Cert.KernelIdeal.Gen Cert.KernelIdeal.Facts
open Idealize.ShloMosaic Idealize.ShloMosaic.TcCoe

variable {F : FTy → Type} [FloatOps F] [Named F]

theorem inbM (n : ℕ) (h : n < 8) : ∀ a, (![n, 0, 0] : Fin 3 → ℕ) a + S1x512x1.size a ≤ S8x512x1.size a := by
  intro a; fin_cases a <;> simp [S8x512x1, S1x512x1] <;> omega

/-- Head `n`'s part. -/
abbrev rM (n : ℕ) (h : n < 8) : Rect S8x512x1 := Rect.unit ![n, 0, 0] S1x512x1.size (inbM n h)

theorem inbA (n : ℕ) (h : n < 8) : ∀ a, (![n, 0, 0] : Fin 3 → ℕ) a + S1x512x128.size a ≤ S8x512x128.size a := by
  intro a; fin_cases a <;> simp [S8x512x128, S1x512x128] <;> omega

/-- Head `n`'s part. -/
abbrev rA (n : ℕ) (h : n < 8) : Rect S8x512x128 := Rect.unit ![n, 0, 0] S1x512x128.size (inbA n h)

theorem inbQ (n : ℕ) (h : n < 8) : ∀ a, (![0, 0, 128 * n] : Fin 3 → ℕ) a + S1x512x128.size a ≤ S1x512x1024.size a := by
  intro a; fin_cases a <;> simp [S1x512x1024, S1x512x128] <;> omega

/-- Head `n`'s part. -/
abbrev rQ (n : ℕ) (h : n < 8) : Rect S1x512x1024 := Rect.unit ![0, 0, 128 * n] S1x512x128.size (inbQ n h)

theorem inbO (n : ℕ) (h : n < 8) : ∀ a, (![0, 0, 64 * n] : Fin 3 → ℕ) a + S1x512x64.size a ≤ S1x512x512.size a := by
  intro a; fin_cases a <;> simp [S1x512x512, S1x512x64] <;> omega

/-- Head `n`'s part. -/
abbrev rO (n : ℕ) (h : n < 8) : Rect S1x512x512 := Rect.unit ![0, 0, 64 * n] S1x512x64.size (inbO n h)

theorem inbC (n : ℕ) (h : n < 8) : ∀ a, (![0, 0, n] : Fin 3 → ℕ) a + S1x512x1.size a ≤ S1x512x8.size a := by
  intro a; fin_cases a <;> simp [S1x512x8, S1x512x1] <;> omega

/-- Head `n`'s part. -/
abbrev rC (n : ℕ) (h : n < 8) : Rect S1x512x8 := Rect.unit ![0, 0, n] S1x512x1.size (inbC n h)

theorem inbK (n : ℕ) (h : n < 8) : ∀ a, (![0, n, 0] : Fin 3 → ℕ) a + S1x1x512.size a ≤ S1x8x512.size a := by
  intro a; fin_cases a <;> simp [S1x8x512, S1x1x512] <;> omega

/-- Head `n`'s part. -/
abbrev rK (n : ℕ) (h : n < 8) : Rect S1x8x512 := Rect.unit ![0, n, 0] S1x1x512.size (inbK n h)

/-- Eight stores, one a head, last first, after the stores `L`. -/
def tilesM (P : (n : ℕ) → n < 8 → Vec F S1x512x1 .f32) (L : List (View.Piece (Elt F) S8x512x1 .f32)) : List (View.Piece (Elt F) S8x512x1 .f32) :=
  ⟨rM 7 (by decide), P 7 (by decide)⟩ :: ⟨rM 6 (by decide), P 6 (by decide)⟩ :: ⟨rM 5 (by decide), P 5 (by decide)⟩ :: ⟨rM 4 (by decide), P 4 (by decide)⟩ :: ⟨rM 3 (by decide), P 3 (by decide)⟩ :: ⟨rM 2 (by decide), P 2 (by decide)⟩ :: ⟨rM 1 (by decide), P 1 (by decide)⟩ :: ⟨rM 0 (by decide), P 0 (by decide)⟩ :: L

/-- Eight stores, one a head, last first, after the stores `L`. -/
def tilesA (P : (n : ℕ) → n < 8 → Vec F S1x512x128 .f32) (L : List (View.Piece (Elt F) S8x512x128 .f32)) : List (View.Piece (Elt F) S8x512x128 .f32) :=
  ⟨rA 7 (by decide), P 7 (by decide)⟩ :: ⟨rA 6 (by decide), P 6 (by decide)⟩ :: ⟨rA 5 (by decide), P 5 (by decide)⟩ :: ⟨rA 4 (by decide), P 4 (by decide)⟩ :: ⟨rA 3 (by decide), P 3 (by decide)⟩ :: ⟨rA 2 (by decide), P 2 (by decide)⟩ :: ⟨rA 1 (by decide), P 1 (by decide)⟩ :: ⟨rA 0 (by decide), P 0 (by decide)⟩ :: L

/-- Eight stores, one a head, last first, after the stores `L`. -/
def tilesO (P : (n : ℕ) → n < 8 → Vec F S1x512x64 .f32) (L : List (View.Piece (Elt F) S1x512x512 .f32)) : List (View.Piece (Elt F) S1x512x512 .f32) :=
  ⟨rO 7 (by decide), P 7 (by decide)⟩ :: ⟨rO 6 (by decide), P 6 (by decide)⟩ :: ⟨rO 5 (by decide), P 5 (by decide)⟩ :: ⟨rO 4 (by decide), P 4 (by decide)⟩ :: ⟨rO 3 (by decide), P 3 (by decide)⟩ :: ⟨rO 2 (by decide), P 2 (by decide)⟩ :: ⟨rO 1 (by decide), P 1 (by decide)⟩ :: ⟨rO 0 (by decide), P 0 (by decide)⟩ :: L

/-- The whole of the block of keys or of values. -/
abbrev rW : Rect S1x512x128 := Rect.unit ![0, 0, 0] S1x512x128.size inb_S1x512x128_S1x512x128_0_0_0

theorem sliceO (n : ℕ) (h : n < 8) : S512x128.Slices ![0, 64 * (n / 4)] S512x64 := by
  rcases (by omega : n / 4 = 0 ∨ n / 4 = 1) with e | e <;> rw [e]
  · exact slices_S512x128_o0_0_S512x64
  · exact slices_S512x128_o0_64_S512x64

end Cert.KernelIdeal.Flash

end
-- ==== Proof.Online.lean ====
/-
  The running softmax of one row, over the reals: what is kept after `n` keys, and what one block of keys does to it.
-/
module

public import Idealize.ShloMosaic.Lib.Pipeline.ValueKit

@[expose] public section

set_option maxRecDepth 16384

noncomputable section

namespace Cert.Attn

open Idealize.ShloMosaic

theorem exp_bot : Ideal.exp ⊥ = 0 := rfl
theorem exp_coe (x : ℝ) : Ideal.exp (x : EReal) = ((Real.exp x : ℝ) : EReal) := rfl

/-- Minus infinity's bit pattern. -/
theorem ofBits_neg_inf : Ideal.ofBits FTy.f32 0xFF800000#32 = ⊥ := by
  simp [Ideal.ofBits, Ideal.ieee]

/-- Plus infinity's bit pattern. -/
theorem ofBits_inf : Ideal.ofBits FTy.f32 0x7F800000#32 = ⊤ := by
  simp [Ideal.ofBits, Ideal.ieee]

/-- The sum of finitely many reals, as an extended real. -/
theorem coe_sum {ι : Type*} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

/-- An extended real that is neither infinity is a real. -/
theorem exists_real {x : EReal} (h : x ≠ ⊤) (h' : x ≠ ⊥) : ∃ r : ℝ, x = (r : EReal) :=
  ⟨x.toReal, (EReal.coe_toReal h h').symm⟩

/-- The largest of some numbers, one of them real and none plus infinity, is real. -/
theorem max_real {ι : Type*} (s : Finset ι) (f : ι → EReal) (M : EReal) (hM : M ≠ ⊤) (hf : ∀ x ∈ s, f x ≠ ⊤)
    (he : M ≠ ⊥ ∨ ∃ x ∈ s, f x ≠ ⊥) : ∃ μ : ℝ, max M (s.fold max ⊥ f) = (μ : EReal) := by
  apply exists_real
  · rw [← lt_top_iff_ne_top, max_lt_iff, Finset.fold_max_lt]
    exact ⟨lt_top_iff_ne_top.mpr hM, bot_lt_top, fun x hx => lt_top_iff_ne_top.mpr (hf x hx)⟩
  · rw [← bot_lt_iff_ne_bot, lt_max_iff]
    rcases he with h | ⟨x, hx, h⟩
    · exact Or.inl (bot_lt_iff_ne_bot.mpr h)
    · exact Or.inr (lt_of_lt_of_le (bot_lt_iff_ne_bot.mpr h) ((Finset.le_fold_max _).mpr (Or.inr ⟨x, hx, le_rfl⟩)))

/-- What is kept of a row after `n` keys with scores `s` and values `v`: some level `μ`, the sum of the weights against it, and
    the weighted sums of the values; before any key, minus infinity and zeros. -/
def Kept {D : Type*} (n : ℕ) (s : ℕ → ℝ) (v : ℕ → D → ℝ) (M L : EReal) (A : D → EReal) : Prop :=
  (n = 0 ∧ M = ⊥ ∧ L = 0 ∧ ∀ d, A d = 0) ∨
    ∃ μ : ℝ, M = (μ : EReal) ∧ L = ((∑ k ∈ Finset.range n, Real.exp (s k - μ) : ℝ) : EReal) ∧
      ∀ d, A d = ((∑ k ∈ Finset.range n, Real.exp (s k - μ) * v k d : ℝ) : EReal)

/-- A block whose first `w` scores are read and the rest minus infinity adds, weighted, the first `w`. -/
theorem sum_block (B n w : ℕ) (hw : w ≤ B) (s g : ℕ → ℝ) (μ : ℝ) (sb vb : Fin B → EReal)
    (hs : ∀ x : Fin B, sb x = if x.val < w then ((s (n + x.val) : ℝ) : EReal) else ⊥)
    (hv : ∀ x : Fin B, vb x = ((g (n + x.val) : ℝ) : EReal)) :
    ∑ x, Ideal.exp (sb x - (μ : EReal)) * vb x = ((∑ k ∈ Finset.range w, Real.exp (s (n + k) - μ) * g (n + k) : ℝ) : EReal) := by
  have e : ∀ x : Fin B, Ideal.exp (sb x - (μ : EReal)) * vb x =
      (((if x.val < w then Real.exp (s (n + x.val) - μ) * g (n + x.val) else 0) : ℝ) : EReal) := by
    intro x
    rw [hs, hv]
    split
    · rw [← EReal.coe_sub, exp_coe, ← EReal.coe_mul]
    · rw [EReal.bot_sub, exp_bot, zero_mul]; rfl
  rw [Finset.sum_congr rfl fun x _ => e x, coe_sum]
  congr 1
  rw [Fin.sum_univ_eq_sum_range (fun k => if k < w then Real.exp (s (n + k) - μ) * g (n + k) else 0) B, ← Finset.sum_filter]
  refine Finset.sum_congr ?_ fun _ _ => rfl
  ext k; simp; omega

/-- One block of keys: what is kept after `n` keys becomes what is kept after `n + w`. -/
theorem Kept.step {D : Type*} {n : ℕ} {s : ℕ → ℝ} {v : ℕ → D → ℝ} {M L : EReal} {A : D → EReal} (h : Kept n s v M L A)
    (B w : ℕ) (hw : w ≤ B) (hw0 : 0 < w) (sb : Fin B → EReal) (vb : Fin B → D → EReal)
    (hs : ∀ x : Fin B, sb x = if x.val < w then ((s (n + x.val) : ℝ) : EReal) else ⊥)
    (hv : ∀ x d, vb x d = ((v (n + x.val) d : ℝ) : EReal))
    {M' L' : EReal} {A' : D → EReal}
    (hM : M' = max M (Finset.univ.fold max ⊥ sb))
    (hL : L' = Ideal.exp (M - M') * L + ∑ x, Ideal.exp (sb x - M'))
    (hA : ∀ d, A' d = Ideal.exp (M - M') * A d + ∑ x, Ideal.exp (sb x - M') * vb x d) :
    Kept (n + w) s v M' L' A' := by
  have hMt : M ≠ ⊤ := by
    rcases h with ⟨_, rfl, _⟩ | ⟨μ, rfl, _⟩
    · exact bot_ne_top
    · exact EReal.coe_ne_top _
  obtain ⟨μ', hμ'⟩ := max_real Finset.univ sb M hMt
    (fun x _ => by rw [hs]; split; exacts [EReal.coe_ne_top _, bot_ne_top])
    (Or.inr ⟨⟨0, by omega⟩, Finset.mem_univ _, by rw [hs, if_pos hw0]; exact EReal.coe_ne_bot _⟩)
  rw [hμ'] at hM
  subst hM
  have eL : ∑ x, Ideal.exp (sb x - (μ' : EReal)) = ((∑ k ∈ Finset.range w, Real.exp (s (n + k) - μ') : ℝ) : EReal) := by
    have := sum_block B n w hw s (fun _ => 1) μ' sb (fun _ => 1) hs (fun _ => by simp)
    simpa using this
  have eA : ∀ d, ∑ x, Ideal.exp (sb x - (μ' : EReal)) * vb x d =
      ((∑ k ∈ Finset.range w, Real.exp (s (n + k) - μ') * v (n + k) d : ℝ) : EReal) := fun d =>
    sum_block B n w hw s (fun k => v k d) μ' sb (fun x => vb x d) hs (fun x => hv x d)
  refine Or.inr ⟨μ', rfl, ?_, fun d => ?_⟩
  · rw [hL, eL, Finset.sum_range_add]
    rcases h with ⟨rfl, rfl, rfl, _⟩ | ⟨μ, rfl, rfl, _⟩
    · simp
    · rw [← EReal.coe_sub, exp_coe, ← EReal.coe_mul, ← EReal.coe_add, Finset.mul_sum]
      congr 2
      refine Finset.sum_congr rfl fun k _ => ?_
      rw [← Real.exp_add]; congr 1; ring
  · rw [hA, eA, Finset.sum_range_add]
    rcases h with ⟨rfl, rfl, _, h0⟩ | ⟨μ, rfl, _, h1⟩
    · simp [h0]
    · rw [h1, ← EReal.coe_sub, exp_coe, ← EReal.coe_mul, ← EReal.coe_add, Finset.mul_sum]
      congr 2
      refine Finset.sum_congr rfl fun k _ => ?_
      rw [← mul_assoc, ← Real.exp_add]; congr 2; ring

/-- The softmax average of the values of the first `n` keys. -/
def soft (n : ℕ) (s g : ℕ → ℝ) : ℝ :=
  (∑ k ∈ Finset.range n, Real.exp (s k) * g k) / ∑ k ∈ Finset.range n, Real.exp (s k)

theorem soft_congr {n : ℕ} {s s' g g' : ℕ → ℝ} (h : ∀ k < n, s k = s' k) (h' : ∀ k < n, g k = g' k) :
    soft n s g = soft n s' g' := by
  unfold soft
  have e : ∀ k ∈ Finset.range n, Real.exp (s k) = Real.exp (s' k) := fun k hk => by rw [h k (Finset.mem_range.mp hk)]
  have e' : ∀ k ∈ Finset.range n, Real.exp (s k) * g k = Real.exp (s' k) * g' k := fun k hk => by
    rw [e k hk, h' k (Finset.mem_range.mp hk)]
  rw [Finset.sum_congr rfl e, Finset.sum_congr rfl e']

/-- The average does not depend on the level the weights are taken against. -/
theorem soft_shift (n : ℕ) (s g : ℕ → ℝ) (μ : ℝ) :
    (∑ k ∈ Finset.range n, Real.exp (s k - μ) * g k) / ∑ k ∈ Finset.range n, Real.exp (s k - μ) = soft n s g := by
  have e : ∀ k, Real.exp (s k - μ) = Real.exp (-μ) * Real.exp (s k) := fun k => by rw [← Real.exp_add]; congr 1; ring
  simp only [e, mul_assoc, ← Finset.mul_sum]
  rw [mul_div_mul_left _ _ (Real.exp_pos _).ne']
  rfl

theorem sum_exp_pos {n : ℕ} (hn : 0 < n) (s : ℕ → ℝ) (μ : ℝ) : 0 < ∑ k ∈ Finset.range n, Real.exp (s k - μ) :=
  Finset.sum_pos (fun _ _ => Real.exp_pos _) (Finset.nonempty_range_iff.mpr hn.ne')

/-- What the row's division gives. -/
theorem Kept.div {D : Type*} {n : ℕ} {s : ℕ → ℝ} {v : ℕ → D → ℝ} {M L : EReal} {A : D → EReal} (h : Kept n s v M L A)
    (hn : 0 < n) (d : D) : Ideal.div (A d) L = ((soft n s fun k => v k d : ℝ) : EReal) := by
  rcases h with ⟨rfl, _⟩ | ⟨μ, _, rfl, h1⟩
  · exact absurd hn (lt_irrefl 0)
  · rw [h1, Ideal.div_coe (sum_exp_pos hn s μ).ne', ← EReal.coe_mul, mul_one_div, soft_shift]

/-- The masked softmax in one piece: weights against the row's maximum, divided by their sum (or by a small number if that is larger),
    then the weighted values. -/
theorem soft_direct {B n : ℕ} (hn : 0 < n) (hB : n ≤ B) (s g : ℕ → ℝ) (lo : ℝ) (hlo0 : 0 < lo) (hlo : lo ≤ 1) (sb : Fin B → EReal)
    (hs : ∀ x : Fin B, sb x = if x.val < n then ((s x.val : ℝ) : EReal) else ⊥)
    (m : EReal) (hm : m = Finset.univ.fold max ⊥ sb) (p : Fin B → EReal)
    (hp : ∀ x : Fin B, p x = if x.val < n then Ideal.exp (sb x - m) else 0)
    (vb : Fin B → EReal) (hv : ∀ x : Fin B, vb x = ((g x.val : ℝ) : EReal)) :
    ∑ x, Ideal.div (p x) (max (∑ y, p y) (lo : EReal)) * vb x = ((soft n s g : ℝ) : EReal) := by
  obtain ⟨μ, hμ⟩ := max_real Finset.univ sb ⊥ bot_ne_top
    (fun x _ => by rw [hs]; split; exacts [EReal.coe_ne_top _, bot_ne_top])
    (Or.inr ⟨⟨0, by omega⟩, Finset.mem_univ _, by rw [hs, if_pos hn]; exact EReal.coe_ne_bot _⟩)
  rw [max_eq_right bot_le, ← hm] at hμ
  subst hμ
  have hp' : ∀ x : Fin B, p x = (((if x.val < n then Real.exp (s x.val - μ) else 0) : ℝ) : EReal) := by
    intro x; rw [hp, hs]
    split
    · rw [← EReal.coe_sub, exp_coe]
    · rfl
  have hr : ∀ (f : ℕ → ℝ), (∑ x : Fin B, if x.val < n then f x.val else 0) = ∑ k ∈ Finset.range n, f k := by
    intro f
    rw [Fin.sum_univ_eq_sum_range (fun k => if k < n then f k else 0) B, ← Finset.sum_filter]
    refine Finset.sum_congr ?_ fun _ _ => rfl
    ext k; simp; omega
  have hsum : ∑ y, p y = ((∑ k ∈ Finset.range n, Real.exp (s k - μ) : ℝ) : EReal) := by
    rw [Finset.sum_congr rfl fun x _ => hp' x, coe_sum, hr fun k => Real.exp (s k - μ)]
  have h1 : 1 ≤ ∑ k ∈ Finset.range n, Real.exp (s k - μ) := by
    have hle : (Finset.univ.fold max ⊥ sb) ≤ Finset.univ.fold max ⊥ sb := le_rfl
    rw [Finset.le_fold_max] at hle
    rw [← hm] at hle
    rcases hle with h | ⟨x, _, h⟩
    · exact absurd (le_bot_iff.mp h) (EReal.coe_ne_bot μ)
    · rw [hs] at h
      split at h
      case isTrue hx =>
        have h' : μ ≤ s x.val := by exact_mod_cast h
        refine le_trans ?_ (Finset.single_le_sum (f := fun k => Real.exp (s k - μ)) (fun k _ => (Real.exp_pos _).le) (Finset.mem_range.mpr hx))
        exact Real.one_le_exp (by linarith)
      case isFalse => exact absurd (le_bot_iff.mp h) (EReal.coe_ne_bot μ)
  have hmax : max (∑ y, p y) (lo : EReal) = ((∑ k ∈ Finset.range n, Real.exp (s k - μ) : ℝ) : EReal) := by
    rw [hsum, max_eq_left]; exact_mod_cast hlo.trans h1
  rw [hmax]
  have e : ∀ x : Fin B, Ideal.div (p x) ((∑ k ∈ Finset.range n, Real.exp (s k - μ) : ℝ) : EReal) * vb x =
      (((if x.val < n then Real.exp (s x.val - μ) * g x.val / ∑ k ∈ Finset.range n, Real.exp (s k - μ) else 0) : ℝ) : EReal) := by
    intro x
    rw [hp', hv, Ideal.div_coe (by linarith), ← EReal.coe_mul, ← EReal.coe_mul]
    congr 1
    split
    · ring
    · ring
  rw [Finset.sum_congr rfl fun x _ => e x, coe_sum,
    hr fun k => Real.exp (s k - μ) * g k / ∑ k ∈ Finset.range n, Real.exp (s k - μ), ← Finset.sum_div, soft_shift]

/-- The causal comparison of a row and a column of a block on the diagonal. -/
theorem sge_word (i r j : ℕ) (hi : i < 16) (hr : r < 512) (hj : j < 512) :
    IntOp.cmpi CmpIPredicate.sge (IntOp.subi (IntOp.addi (Scalar.muli (BitVec.ofNat 32 i) 512#32) (BitVec.ofNat 32 r)) (IntOp.addi (Scalar.muli (BitVec.ofNat 32 i) 512#32) (BitVec.ofNat 32 j))) 0#32 =
      BitVec.ofBool (decide (j ≤ r)) := by
  simp only [IntOp.cmpi, IntOp.subi, IntOp.addi, Scalar.muli, IntOp.muli]
  have hn : ∀ n : ℕ, n < 512 → (BitVec.ofNat 32 n).toInt = n := by
    intro n h
    rw [BitVec.toInt_eq_toNat_bmod, BitVec.toNat_ofNat, Int.bmod_def]
    norm_num
    omega
  generalize BitVec.ofNat 32 i * 512#32 = X
  have e : X + BitVec.ofNat 32 r - (X + BitVec.ofNat 32 j) = BitVec.ofNat 32 r - BitVec.ofNat 32 j := by
    apply BitVec.eq_of_toNat_eq
    have hX := X.isLt
    simp only [BitVec.toNat_sub, BitVec.toNat_add, BitVec.toNat_ofNat]
    norm_num at hX ⊢
    omega
  rw [e]
  congr 1
  rw [BitVec.sle_eq_decide, BitVec.toInt_sub, hn r hr, hn j hj, Int.bmod_def]
  congr 1
  norm_num
  constructor <;> intro h <;> omega

end Cert.Attn

end
-- ==== Proof.FoxTiles.lean ====
/-
  Reading back eight stores, one a head.
-/
module

public import proofs.«01_k».proof.Proof.FoxRects
public import proofs.«01_k».proof.Proof.Online

@[expose] public section

set_option maxRecDepth 16384

noncomputable section

namespace Cert.KernelIdeal.Flash

open Cert.KernelIdeal.Gen Cert.KernelIdeal.Facts
open Idealize.ShloMosaic Idealize.ShloMosaic.TcCoe

variable {F : FTy → Type} [FloatOps F] [Named F]

theorem not_mem_rM (k : ℕ) (hk : k < 8) (n : Fin 8) (r : Fin 512) (h : n.val ≠ k) : (ix3 n r 0 : S8x512x1.Idx) ∉ (rM k hk).set := by
  rw [Rect.mem_set_unit]
  intro h'
  have := h' 0
  change k ≤ n.val ∧ n.val < k + 1 at this
  omega

theorem emb_rM (n : Fin 8) (r : Fin 512) : (rM n.val n.isLt).emb (ix3 0 r 0 : S1x512x1.Idx) = (ix3 n r 0 : S8x512x1.Idx) := by
  funext a; apply Fin.ext
  rw [Rect.emb_apply]
  fin_cases a <;> simp [Rect.unit]

theorem canon_rM (P : (n : ℕ) → n < 8 → Vec F S1x512x1 .f32) (k : ℕ) (hk : k < 8) (L : List (View.Piece (Elt F) S8x512x1 .f32)) (n : Fin 8) (r : Fin 512)
    (h : n.val ≠ k → View.canon L (ix3 n r 0) = P n.val n.isLt (ix3 0 r 0)) :
    View.canon (⟨rM k hk, P k hk⟩ :: L) (ix3 n r 0) = P n.val n.isLt (ix3 0 r 0) := by
  by_cases e : n.val = k
  · subst e
    rw [← emb_rM n r]
    exact View.canon_cons_emb (rM n.val n.isLt) (P n.val n.isLt) L (ix3 0 r 0)
  · exact (View.canon_cons_of_not_mem ⟨rM k hk, P k hk⟩ L (not_mem_rM k hk n r e)).trans (h e)

theorem canon_tilesM (P : (n : ℕ) → n < 8 → Vec F S1x512x1 .f32) (L : List (View.Piece (Elt F) S8x512x1 .f32)) (n : Fin 8) (r : Fin 512) :
    View.canon (tilesM P L) (ix3 n r 0) = P n.val n.isLt (ix3 0 r 0) :=
  canon_rM P 7 _ _ n r fun h7 =>
  canon_rM P 6 _ _ n r fun h6 =>
  canon_rM P 5 _ _ n r fun h5 =>
  canon_rM P 4 _ _ n r fun h4 =>
  canon_rM P 3 _ _ n r fun h3 =>
  canon_rM P 2 _ _ n r fun h2 =>
  canon_rM P 1 _ _ n r fun h1 =>
  canon_rM P 0 _ _ n r fun h0 =>
  absurd n.isLt (by omega)

theorem not_mem_rA (k : ℕ) (hk : k < 8) (n : Fin 8) (r : Fin 512) (d : Fin 128) (h : n.val ≠ k) : (ix3 n r d : S8x512x128.Idx) ∉ (rA k hk).set := by
  rw [Rect.mem_set_unit]
  intro h'
  have := h' 0
  change k ≤ n.val ∧ n.val < k + 1 at this
  omega

theorem emb_rA (n : Fin 8) (r : Fin 512) (d : Fin 128) : (rA n.val n.isLt).emb (ix3 0 r d : S1x512x128.Idx) = (ix3 n r d : S8x512x128.Idx) := by
  funext a; apply Fin.ext
  rw [Rect.emb_apply]
  fin_cases a <;> simp [Rect.unit]

theorem canon_rA (P : (n : ℕ) → n < 8 → Vec F S1x512x128 .f32) (k : ℕ) (hk : k < 8) (L : List (View.Piece (Elt F) S8x512x128 .f32)) (n : Fin 8) (r : Fin 512) (d : Fin 128)
    (h : n.val ≠ k → View.canon L (ix3 n r d) = P n.val n.isLt (ix3 0 r d)) :
    View.canon (⟨rA k hk, P k hk⟩ :: L) (ix3 n r d) = P n.val n.isLt (ix3 0 r d) := by
  by_cases e : n.val = k
  · subst e
    rw [← emb_rA n r d]
    exact View.canon_cons_emb (rA n.val n.isLt) (P n.val n.isLt) L (ix3 0 r d)
  · exact (View.canon_cons_of_not_mem ⟨rA k hk, P k hk⟩ L (not_mem_rA k hk n r d e)).trans (h e)

theorem canon_tilesA (P : (n : ℕ) → n < 8 → Vec F S1x512x128 .f32) (L : List (View.Piece (Elt F) S8x512x128 .f32)) (n : Fin 8) (r : Fin 512) (d : Fin 128) :
    View.canon (tilesA P L) (ix3 n r d) = P n.val n.isLt (ix3 0 r d) :=
  canon_rA P 7 _ _ n r d fun h7 =>
  canon_rA P 6 _ _ n r d fun h6 =>
  canon_rA P 5 _ _ n r d fun h5 =>
  canon_rA P 4 _ _ n r d fun h4 =>
  canon_rA P 3 _ _ n r d fun h3 =>
  canon_rA P 2 _ _ n r d fun h2 =>
  canon_rA P 1 _ _ n r d fun h1 =>
  canon_rA P 0 _ _ n r d fun h0 =>
  absurd n.isLt (by omega)

/-- Lane `d` of head `n` in the output block. -/
abbrev outLane (n : Fin 8) (d : Fin 64) : Fin 512 := ⟨64 * n.val + d.val, by have := n.isLt; have := d.isLt; omega⟩

theorem not_mem_rO (k : ℕ) (hk : k < 8) (n : Fin 8) (r : Fin 512) (d : Fin 64) (h : n.val ≠ k) : (ix3 0 r (outLane n d) : S1x512x512.Idx) ∉ (rO k hk).set := by
  rw [Rect.mem_set_unit]
  intro h'
  have := h' 2
  change 64 * k ≤ 64 * n.val + d.val ∧ 64 * n.val + d.val < 64 * k + 64 at this
  have := d.isLt
  omega

theorem emb_rO (n : Fin 8) (r : Fin 512) (d : Fin 64) : (rO n.val n.isLt).emb (ix3 0 r d : S1x512x64.Idx) = (ix3 0 r (outLane n d) : S1x512x512.Idx) := by
  funext a; apply Fin.ext
  rw [Rect.emb_apply]
  fin_cases a <;> simp [Rect.unit]

theorem canon_rO (P : (n : ℕ) → n < 8 → Vec F S1x512x64 .f32) (k : ℕ) (hk : k < 8) (L : List (View.Piece (Elt F) S1x512x512 .f32)) (n : Fin 8) (r : Fin 512) (d : Fin 64)
    (h : n.val ≠ k → View.canon L (ix3 0 r (outLane n d)) = P n.val n.isLt (ix3 0 r d)) :
    View.canon (⟨rO k hk, P k hk⟩ :: L) (ix3 0 r (outLane n d)) = P n.val n.isLt (ix3 0 r d) := by
  by_cases e : n.val = k
  · subst e
    rw [← emb_rO n r d]
    exact View.canon_cons_emb (rO n.val n.isLt) (P n.val n.isLt) L (ix3 0 r d)
  · exact (View.canon_cons_of_not_mem ⟨rO k hk, P k hk⟩ L (not_mem_rO k hk n r d e)).trans (h e)

theorem canon_tilesO (P : (n : ℕ) → n < 8 → Vec F S1x512x64 .f32) (L : List (View.Piece (Elt F) S1x512x512 .f32)) (n : Fin 8) (r : Fin 512) (d : Fin 64) :
    View.canon (tilesO P L) (ix3 0 r (outLane n d)) = P n.val n.isLt (ix3 0 r d) :=
  canon_rO P 7 _ _ n r d fun h7 =>
  canon_rO P 6 _ _ n r d fun h6 =>
  canon_rO P 5 _ _ n r d fun h5 =>
  canon_rO P 4 _ _ n r d fun h4 =>
  canon_rO P 3 _ _ n r d fun h3 =>
  canon_rO P 2 _ _ n r d fun h2 =>
  canon_rO P 1 _ _ n r d fun h1 =>
  canon_rO P 0 _ _ n r d fun h0 =>
  absurd n.isLt (by omega)

theorem idx_rQ (n : Fin 8) (r : Fin 512) (d : Fin 128) : (rQ n.val n.isLt).toLoadRect.idx (ix3 0 r d : S1x512x128.Idx) =
    (ix3 0 r ⟨128 * n.val + d.val, by have := n.isLt; have := d.isLt; omega⟩ : S1x512x1024.Idx) := by
  funext a; apply Fin.ext
  rw [LoadRect.idx_apply]
  fin_cases a <;> simp [Rect.unit]

theorem idx_rC (n : Fin 8) (r : Fin 512) : (rC n.val n.isLt).toLoadRect.idx (ix3 0 r 0 : S1x512x1.Idx) = (ix3 0 r n : S1x512x8.Idx) := by
  funext a; apply Fin.ext
  rw [LoadRect.idx_apply]
  fin_cases a <;> simp [Rect.unit]

theorem idx_rK (n : Fin 8) (j : Fin 512) : (rK n.val n.isLt).toLoadRect.idx (ix3 0 0 j : S1x1x512.Idx) = (ix3 0 n j : S1x8x512.Idx) := by
  funext a; apply Fin.ext
  rw [LoadRect.idx_apply]
  fin_cases a <;> simp [Rect.unit]

theorem idx_rW (j : Fin 512) (d : Fin 128) : rW.toLoadRect.idx (ix3 0 j d : S1x512x128.Idx) = (ix3 0 j d : S1x512x128.Idx) := by
  funext a; apply Fin.ext
  rw [LoadRect.idx_apply]
  fin_cases a <;> simp [Rect.unit]

end Cert.KernelIdeal.Flash

end
-- ==== Proof.FoxAt.lean ====
/-
  One head's step at an element, at the extended reals.
-/
module

public import proofs.«01_k».proof.Proof.FoxStep
public import proofs.«01_k».proof.Proof.Online

@[expose] public section

set_option maxRecDepth 16384

noncomputable section

namespace Cert.KernelIdeal.Flash

open Cert.KernelIdeal.Gen Cert.KernelIdeal.Facts
open Idealize.ShloMosaic Idealize.ShloMosaic.TcCoe

theorem scores_at (q k : Vec Ideal S1x512x128 .bf16) (cq : Vec Ideal S1x512x1 .f32) (ck : Vec Ideal S1x1x512 .f32) (r j : Fin 512) :
    scores q k cq ck (ix2 r j) = (∑ d : Fin 128, q (ix3 0 r d) * k (ix3 0 j d)) + (cq (ix3 0 r 0) - ck (ix3 0 0 j)) := by
  pointwise [scores]

theorem newMax_at (s : FVec Ideal S512x512 .f32) (mp : Vec Ideal S1x512x1 .f32) (r : Fin 512) :
    newMax s mp (ix2 r 0) = max (mp (ix3 0 r 0)) (Finset.univ.fold max ⊥ (fun x : Fin 512 => s (ix2 r x))) := by
  rw [← Attn.ofBits_neg_inf]
  pointwise [newMax]

theorem newSum_at (s : FVec Ideal S512x512 .f32) (mp lp : Vec Ideal S1x512x1 .f32) (r : Fin 512) :
    newSum s mp lp (ix2 r 0) = Ideal.exp (mp (ix3 0 r 0) - newMax s mp (ix2 r 0)) * lp (ix3 0 r 0)
      + ∑ x : Fin 512, Ideal.exp (s (ix2 r x) - newMax s mp (ix2 r 0)) := by
  pointwise [newSum, rescale, weights]

theorem newAcc_at (s : FVec Ideal S512x512 .f32) (mp : Vec Ideal S1x512x1 .f32) (ap : Vec Ideal S1x512x128 .f32) (v : Vec Ideal S1x512x128 .bf16) (r : Fin 512) (d : Fin 128) :
    newAcc s mp ap v (ix2 r d) = Ideal.exp (mp (ix3 0 r 0) - newMax s mp (ix2 r 0)) * ap (ix3 0 r d)
      + ∑ x : Fin 512, Ideal.exp (s (ix2 r x) - newMax s mp (ix2 r 0)) * v (ix3 0 x d) := by
  pointwise [newAcc, rescale, weights]

/-- The mask's number. -/
theorem mask_val : Named.named (F := Ideal) κ "mask" (φ := .f32) 0xF149F2CA#32 = ⊥ :=
  IdealRules.named_const.ideal_named_scalar _ _ _ _ rfl

theorem masked_at (i : Fin 16) (s : FVec Ideal S512x512 .f32) (r j : Fin 512) :
    masked (BitVec.ofNat 32 i.val) (BitVec.ofNat 32 i.val) s (ix2 r j) = if j.val ≤ r.val then s (ix2 r j) else ⊥ := by
  rw [← mask_val]
  pointwise [masked, causal]
  rw [Attn.sge_word i.val r.val j.val i.isLt r.isLt j.isLt]
  by_cases h : j.val ≤ r.val
  · rw [if_pos h, decide_eq_true h]; rfl
  · rw [if_neg h, decide_eq_false h]; rfl

end Cert.KernelIdeal.Flash

end
-- ==== Proof.FoxElem.lean ====
/-
  What one head of one row is made into at a grid point, in terms of what it was and of the blocks.
-/
module

public import proofs.«01_k».proof.Proof.FoxTiles
public import proofs.«01_k».proof.Proof.FoxAt
public import Idealize.ShloMosaic.Lib.WholeRead

@[expose] public section

set_option maxRecDepth 16384

noncomputable section

namespace Cert.KernelIdeal.Flash

open Cert.KernelIdeal.Gen Cert.KernelIdeal.Facts
open Idealize.ShloMosaic Idealize.ShloMosaic.TcCoe

/-- One block's step of a row: `mp, lp, ap` become `M, L, A` under the block's scores `sb` and values `vb`. -/
def Upd (mp lp : EReal) (ap : Fin 128 → EReal) (sb : Fin 512 → EReal) (vb : Fin 512 → Fin 128 → EReal) (M L : EReal) (A : Fin 128 → EReal) : Prop :=
  M = max mp (Finset.univ.fold max ⊥ sb) ∧ L = Ideal.exp (mp - M) * lp + ∑ x, Ideal.exp (sb x - M) ∧
    ∀ d, A d = Ideal.exp (mp - M) * ap d + ∑ x, Ideal.exp (sb x - M) * vb x d

theorem upd_at (s : FVec Ideal S512x512 .f32) (mp lp : Vec Ideal S1x512x1 .f32) (ap : Vec Ideal S1x512x128 .f32) (v : Vec Ideal S1x512x128 .bf16) (r : Fin 512) :
    Upd (mp (ix3 0 r 0)) (lp (ix3 0 r 0)) (fun d => ap (ix3 0 r d)) (fun x => s (ix2 r x)) (fun x d => v (ix3 0 x d))
      (newMax s mp (ix2 r 0)) (newSum s mp lp (ix2 r 0)) (fun d => newAcc s mp ap v (ix2 r d)) :=
  ⟨newMax_at s mp r, newSum_at s mp lp r, fun d => newAcc_at s mp ap v r d⟩

theorem cast_col (X : FVec Ideal S512x1 .f32) (r : Fin 512) : shapeCast S1x512x1 X shapeCasts_S512x1_S1x512x1 (ix3 0 r 0) = X (ix2 r 0) := by
  pointwise

theorem cast_acc (X : FVec Ideal S512x128 .f32) (r : Fin 512) (d : Fin 128) : shapeCast S1x512x128 X shapeCasts_S512x128_S1x512x128 (ix3 0 r d) = X (ix2 r d) := by
  pointwise

theorem pay1_at (y : S8x512x1.Idx) : k0_pay1 (F := Ideal) y = ⊥ := mask_val
theorem pay2_at (y : S8x512x1.Idx) : k0_pay2 (F := Ideal) y = 0 := Ideal.ofBits_zero_f32
theorem pay3_at (y : S8x512x128.Idx) : k0_pay3 (F := Ideal) y = 0 := Ideal.ofBits_zero_f32

theorem wholeM (y : S8x512x1.Idx) : (Rect.unit ![0, 0, 0] S8x512x1.size inb_S8x512x1_S8x512x1_0_0_0).emb y = y := by
  funext a; apply Fin.ext
  rw [Rect.emb_apply]
  fin_cases a <;> simp [Rect.unit]

theorem wholeA (y : S8x512x128.Idx) : (Rect.unit ![0, 0, 0] S8x512x128.size inb_S8x512x128_S8x512x128_0_0_0).emb y = y := by
  funext a; apply Fin.ext
  rw [Rect.emb_apply]
  fin_cases a <;> simp [Rect.unit]

/-- A store of the whole of a scratch buffer, read back. -/
theorem canon_wholeM (w : Vec Ideal S8x512x1 .f32) (y : S8x512x1.Idx) :
    View.canon (Val := Elt Ideal) [⟨Rect.unit ![0, 0, 0] S8x512x1.size inb_S8x512x1_S8x512x1_0_0_0, w⟩] y = w y := by
  have h := View.canon_cons_emb (Val := Elt Ideal) (Rect.unit ![0, 0, 0] S8x512x1.size inb_S8x512x1_S8x512x1_0_0_0) w [] y
  rw [wholeM] at h
  exact h

theorem canon_wholeA (w : Vec Ideal S8x512x128 .f32) (y : S8x512x128.Idx) :
    View.canon (Val := Elt Ideal) [⟨Rect.unit ![0, 0, 0] S8x512x128.size inb_S8x512x128_S8x512x128_0_0_0, w⟩] y = w y := by
  have h := View.canon_cons_emb (Val := Elt Ideal) (Rect.unit ![0, 0, 0] S8x512x128.size inb_S8x512x128_S8x512x128_0_0_0) w [] y
  rw [wholeA] at h
  exact h

theorem idx_rM (n : Fin 8) (r : Fin 512) : (rM n.val n.isLt).toLoadRect.idx (ix3 0 r 0 : S1x512x1.Idx) = (ix3 n r 0 : S8x512x1.Idx) := emb_rM n r
theorem idx_rA (n : Fin 8) (r : Fin 512) (d : Fin 128) : (rA n.val n.isLt).toLoadRect.idx (ix3 0 r d : S1x512x128.Idx) = (ix3 n r d : S8x512x128.Idx) := emb_rA n r d

theorem readCov_rM (v : View sig .tc .vmem S8x512x1 .f32) (L : List (View.Piece (Elt Ideal) S8x512x1 .f32)) (n : Fin 8) (r : Fin 512) :
    v.readCov L (rM n.val n.isLt).toLoadRect (ix3 0 r 0) = View.canon L (ix3 n r 0) := by
  rw [View.readCov_eq_canon']
  exact congrArg (View.canon L) (idx_rM n r)

theorem readCov_rA (v : View sig .tc .vmem S8x512x128 .f32) (L : List (View.Piece (Elt Ideal) S8x512x128 .f32)) (n : Fin 8) (r : Fin 512) (d : Fin 128) :
    v.readCov L (rA n.val n.isLt).toLoadRect (ix3 0 r d) = View.canon L (ix3 n r d) := by
  rw [View.readCov_eq_canon']
  exact congrArg (View.canon L) (idx_rA n r d)

section
variable (m : (ℓ : Loc nD τ sig) → Buf (Elt Ideal) ℓ)

/-- The blocks of queries, keys, values and decays at point `t`. -/
abbrev bq (c : Dev nD) (t : Fin cfg0.N) : Vec Ideal S1x512x1024 .bf16 := iblk m c 0 t
@[inherit_doc bq] abbrev bk (c : Dev nD) (t : Fin cfg0.N) : Vec Ideal S1x512x128 .bf16 := iblk m c 1 t
@[inherit_doc bq] abbrev bv (c : Dev nD) (t : Fin cfg0.N) : Vec Ideal S1x512x128 .bf16 := iblk m c 2 t
@[inherit_doc bq] abbrev bcq (c : Dev nD) (t : Fin cfg0.N) : Vec Ideal S1x512x8 .f32 := iblk m c 3 t
@[inherit_doc bq] abbrev bck (c : Dev nD) (t : Fin cfg0.N) : Vec Ideal S1x8x512 .f32 := iblk m c 4 t

/-- The score of row `r` of head `n` against key `j` of the block of point `t`. -/
def scoreE (c : Dev nD) (t : Fin cfg0.N) (n : Fin 8) (r j : Fin 512) : EReal :=
  (∑ d : Fin 128, (bq m c t (ix3 0 r ⟨128 * n.val + d.val, by have := n.isLt; have := d.isLt; omega⟩) : EReal) * bk m c t (ix3 0 j d))
    + ((bcq m c t (ix3 0 r n) : EReal) - bck m c t (ix3 0 n j))

/-- The values of the block of point `t`. -/
def valE (c : Dev nD) (t : Fin cfg0.N) (x : Fin 512) (d : Fin 128) : EReal := bv m c t (ix3 0 x d)

/-- Head `n`'s scores at point `t`, from the loaded blocks. -/
abbrev scv (c : Dev nD) (t : Fin cfg0.N) (n : Fin 8) : FVec Ideal S512x512 .f32 :=
  scores (View.readAt (Elt Ideal) (ms0_0 t).view (rQ n.val n.isLt).toLoadRect ((hs0_0 t).unread (bq m c t))) (View.readAt (Elt Ideal) (ms0_1 t).view rW.toLoadRect ((hs0_1 t).unread (bk m c t)))
    (View.readAt (Elt Ideal) (ms0_3 t).view (rC n.val n.isLt).toLoadRect ((hs0_3 t).unread (bcq m c t))) (View.readAt (Elt Ideal) (ms0_4 t).view (rK n.val n.isLt).toLoadRect ((hs0_4 t).unread (bck m c t)))

theorem scv_at (c : Dev nD) (t : Fin cfg0.N) (n : Fin 8) (r j : Fin 512) : scv m c t n (ix2 r j) = scoreE m c t n r j := by
  unfold scv
  refine (scores_at _ _ _ _ r j).trans ?_
  unfold scoreE
  exact congrArg₂ (fun a b : EReal => a + b)
    (Finset.sum_congr rfl fun d _ => congrArg₂ (fun a b : EReal => a * b)
      (((hs0_0 t).readAt_unread (bq m c t) _ _).trans (congrArg (bq m c t) (idx_rQ n r d)))
      (((hs0_1 t).readAt_unread (bk m c t) _ _).trans (congrArg (bk m c t) (idx_rW j d))))
    (congrArg₂ (fun a b : EReal => a - b)
      (((hs0_3 t).readAt_unread (bcq m c t) _ _).trans (congrArg (bcq m c t) (idx_rC n r)))
      (((hs0_4 t).readAt_unread (bck m c t) _ _).trans (congrArg (bck m c t) (idx_rK n j))))

/-- The block of values as loaded. -/
abbrev vlv (c : Dev nD) (t : Fin cfg0.N) : Vec Ideal S1x512x128 .bf16 := View.readAt (Elt Ideal) (ms0_2 t).view rW.toLoadRect ((hs0_2 t).unread (bv m c t))

theorem vlv_at (c : Dev nD) (t : Fin cfg0.N) (x : Fin 512) (d : Fin 128) : vlv m c t (ix3 0 x d) = valE m c t x d := by
  exact ((hs0_2 t).readAt_unread (bv m c t) _ _).trans (congrArg (bv m c t) (idx_rW x d))

/-- On the diagonal the scores are masked past the row. -/
theorem mscv_at (c : Dev nD) (t : Fin cfg0.N) (h2 : t.val / 16 % 16 = t.val % 16) (s : FVec Ideal S512x512 .f32) (r j : Fin 512) :
    masked (BitVec.ofNat 32 (grid0.coords t 1).val) (BitVec.ofNat 32 (grid0.coords t 2).val) s (ix2 r j) = if j.val ≤ r.val then s (ix2 r j) else ⊥ := by
  have e1 : (grid0.coords t 1).val = t.val % 16 := (Pipeline.Grid.coords_val (G := grid0) t 1 (S := 16) (B := 16) (by decide) rfl).trans h2
  have e2 : (grid0.coords t 2).val = t.val % 16 := (Pipeline.Grid.coords_val (G := grid0) t 2 (S := 1) (B := 16) (by decide) rfl).trans (by rw [Nat.div_one])
  rw [e1, e2]
  exact masked_at ⟨t.val % 16, Nat.mod_lt _ (by decide)⟩ s r j
end

theorem out_at (A : Vec Ideal S1x512x128 .f32) (L : Vec Ideal S1x512x1 .f32) (n : Fin 8) (r : Fin 512) (d : Fin 64) :
    (shapeCast S1x512x64 (extractStridedSlice S512x64 ![0, 64 * (n.val / 4)] (divf (shapeCast S512x128 A shapeCasts_S1x512x128_S512x128)
        (broadcastTo S512x128 (shapeCast S512x1 L shapeCasts_S1x512x1_S512x1) broadcasts_S512x1_S512x128)) (sliceO n.val n.isLt)) shapeCasts_S512x64_S1x512x64 : FVec Ideal S1x512x64 .f32) (ix3 0 r d)
      = Ideal.div (A (ix3 0 r ⟨64 * (n.val / 4) + d.val, by have := n.isLt; have := d.isLt; omega⟩)) (L (ix3 0 r 0)) := by
  pointwise

end Cert.KernelIdeal.Flash

end
-- ==== Proof.FoxReal.lean ====
/-
  The decayed causal attention over reals: scores and values read off the arrays.
-/
module

public import proofs.«01_k».proof.Proof.Online
public import Idealize.ShloMosaic.Lib.Pipeline.ValueKit

@[expose] public section

set_option maxRecDepth 16384

noncomputable section

namespace Cert.Attn.Fox

open Idealize.ShloMosaic

/-- Every element is a real number. -/
def Real {S : Shape} (x : S.Idx → EReal) : Prop := ∀ i, x i = ((x i).toReal : EReal)

variable (q : (⟨4, ![4, 8192, 8, 64]⟩ : Shape).Idx → EReal) (kv : (⟨5, ![4, 8192, 2, 2, 64]⟩ : Shape).Idx → EReal)
  (cu : (⟨3, ![4, 8192, 8]⟩ : Shape).Idx → EReal)

/-- The query of a batch, position, head and lane. -/
def qR (b r h d : ℕ) : ℝ := (q (ix4 (Fin.ofNat 4 b) (Fin.ofNat 8192 r) (Fin.ofNat 8 h) (Fin.ofNat 64 d))).toReal

/-- The key (slot 0) or value (slot 1) of a batch, position, group and lane. -/
def kvR (b k z g d : ℕ) : ℝ :=
  (kv (ix5 (Fin.ofNat 4 b) (Fin.ofNat 8192 k) (Fin.ofNat 2 z) (Fin.ofNat 2 g) (Fin.ofNat 64 d))).toReal

/-- The summed log of the forget gates. -/
def cR (b r h : ℕ) : ℝ := (cu (ix3 (Fin.ofNat 4 b) (Fin.ofNat 8192 r) (Fin.ofNat 8 h))).toReal

/-- The score of a query and a key. -/
def score (b r h k : ℕ) : ℝ :=
  (∑ d : Fin 64, kvR kv b k 0 (h / 4) d * qR q b r h d) / 8 + (cR cu b r h - cR cu b k h)

variable {q kv cu}

theorem q_eq (hq : Real q) (b : Fin 4) (r : Fin 8192) (h : Fin 8) (d : Fin 64) :
    q (ix4 b r h d) = ((qR q b r h d : ℝ) : EReal) := by
  rw [hq]; unfold qR; simp

theorem kv_eq (hkv : Real kv) (b : Fin 4) (k : Fin 8192) (z g : Fin 2) (d : Fin 64) :
    kv (ix5 b k z g d) = ((kvR kv b k z g d : ℝ) : EReal) := by
  rw [hkv]; unfold kvR; simp

theorem c_eq (hc : Real cu) (b : Fin 4) (r : Fin 8192) (h : Fin 8) :
    cu (ix3 b r h) = ((cR cu b r h : ℝ) : EReal) := by
  rw [hc]; unfold cR; simp

theorem ofBits_eight : Ideal.ofBits .f32 0x41000000#32 = ((8 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

/-- The least normaliser is a positive real at most one. -/
theorem ofBits_tiny : ∃ lo : ℝ, 0 < lo ∧ lo ≤ 1 ∧ Ideal.ofBits .f32 0x0DA24260#32 = (lo : EReal) := by
  refine ⟨_, ?_, ?_, by simp [Ideal.ofBits, Ideal.ieee, -EReal.coe_mul]; rfl⟩
  · positivity
  · norm_num

/-- The comparison of a key's and a query's position. -/
theorem sle_word (k r : ℕ) (hk : k < 8192) (hr : r < 8192) :
    IntOp.cmpi CmpIPredicate.sle (BitVec.ofNat 32 k) (BitVec.ofNat 32 r) = BitVec.ofBool (decide (k < r + 1)) := by
  have hn : ∀ n : ℕ, n < 8192 → (BitVec.ofNat 32 n).toInt = n := by
    intro n h
    rw [BitVec.toInt_eq_toNat_bmod, BitVec.toNat_ofNat, Int.bmod_def]
    norm_num
    omega
  simp only [IntOp.cmpi, BitVec.sle, hn k hk, hn r hr]
  congr 1
  apply decide_eq_decide.mpr
  omega

end Cert.Attn.Fox

end
-- ==== Proof.FoxHost.lean ====
/-
  What the launch finds in its operands, at an element.
-/
module

public import proofs.«01_k».proof.Proof.FoxElem
public import proofs.«01_k».proof.Proof.FoxReal
public import Idealize.ShloMosaic.Lib.StableHlo.ReadAt

@[expose] public section

set_option maxRecDepth 16384

noncomputable section

namespace Cert.KernelIdeal.Flash

open Cert.KernelIdeal.Gen Cert.KernelIdeal.Facts
open Idealize.ShloMosaic Idealize.ShloMosaic.TcCoe

variable (m : (ℓ : Loc nD τ sig) → Buf (Elt Ideal) ℓ) (c : Dev nD)

/-- The queries, the keys and values, the summed log gates, as launched. -/
abbrev argQ : FVec Ideal S4x8192x8x64 .f32 := m ((c.tc : Thread nD τ).loc main_arg0)
@[inherit_doc argQ] abbrev argKV : FVec Ideal S4x8192x2x2x64 .f32 := m ((c.tc : Thread nD τ).loc main_arg1)
@[inherit_doc argQ] abbrev argC : FVec Ideal S4x8192x8 .f32 := m ((c.tc : Thread nD τ).loc main_arg2)

theorem pad_lo (X : FVec Ideal S4x8192x8x64 .f32) (k : EReal) (b : Fin 4) (r : Fin 8192) (h : Fin 8) (e : Fin 128) (l : Fin 1024)
    (hl : l.val = 128 * h.val + e.val) (h4 : h.val < 4) :
    (if h' : l.val % 128 < 64 then (X (ix4 b r ⟨l.val / 128, by omega⟩ ⟨l.val % 128, h'⟩) : EReal) * k else (0 : EReal)) =
      if e.val / 64 = h.val / 4 then (X (ix4 b r h ⟨e.val % 64, by omega⟩) : EReal) * k else (0 : EReal) := by
  by_cases he : e.val < 64
  · rw [dif_pos (by omega), if_pos (by omega)]
    have e1 : (⟨l.val / 128, by omega⟩ : Fin 8) = h := Fin.ext (by show l.val / 128 = h.val; omega)
    have e2 : (⟨l.val % 128, by omega⟩ : Fin 64) = ⟨e.val % 64, by omega⟩ := Fin.ext (by show l.val % 128 = e.val % 64; omega)
    rw [e1, e2]
  · rw [dif_neg (by omega), if_neg (by omega)]

theorem pad_hi (X : FVec Ideal S4x8192x8x64 .f32) (k : EReal) (b : Fin 4) (r : Fin 8192) (h : Fin 8) (e : Fin 128) (l : Fin 1024)
    (hl : l.val = 128 * h.val + e.val) (h4 : ¬ h.val < 4) :
    (if h' : l.val % 128 < 64 then (0 : EReal) else (X (ix4 b r ⟨4 + (l.val / 128 - 4), by omega⟩ ⟨l.val % 128 - 64, by omega⟩) : EReal) * k) =
      if e.val / 64 = h.val / 4 then (X (ix4 b r h ⟨e.val % 64, by omega⟩) : EReal) * k else (0 : EReal) := by
  by_cases he : e.val < 64
  · rw [dif_pos (by omega), if_neg (by omega)]
  · rw [dif_neg (by omega), if_pos (by omega)]
    have e1 : (⟨4 + (l.val / 128 - 4), by omega⟩ : Fin 8) = h := Fin.ext (by show 4 + (l.val / 128 - 4) = h.val; omega)
    have e2 : (⟨l.val % 128 - 64, by omega⟩ : Fin 64) = ⟨e.val % 64, by omega⟩ := Fin.ext (by show l.val % 128 - 64 = e.val % 64; omega)
    rw [e1, e2]

/-- The padded scaled queries: head `h` in lanes `128 h …`, its 64 lanes in the half of its group, zero in the other half. -/
theorem V9_at (b : Fin 4) (r : Fin 8192) (h : Fin 8) (e : Fin 128) (l : Fin 1024) (hl : l.val = 128 * h.val + e.val) :
    V m c main_v9 (ix3 b r l) = if e.val / 64 = h.val / 4 then
      (argQ m c (ix4 b r h ⟨e.val % 64, by omega⟩) : EReal) * Ideal.ofBits FTy.f32 0x3E000000#32 else (0 : EReal) := by
  unfold V
  after_reads_at
  by_cases h4 : h.val < 4
  · rw [dif_pos (by omega)]
    after_reads_at
    exact pad_lo (argQ m c) _ b r h e l hl h4
  · rw [dif_neg (by omega)]
    after_reads_at
    exact pad_hi (argQ m c) _ b r h e l hl h4

/-- The fused keys and values: keys in the first half of the lanes, values in the second. -/
theorem V11_at (b : Fin 4) (r : Fin 8192) (l : Fin 256) :
    V m c main_v11 (ix3 b r l) = argKV m c (ix5 b r ⟨l.val / 128, by omega⟩ ⟨l.val / 64 % 2, by omega⟩ ⟨l.val % 64, by omega⟩) := by
  unfold V
  after_reads_at

/-- The summed log gates, heads first. -/
theorem V12_at (b : Fin 4) (r : Fin 8192) (l : Fin 8) :
    V m c main_v12 (ix3 b l r) = argC m c (ix3 b r l) := by
  unfold V
  after_reads_at

end Cert.KernelIdeal.Flash

end
-- ==== Proof.FoxBlocks.lean ====
/-
  The blocks the launch reads, at an element.
-/
module

public import proofs.«01_k».proof.Proof.FoxHost
public import proofs.«01_k».proof.Proof.FoxReal
public import Idealize.ShloMosaic.Lib.StableHlo.ReadAt

@[expose] public section

set_option maxRecDepth 16384

noncomputable section

namespace Cert.KernelIdeal.Flash

open Cert.KernelIdeal.Gen Cert.KernelIdeal.Facts
open Idealize.ShloMosaic Idealize.ShloMosaic.TcCoe

variable (m : (ℓ : Loc nD τ sig) → Buf (Elt Ideal) ℓ) (c : Dev nD)

/-- Where each window's block lies, in blocks. -/
theorem places : ∀ t : Fin cfg0.N, win0_0.index t = ![t.val / 256, t.val / 16 % 16, 0]
    ∧ win0_1.index t = ![t.val / 256, min (t.val % 16) (t.val / 16 % 16), 0]
    ∧ win0_2.index t = ![t.val / 256, min (t.val % 16) (t.val / 16 % 16), 1]
    ∧ win0_3.index t = ![t.val / 256, t.val / 16 % 16, 0]
    ∧ win0_4.index t = ![t.val / 256, 0, min (t.val % 16) (t.val / 16 % 16)]
    ∧ win0_5.index t = ![t.val / 256, t.val / 16 % 16, 0] :=
  (by decide +kernel : ∀ t : Fin grid0.N, _)

variable (t : Fin cfg0.N) (b : Fin 4) (hb : b.val = t.val / 256) (R K : Fin 8192) (r : Fin 512)

include hb

theorem blk0_at (X : ∀ b : Ref sig .tc, Buf (Elt Ideal) ((c.tc : Thread nD τ).loc b)) (hR : R.val = 512 * (t.val / 16 % 16) + r.val) (l : Fin 1024) :
    ((cfg0.win 0).blk t).view.read (Elt Ideal) (X (Pipeline.arrRef spec0 0)) (ix3 0 r l) = X main_v9 (ix3 b R l) := by
  blk_simp
  refine congrArg (X main_v9) ?_
  blk_ext [places t]

theorem bq_at (hR : R.val = 512 * (t.val / 16 % 16) + r.val) (l : Fin 1024) :
    bq m c t (ix3 0 r l) = V m c main_v9 (ix3 b R l) :=
  blk0_at c t b hb R r (V m c) hR l

theorem bk_at (h : t.val % 16 ≤ t.val / 16 % 16) (hK : K.val = 512 * (t.val % 16) + r.val) (l : Fin 128) (l' : Fin 256) (hl : l'.val = l.val) :
    bk m c t (ix3 0 r l) = V m c main_v11 (ix3 b K l') := by
  unfold bk
  blk_simp [iblk]
  refine congrArg (V m c main_v11) ?_
  blk_ext [places t]

theorem bv_at (h : t.val % 16 ≤ t.val / 16 % 16) (hK : K.val = 512 * (t.val % 16) + r.val) (l : Fin 128) (l' : Fin 256) (hl : l'.val = 128 + l.val) :
    bv m c t (ix3 0 r l) = V m c main_v11 (ix3 b K l') := by
  unfold bv
  blk_simp [iblk]
  refine congrArg (V m c main_v11) ?_
  blk_ext [places t]

theorem bcq_at (hR : R.val = 512 * (t.val / 16 % 16) + r.val) (l : Fin 8) :
    bcq m c t (ix3 0 r l) = V m c main_arg2 (ix3 b R l) := by
  unfold bcq
  blk_simp [iblk]
  refine congrArg (V m c main_arg2) ?_
  blk_ext [places t]

theorem bck_at (h : t.val % 16 ≤ t.val / 16 % 16) (hK : K.val = 512 * (t.val % 16) + r.val) (l : Fin 8) :
    bck m c t (ix3 0 l r) = V m c main_v12 (ix3 b l K) := by
  unfold bck
  blk_simp [iblk]
  refine congrArg (V m c main_v12) ?_
  blk_ext [places t]

end Cert.KernelIdeal.Flash

end
-- ==== Proof.FoxPiecesA.lean ====
/-
  The flash body at a point of case A: what it stores, head by head.
-/
module

public import proofs.«01_k».proof.Proof.FoxRects
public import proofs.«01_k».proof.Proof.FoxRunA

@[expose] public section

set_option maxRecDepth 65536

noncomputable section

namespace Cert.KernelIdeal.Flash

open Cert.KernelIdeal.Gen Cert.KernelIdeal.Facts
open Idealize.ShloMosaic Idealize.ShloMosaic.TcCoe

variable {F : FTy → Type} [FloatOps F] [Named F]

theorem runA_max (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : cond0_0 i) (hc1 : ¬cond0_1 i) (hc2 : cond0_2 i) (hc3 : cond0_3 i)
    (x0 : Vec F S1x512x1024 .bf16) (x1 : Vec F S1x512x128 .bf16) (x2 : Vec F S1x512x128 .bf16) (x3 : Vec F S1x512x8 .f32) (x4 : Vec F S1x8x512 .f32) :
    (kernelRun0_A c i arg3 harg3 arg4 harg4 arg5 harg5 arg6 harg6 arg7 harg7 arg8 harg8 arg9 harg9 arg10 harg10 arg11 harg11 hc0 hc1 hc2 hc3 x0 x1 x2 x3 x4).2.1 =
      tilesM (fun n h => shapeCast S1x512x1 (newMax (masked (BitVec.ofNat 32 (i 1).val) (BitVec.ofNat 32 (i 2).val) (scores (View.readAt (Elt F) arg3.view (rQ n h).toLoadRect (harg3.unread x0)) (View.readAt (Elt F) arg4.view (rW).toLoadRect (harg4.unread x1)) (View.readAt (Elt F) arg6.view (rC n h).toLoadRect (harg6.unread x3)) (View.readAt (Elt F) arg7.view (rK n h).toLoadRect (harg7.unread x4)))) (arg9.view.readCov [⟨Rect.unit ![0, 0, 0] S8x512x1.size inb_S8x512x1_S8x512x1_0_0_0, k0_pay1⟩] (rM n h).toLoadRect)) shapeCasts_S512x1_S1x512x1) [⟨Rect.unit ![0, 0, 0] S8x512x1.size inb_S8x512x1_S8x512x1_0_0_0, k0_pay1⟩] := rfl

theorem runA_sum (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : cond0_0 i) (hc1 : ¬cond0_1 i) (hc2 : cond0_2 i) (hc3 : cond0_3 i)
    (x0 : Vec F S1x512x1024 .bf16) (x1 : Vec F S1x512x128 .bf16) (x2 : Vec F S1x512x128 .bf16) (x3 : Vec F S1x512x8 .f32) (x4 : Vec F S1x8x512 .f32) :
    (kernelRun0_A c i arg3 harg3 arg4 harg4 arg5 harg5 arg6 harg6 arg7 harg7 arg8 harg8 arg9 harg9 arg10 harg10 arg11 harg11 hc0 hc1 hc2 hc3 x0 x1 x2 x3 x4).2.2.1 =
      tilesM (fun n h => shapeCast S1x512x1 (newSum (masked (BitVec.ofNat 32 (i 1).val) (BitVec.ofNat 32 (i 2).val) (scores (View.readAt (Elt F) arg3.view (rQ n h).toLoadRect (harg3.unread x0)) (View.readAt (Elt F) arg4.view (rW).toLoadRect (harg4.unread x1)) (View.readAt (Elt F) arg6.view (rC n h).toLoadRect (harg6.unread x3)) (View.readAt (Elt F) arg7.view (rK n h).toLoadRect (harg7.unread x4)))) (arg9.view.readCov [⟨Rect.unit ![0, 0, 0] S8x512x1.size inb_S8x512x1_S8x512x1_0_0_0, k0_pay1⟩] (rM n h).toLoadRect) (arg10.view.readCov [⟨Rect.unit ![0, 0, 0] S8x512x1.size inb_S8x512x1_S8x512x1_0_0_0, k0_pay2⟩] (rM n h).toLoadRect)) shapeCasts_S512x1_S1x512x1) [⟨Rect.unit ![0, 0, 0] S8x512x1.size inb_S8x512x1_S8x512x1_0_0_0, k0_pay2⟩] := rfl

theorem runA_acc (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : cond0_0 i) (hc1 : ¬cond0_1 i) (hc2 : cond0_2 i) (hc3 : cond0_3 i)
    (x0 : Vec F S1x512x1024 .bf16) (x1 : Vec F S1x512x128 .bf16) (x2 : Vec F S1x512x128 .bf16) (x3 : Vec F S1x512x8 .f32) (x4 : Vec F S1x8x512 .f32) :
    (kernelRun0_A c i arg3 harg3 arg4 harg4 arg5 harg5 arg6 harg6 arg7 harg7 arg8 harg8 arg9 harg9 arg10 harg10 arg11 harg11 hc0 hc1 hc2 hc3 x0 x1 x2 x3 x4).2.2.2.1 =
      tilesA (fun n h => shapeCast S1x512x128 (newAcc (masked (BitVec.ofNat 32 (i 1).val) (BitVec.ofNat 32 (i 2).val) (scores (View.readAt (Elt F) arg3.view (rQ n h).toLoadRect (harg3.unread x0)) (View.readAt (Elt F) arg4.view (rW).toLoadRect (harg4.unread x1)) (View.readAt (Elt F) arg6.view (rC n h).toLoadRect (harg6.unread x3)) (View.readAt (Elt F) arg7.view (rK n h).toLoadRect (harg7.unread x4)))) (arg9.view.readCov [⟨Rect.unit ![0, 0, 0] S8x512x1.size inb_S8x512x1_S8x512x1_0_0_0, k0_pay1⟩] (rM n h).toLoadRect) (arg11.view.readCov [⟨Rect.unit ![0, 0, 0] S8x512x128.size inb_S8x512x128_S8x512x128_0_0_0, k0_pay3⟩] (rA n h).toLoadRect) (View.readAt (Elt F) arg5.view (rW).toLoadRect (harg5.unread x2))) shapeCasts_S512x128_S1x512x128) [⟨Rect.unit ![0, 0, 0] S8x512x128.size inb_S8x512x128_S8x512x128_0_0_0, k0_pay3⟩] := rfl

theorem runA_out (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : cond0_0 i) (hc1 : ¬cond0_1 i) (hc2 : cond0_2 i) (hc3 : cond0_3 i)
    (x0 : Vec F S1x512x1024 .bf16) (x1 : Vec F S1x512x128 .bf16) (x2 : Vec F S1x512x128 .bf16) (x3 : Vec F S1x512x8 .f32) (x4 : Vec F S1x8x512 .f32) :
    (kernelRun0_A c i arg3 harg3 arg4 harg4 arg5 harg5 arg6 harg6 arg7 harg7 arg8 harg8 arg9 harg9 arg10 harg10 arg11 harg11 hc0 hc1 hc2 hc3 x0 x1 x2 x3 x4).1 =
      tilesO (fun n h => shapeCast S1x512x64 (extractStridedSlice S512x64 ![0, 64 * (n / 4)] (divf (shapeCast S512x128 (arg11.view.readCov (kernelRun0_A c i arg3 harg3 arg4 harg4 arg5 harg5 arg6 harg6 arg7 harg7 arg8 harg8 arg9 harg9 arg10 harg10 arg11 harg11 hc0 hc1 hc2 hc3 x0 x1 x2 x3 x4).2.2.2.1 (rA n h).toLoadRect) shapeCasts_S1x512x128_S512x128)
        (broadcastTo S512x128 (shapeCast S512x1 (arg10.view.readCov (kernelRun0_A c i arg3 harg3 arg4 harg4 arg5 harg5 arg6 harg6 arg7 harg7 arg8 harg8 arg9 harg9 arg10 harg10 arg11 harg11 hc0 hc1 hc2 hc3 x0 x1 x2 x3 x4).2.2.1 (rM n h).toLoadRect) shapeCasts_S1x512x1_S512x1) broadcasts_S512x1_S512x128)) (sliceO n h)) shapeCasts_S512x64_S1x512x64) [] := rfl

end Cert.KernelIdeal.Flash

end
-- ==== Proof.FoxUpdA.lean ====
/-
  Case A: what one head of one row is made into.
-/
module

public import proofs.«01_k».proof.Proof.FoxTiles
public import proofs.«01_k».proof.Proof.FoxAt
public import Idealize.ShloMosaic.Lib.WholeRead
public import proofs.«01_k».proof.Proof.FoxElem
public import proofs.«01_k».proof.Proof.FoxPiecesA

@[expose] public section

set_option maxRecDepth 16384

noncomputable section

namespace Cert.KernelIdeal.Flash

open Cert.KernelIdeal.Gen Cert.KernelIdeal.Facts
open Idealize.ShloMosaic Idealize.ShloMosaic.TcCoe

variable (m : (ℓ : Loc nD τ sig) → Buf (Elt Ideal) ℓ)

theorem stA_max (c : Dev nD) (t : Fin cfg0.N) (h0 : t.val % 16 = 0) (h1 : ¬t.val % 16 + 1 ≤ t.val / 16 % 16) (h2 : t.val / 16 % 16 = t.val % 16) (n : Fin 8) (r : Fin 512) :
    (stA m c t h0 h1 h2).1 (ix3 n r 0) = newMax (masked (BitVec.ofNat 32 (grid0.coords t 1).val) (BitVec.ofNat 32 (grid0.coords t 2).val) (scv m c t n)) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (ix2 r 0) := by
  have e : (stA m c t h0 h1 h2).1 = View.canon (Val := Elt Ideal) (runA m c t h0 h1 h2).2.1 := by
    unfold stA; dsimp only; rw [View.read_writes_junk_eq_canon]
  rw [e]
  rw [runA_max, canon_tilesM]
  exact cast_col _ r

theorem stA_sum (c : Dev nD) (t : Fin cfg0.N) (h0 : t.val % 16 = 0) (h1 : ¬t.val % 16 + 1 ≤ t.val / 16 % 16) (h2 : t.val / 16 % 16 = t.val % 16) (n : Fin 8) (r : Fin 512) :
    (stA m c t h0 h1 h2).2.1 (ix3 n r 0) = newSum (masked (BitVec.ofNat 32 (grid0.coords t 1).val) (BitVec.ofNat 32 (grid0.coords t 2).val) (scv m c t n)) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (scM0_1.view.readCov [(⟨Rect.unit ![0, 0, 0] S8x512x1.size inb_S8x512x1_S8x512x1_0_0_0, k0_pay2 (F := Ideal)⟩ : View.Piece (Elt Ideal) S8x512x1 .f32)] (rM n.val n.isLt).toLoadRect) (ix2 r 0) := by
  have e : (stA m c t h0 h1 h2).2.1 = View.canon (Val := Elt Ideal) (runA m c t h0 h1 h2).2.2.1 := by
    unfold stA; dsimp only; rw [View.read_writes_junk_eq_canon]
  rw [e]
  rw [runA_sum, canon_tilesM]
  exact cast_col _ r

theorem stA_acc (c : Dev nD) (t : Fin cfg0.N) (h0 : t.val % 16 = 0) (h1 : ¬t.val % 16 + 1 ≤ t.val / 16 % 16) (h2 : t.val / 16 % 16 = t.val % 16) (n : Fin 8) (r : Fin 512) (d : Fin 128) :
    (stA m c t h0 h1 h2).2.2 (ix3 n r d) = newAcc (masked (BitVec.ofNat 32 (grid0.coords t 1).val) (BitVec.ofNat 32 (grid0.coords t 2).val) (scv m c t n)) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (scM0_2.view.readCov [(⟨Rect.unit ![0, 0, 0] S8x512x128.size inb_S8x512x128_S8x512x128_0_0_0, k0_pay3 (F := Ideal)⟩ : View.Piece (Elt Ideal) S8x512x128 .f32)] (rA n.val n.isLt).toLoadRect) (vlv m c t) (ix2 r d) := by
  have e : (stA m c t h0 h1 h2).2.2 = View.canon (Val := Elt Ideal) (runA m c t h0 h1 h2).2.2.2.1 := by
    unfold stA; dsimp only; rw [View.read_writes_junk_eq_canon]
  rw [e]
  rw [runA_acc, canon_tilesA]
  exact cast_acc _ r d

theorem stA_upd (c : Dev nD) (t : Fin cfg0.N) (h0 : t.val % 16 = 0) (h1 : ¬t.val % 16 + 1 ≤ t.val / 16 % 16) (h2 : t.val / 16 % 16 = t.val % 16) (n : Fin 8) (r : Fin 512) :
    Upd ⊥ 0 (fun _ => 0) (fun x => if x.val ≤ r.val then scoreE m c t n r x else ⊥) (valE m c t)
      ((stA m c t h0 h1 h2).1 (ix3 n r 0)) ((stA m c t h0 h1 h2).2.1 (ix3 n r 0)) (fun d => (stA m c t h0 h1 h2).2.2 (ix3 n r d)) := by
  have h := upd_at (masked (BitVec.ofNat 32 (grid0.coords t 1).val) (BitVec.ofNat 32 (grid0.coords t 2).val) (scv m c t n)) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (scM0_1.view.readCov [(⟨Rect.unit ![0, 0, 0] S8x512x1.size inb_S8x512x1_S8x512x1_0_0_0, k0_pay2 (F := Ideal)⟩ : View.Piece (Elt Ideal) S8x512x1 .f32)] (rM n.val n.isLt).toLoadRect) (scM0_2.view.readCov [(⟨Rect.unit ![0, 0, 0] S8x512x128.size inb_S8x512x128_S8x512x128_0_0_0, k0_pay3 (F := Ideal)⟩ : View.Piece (Elt Ideal) S8x512x128 .f32)] (rA n.val n.isLt).toLoadRect) (vlv m c t) r
  have es : (fun x => (masked (BitVec.ofNat 32 (grid0.coords t 1).val) (BitVec.ofNat 32 (grid0.coords t 2).val) (scv m c t n)) (ix2 r x)) = (fun x => if x.val ≤ r.val then scoreE m c t n r x else ⊥) := funext fun x => (mscv_at c t h2 _ r x).trans (by rw [scv_at])
  have em : (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (ix3 0 r 0) = ⊥ := by rw [View.readCov_eq_canon']; exact (canon_wholeM _ _).trans (pay1_at _)
  have el : (scM0_1.view.readCov [(⟨Rect.unit ![0, 0, 0] S8x512x1.size inb_S8x512x1_S8x512x1_0_0_0, k0_pay2 (F := Ideal)⟩ : View.Piece (Elt Ideal) S8x512x1 .f32)] (rM n.val n.isLt).toLoadRect) (ix3 0 r 0) = 0 := by rw [View.readCov_eq_canon']; exact (canon_wholeM _ _).trans (pay2_at _)
  have ea : (fun d => (scM0_2.view.readCov [(⟨Rect.unit ![0, 0, 0] S8x512x128.size inb_S8x512x128_S8x512x128_0_0_0, k0_pay3 (F := Ideal)⟩ : View.Piece (Elt Ideal) S8x512x128 .f32)] (rA n.val n.isLt).toLoadRect) (ix3 0 r d)) = (fun _ => 0) := funext fun d => by rw [View.readCov_eq_canon']; exact (canon_wholeA _ _).trans (pay3_at _)
  have ev : (fun x d => vlv m c t (ix3 0 x d)) = valE m c t := funext fun x => funext fun d => vlv_at m c t x d
  rw [es, em, el, ea, ev] at h
  rw [stA_max, stA_sum, funext fun d => stA_acc m c t h0 h1 h2 n r d]
  exact h

theorem outA_at (c : Dev nD) (t : Fin cfg0.N) (h0 : t.val % 16 = 0) (h1 : ¬t.val % 16 + 1 ≤ t.val / 16 % 16) (h2 : t.val / 16 % 16 = t.val % 16) (n : Fin 8) (r : Fin 512) (d : Fin 64) :
    outA m c t h0 h1 h2 (ix3 0 r (outLane n d)) =
      Ideal.div ((stA m c t h0 h1 h2).2.2 (ix3 n r ⟨64 * (n.val / 4) + d.val, by have := n.isLt; have := d.isLt; omega⟩)) ((stA m c t h0 h1 h2).2.1 (ix3 n r 0)) := by
  have e : outA m c t h0 h1 h2 = View.canon (Val := Elt Ideal) (runA m c t h0 h1 h2).1 := by
    unfold outA; rw [View.read_writes_junk_eq_canon]
  have e1 : (stA m c t h0 h1 h2).2.1 = View.canon (Val := Elt Ideal) (runA m c t h0 h1 h2).2.2.1 := by
    unfold stA; dsimp only; rw [View.read_writes_junk_eq_canon]
  have e2 : (stA m c t h0 h1 h2).2.2 = View.canon (Val := Elt Ideal) (runA m c t h0 h1 h2).2.2.2.1 := by
    unfold stA; dsimp only; rw [View.read_writes_junk_eq_canon]
  rw [e, runA_out, canon_tilesO]
  refine (out_at _ _ n r d).trans ?_
  rw [readCov_rA, readCov_rM]
  exact congrArg₂ Ideal.div (congrFun e2.symm _) (congrFun e1.symm _)

end Cert.KernelIdeal.Flash

end
-- ==== Proof.FoxPiecesC.lean ====
/-
  The flash body at a point of case C: what it stores, head by head.
-/
module

public import proofs.«01_k».proof.Proof.FoxRects
public import proofs.«01_k».proof.Proof.FoxRunC

@[expose] public section

set_option maxRecDepth 65536

noncomputable section

namespace Cert.KernelIdeal.Flash

open Cert.KernelIdeal.Gen Cert.KernelIdeal.Facts
open Idealize.ShloMosaic Idealize.ShloMosaic.TcCoe

variable {F : FTy → Type} [FloatOps F] [Named F]

theorem runC_max (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : cond0_0 i) (hc1 : cond0_1 i) (hc2 : ¬cond0_2 i) (hc3 : ¬cond0_3 i)
    (x0 : Vec F S1x512x1024 .bf16) (x1 : Vec F S1x512x128 .bf16) (x2 : Vec F S1x512x128 .bf16) (x3 : Vec F S1x512x8 .f32) (x4 : Vec F S1x8x512 .f32) (x5 : Vec F S1x512x512 .f32) :
    (kernelRun0_C c i arg3 harg3 arg4 harg4 arg5 harg5 arg6 harg6 arg7 harg7 arg8 harg8 arg9 harg9 arg10 harg10 arg11 harg11 hc0 hc1 hc2 hc3 x0 x1 x2 x3 x4 x5).1 =
      tilesM (fun n h => shapeCast S1x512x1 (newMax (scores (View.readAt (Elt F) arg3.view (rQ n h).toLoadRect (harg3.unread x0)) (View.readAt (Elt F) arg4.view (rW).toLoadRect (harg4.unread x1)) (View.readAt (Elt F) arg6.view (rC n h).toLoadRect (harg6.unread x3)) (View.readAt (Elt F) arg7.view (rK n h).toLoadRect (harg7.unread x4))) (arg9.view.readCov [⟨Rect.unit ![0, 0, 0] S8x512x1.size inb_S8x512x1_S8x512x1_0_0_0, k0_pay1⟩] (rM n h).toLoadRect)) shapeCasts_S512x1_S1x512x1) [⟨Rect.unit ![0, 0, 0] S8x512x1.size inb_S8x512x1_S8x512x1_0_0_0, k0_pay1⟩] := rfl

theorem runC_sum (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : cond0_0 i) (hc1 : cond0_1 i) (hc2 : ¬cond0_2 i) (hc3 : ¬cond0_3 i)
    (x0 : Vec F S1x512x1024 .bf16) (x1 : Vec F S1x512x128 .bf16) (x2 : Vec F S1x512x128 .bf16) (x3 : Vec F S1x512x8 .f32) (x4 : Vec F S1x8x512 .f32) (x5 : Vec F S1x512x512 .f32) :
    (kernelRun0_C c i arg3 harg3 arg4 harg4 arg5 harg5 arg6 harg6 arg7 harg7 arg8 harg8 arg9 harg9 arg10 harg10 arg11 harg11 hc0 hc1 hc2 hc3 x0 x1 x2 x3 x4 x5).2.1 =
      tilesM (fun n h => shapeCast S1x512x1 (newSum (scores (View.readAt (Elt F) arg3.view (rQ n h).toLoadRect (harg3.unread x0)) (View.readAt (Elt F) arg4.view (rW).toLoadRect (harg4.unread x1)) (View.readAt (Elt F) arg6.view (rC n h).toLoadRect (harg6.unread x3)) (View.readAt (Elt F) arg7.view (rK n h).toLoadRect (harg7.unread x4))) (arg9.view.readCov [⟨Rect.unit ![0, 0, 0] S8x512x1.size inb_S8x512x1_S8x512x1_0_0_0, k0_pay1⟩] (rM n h).toLoadRect) (arg10.view.readCov [⟨Rect.unit ![0, 0, 0] S8x512x1.size inb_S8x512x1_S8x512x1_0_0_0, k0_pay2⟩] (rM n h).toLoadRect)) shapeCasts_S512x1_S1x512x1) [⟨Rect.unit ![0, 0, 0] S8x512x1.size inb_S8x512x1_S8x512x1_0_0_0, k0_pay2⟩] := rfl

theorem runC_acc (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : cond0_0 i) (hc1 : cond0_1 i) (hc2 : ¬cond0_2 i) (hc3 : ¬cond0_3 i)
    (x0 : Vec F S1x512x1024 .bf16) (x1 : Vec F S1x512x128 .bf16) (x2 : Vec F S1x512x128 .bf16) (x3 : Vec F S1x512x8 .f32) (x4 : Vec F S1x8x512 .f32) (x5 : Vec F S1x512x512 .f32) :
    (kernelRun0_C c i arg3 harg3 arg4 harg4 arg5 harg5 arg6 harg6 arg7 harg7 arg8 harg8 arg9 harg9 arg10 harg10 arg11 harg11 hc0 hc1 hc2 hc3 x0 x1 x2 x3 x4 x5).2.2.1 =
      tilesA (fun n h => shapeCast S1x512x128 (newAcc (scores (View.readAt (Elt F) arg3.view (rQ n h).toLoadRect (harg3.unread x0)) (View.readAt (Elt F) arg4.view (rW).toLoadRect (harg4.unread x1)) (View.readAt (Elt F) arg6.view (rC n h).toLoadRect (harg6.unread x3)) (View.readAt (Elt F) arg7.view (rK n h).toLoadRect (harg7.unread x4))) (arg9.view.readCov [⟨Rect.unit ![0, 0, 0] S8x512x1.size inb_S8x512x1_S8x512x1_0_0_0, k0_pay1⟩] (rM n h).toLoadRect) (arg11.view.readCov [⟨Rect.unit ![0, 0, 0] S8x512x128.size inb_S8x512x128_S8x512x128_0_0_0, k0_pay3⟩] (rA n h).toLoadRect) (View.readAt (Elt F) arg5.view (rW).toLoadRect (harg5.unread x2))) shapeCasts_S512x128_S1x512x128) [⟨Rect.unit ![0, 0, 0] S8x512x128.size inb_S8x512x128_S8x512x128_0_0_0, k0_pay3⟩] := rfl

end Cert.KernelIdeal.Flash

end
-- ==== Proof.FoxUpdC.lean ====
/-
  Case C: what one head of one row is made into.
-/
module

public import proofs.«01_k».proof.Proof.FoxTiles
public import proofs.«01_k».proof.Proof.FoxAt
public import Idealize.ShloMosaic.Lib.WholeRead
public import proofs.«01_k».proof.Proof.FoxElem
public import proofs.«01_k».proof.Proof.FoxPiecesC

@[expose] public section

set_option maxRecDepth 16384

noncomputable section

namespace Cert.KernelIdeal.Flash

open Cert.KernelIdeal.Gen Cert.KernelIdeal.Facts
open Idealize.ShloMosaic Idealize.ShloMosaic.TcCoe

variable (m : (ℓ : Loc nD τ sig) → Buf (Elt Ideal) ℓ)

theorem stC_max (c : Dev nD) (t : Fin cfg0.N) (h0 : t.val % 16 = 0) (h1 : t.val % 16 + 1 ≤ t.val / 16 % 16) (h2 : ¬t.val / 16 % 16 = t.val % 16) (n : Fin 8) (r : Fin 512) :
    (stC m c t h0 h1 h2).1 (ix3 n r 0) = newMax (scv m c t n) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (ix2 r 0) := by
  have e : (stC m c t h0 h1 h2).1 = View.canon (Val := Elt Ideal) (runC m c t h0 h1 h2 (Pipeline.Dat.unnamed (cfg := cfg0) 5 t)).1 := by
    unfold stC; dsimp only; rw [View.read_writes_junk_eq_canon]
  rw [e]
  rw [runC_max, canon_tilesM]
  exact cast_col _ r

theorem stC_sum (c : Dev nD) (t : Fin cfg0.N) (h0 : t.val % 16 = 0) (h1 : t.val % 16 + 1 ≤ t.val / 16 % 16) (h2 : ¬t.val / 16 % 16 = t.val % 16) (n : Fin 8) (r : Fin 512) :
    (stC m c t h0 h1 h2).2.1 (ix3 n r 0) = newSum (scv m c t n) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (scM0_1.view.readCov [(⟨Rect.unit ![0, 0, 0] S8x512x1.size inb_S8x512x1_S8x512x1_0_0_0, k0_pay2 (F := Ideal)⟩ : View.Piece (Elt Ideal) S8x512x1 .f32)] (rM n.val n.isLt).toLoadRect) (ix2 r 0) := by
  have e : (stC m c t h0 h1 h2).2.1 = View.canon (Val := Elt Ideal) (runC m c t h0 h1 h2 (Pipeline.Dat.unnamed (cfg := cfg0) 5 t)).2.1 := by
    unfold stC; dsimp only; rw [View.read_writes_junk_eq_canon]
  rw [e]
  rw [runC_sum, canon_tilesM]
  exact cast_col _ r

theorem stC_acc (c : Dev nD) (t : Fin cfg0.N) (h0 : t.val % 16 = 0) (h1 : t.val % 16 + 1 ≤ t.val / 16 % 16) (h2 : ¬t.val / 16 % 16 = t.val % 16) (n : Fin 8) (r : Fin 512) (d : Fin 128) :
    (stC m c t h0 h1 h2).2.2 (ix3 n r d) = newAcc (scv m c t n) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (scM0_2.view.readCov [(⟨Rect.unit ![0, 0, 0] S8x512x128.size inb_S8x512x128_S8x512x128_0_0_0, k0_pay3 (F := Ideal)⟩ : View.Piece (Elt Ideal) S8x512x128 .f32)] (rA n.val n.isLt).toLoadRect) (vlv m c t) (ix2 r d) := by
  have e : (stC m c t h0 h1 h2).2.2 = View.canon (Val := Elt Ideal) (runC m c t h0 h1 h2 (Pipeline.Dat.unnamed (cfg := cfg0) 5 t)).2.2.1 := by
    unfold stC; dsimp only; rw [View.read_writes_junk_eq_canon]
  rw [e]
  rw [runC_acc, canon_tilesA]
  exact cast_acc _ r d

theorem stC_upd (c : Dev nD) (t : Fin cfg0.N) (h0 : t.val % 16 = 0) (h1 : t.val % 16 + 1 ≤ t.val / 16 % 16) (h2 : ¬t.val / 16 % 16 = t.val % 16) (n : Fin 8) (r : Fin 512) :
    Upd ⊥ 0 (fun _ => 0) (fun x => scoreE m c t n r x) (valE m c t)
      ((stC m c t h0 h1 h2).1 (ix3 n r 0)) ((stC m c t h0 h1 h2).2.1 (ix3 n r 0)) (fun d => (stC m c t h0 h1 h2).2.2 (ix3 n r d)) := by
  have h := upd_at (scv m c t n) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (scM0_1.view.readCov [(⟨Rect.unit ![0, 0, 0] S8x512x1.size inb_S8x512x1_S8x512x1_0_0_0, k0_pay2 (F := Ideal)⟩ : View.Piece (Elt Ideal) S8x512x1 .f32)] (rM n.val n.isLt).toLoadRect) (scM0_2.view.readCov [(⟨Rect.unit ![0, 0, 0] S8x512x128.size inb_S8x512x128_S8x512x128_0_0_0, k0_pay3 (F := Ideal)⟩ : View.Piece (Elt Ideal) S8x512x128 .f32)] (rA n.val n.isLt).toLoadRect) (vlv m c t) r
  have es : (fun x => (scv m c t n) (ix2 r x)) = (fun x => scoreE m c t n r x) := funext fun x => scv_at m c t n r x
  have em : (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (ix3 0 r 0) = ⊥ := by rw [View.readCov_eq_canon']; exact (canon_wholeM _ _).trans (pay1_at _)
  have el : (scM0_1.view.readCov [(⟨Rect.unit ![0, 0, 0] S8x512x1.size inb_S8x512x1_S8x512x1_0_0_0, k0_pay2 (F := Ideal)⟩ : View.Piece (Elt Ideal) S8x512x1 .f32)] (rM n.val n.isLt).toLoadRect) (ix3 0 r 0) = 0 := by rw [View.readCov_eq_canon']; exact (canon_wholeM _ _).trans (pay2_at _)
  have ea : (fun d => (scM0_2.view.readCov [(⟨Rect.unit ![0, 0, 0] S8x512x128.size inb_S8x512x128_S8x512x128_0_0_0, k0_pay3 (F := Ideal)⟩ : View.Piece (Elt Ideal) S8x512x128 .f32)] (rA n.val n.isLt).toLoadRect) (ix3 0 r d)) = (fun _ => 0) := funext fun d => by rw [View.readCov_eq_canon']; exact (canon_wholeA _ _).trans (pay3_at _)
  have ev : (fun x d => vlv m c t (ix3 0 x d)) = valE m c t := funext fun x => funext fun d => vlv_at m c t x d
  rw [es, em, el, ea, ev] at h
  rw [stC_max, stC_sum, funext fun d => stC_acc m c t h0 h1 h2 n r d]
  exact h

end Cert.KernelIdeal.Flash

end
-- ==== Proof.FoxPiecesD.lean ====
/-
  The flash body at a point of case D: what it stores, head by head.
-/
module

public import proofs.«01_k».proof.Proof.FoxRects
public import proofs.«01_k».proof.Proof.FoxRunD

@[expose] public section

set_option maxRecDepth 65536

noncomputable section

namespace Cert.KernelIdeal.Flash

open Cert.KernelIdeal.Gen Cert.KernelIdeal.Facts
open Idealize.ShloMosaic Idealize.ShloMosaic.TcCoe

variable {F : FTy → Type} [FloatOps F] [Named F]

theorem runD_max (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : ¬cond0_0 i) (hc1 : ¬cond0_1 i) (hc2 : cond0_2 i) (hc3 : cond0_3 i)
    (x0 : Vec F S1x512x1024 .bf16) (x1 : Vec F S1x512x128 .bf16) (x2 : Vec F S1x512x128 .bf16) (x3 : Vec F S1x512x8 .f32) (x4 : Vec F S1x8x512 .f32) (xs0 : Vec F S8x512x1 .f32) (xs1 : Vec F S8x512x1 .f32) (xs2 : Vec F S8x512x128 .f32) :
    (kernelRun0_D c i arg3 harg3 arg4 harg4 arg5 harg5 arg6 harg6 arg7 harg7 arg8 harg8 arg9 harg9 arg10 harg10 arg11 harg11 hc0 hc1 hc2 hc3 x0 x1 x2 x3 x4 xs0 xs1 xs2).2.1 =
      tilesM (fun n h => shapeCast S1x512x1 (newMax (masked (BitVec.ofNat 32 (i 1).val) (BitVec.ofNat 32 (i 2).val) (scores (View.readAt (Elt F) arg3.view (rQ n h).toLoadRect (harg3.unread x0)) (View.readAt (Elt F) arg4.view (rW).toLoadRect (harg4.unread x1)) (View.readAt (Elt F) arg6.view (rC n h).toLoadRect (harg6.unread x3)) (View.readAt (Elt F) arg7.view (rK n h).toLoadRect (harg7.unread x4)))) (View.readAt (Elt F) arg9.view (rM n h).toLoadRect (harg9.unread xs0))) shapeCasts_S512x1_S1x512x1) [] := rfl

theorem runD_sum (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : ¬cond0_0 i) (hc1 : ¬cond0_1 i) (hc2 : cond0_2 i) (hc3 : cond0_3 i)
    (x0 : Vec F S1x512x1024 .bf16) (x1 : Vec F S1x512x128 .bf16) (x2 : Vec F S1x512x128 .bf16) (x3 : Vec F S1x512x8 .f32) (x4 : Vec F S1x8x512 .f32) (xs0 : Vec F S8x512x1 .f32) (xs1 : Vec F S8x512x1 .f32) (xs2 : Vec F S8x512x128 .f32) :
    (kernelRun0_D c i arg3 harg3 arg4 harg4 arg5 harg5 arg6 harg6 arg7 harg7 arg8 harg8 arg9 harg9 arg10 harg10 arg11 harg11 hc0 hc1 hc2 hc3 x0 x1 x2 x3 x4 xs0 xs1 xs2).2.2.1 =
      tilesM (fun n h => shapeCast S1x512x1 (newSum (masked (BitVec.ofNat 32 (i 1).val) (BitVec.ofNat 32 (i 2).val) (scores (View.readAt (Elt F) arg3.view (rQ n h).toLoadRect (harg3.unread x0)) (View.readAt (Elt F) arg4.view (rW).toLoadRect (harg4.unread x1)) (View.readAt (Elt F) arg6.view (rC n h).toLoadRect (harg6.unread x3)) (View.readAt (Elt F) arg7.view (rK n h).toLoadRect (harg7.unread x4)))) (View.readAt (Elt F) arg9.view (rM n h).toLoadRect (harg9.unread xs0)) (View.readAt (Elt F) arg10.view (rM n h).toLoadRect (harg10.unread xs1))) shapeCasts_S512x1_S1x512x1) [] := rfl

theorem runD_acc (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : ¬cond0_0 i) (hc1 : ¬cond0_1 i) (hc2 : cond0_2 i) (hc3 : cond0_3 i)
    (x0 : Vec F S1x512x1024 .bf16) (x1 : Vec F S1x512x128 .bf16) (x2 : Vec F S1x512x128 .bf16) (x3 : Vec F S1x512x8 .f32) (x4 : Vec F S1x8x512 .f32) (xs0 : Vec F S8x512x1 .f32) (xs1 : Vec F S8x512x1 .f32) (xs2 : Vec F S8x512x128 .f32) :
    (kernelRun0_D c i arg3 harg3 arg4 harg4 arg5 harg5 arg6 harg6 arg7 harg7 arg8 harg8 arg9 harg9 arg10 harg10 arg11 harg11 hc0 hc1 hc2 hc3 x0 x1 x2 x3 x4 xs0 xs1 xs2).2.2.2.1 =
      tilesA (fun n h => shapeCast S1x512x128 (newAcc (masked (BitVec.ofNat 32 (i 1).val) (BitVec.ofNat 32 (i 2).val) (scores (View.readAt (Elt F) arg3.view (rQ n h).toLoadRect (harg3.unread x0)) (View.readAt (Elt F) arg4.view (rW).toLoadRect (harg4.unread x1)) (View.readAt (Elt F) arg6.view (rC n h).toLoadRect (harg6.unread x3)) (View.readAt (Elt F) arg7.view (rK n h).toLoadRect (harg7.unread x4)))) (View.readAt (Elt F) arg9.view (rM n h).toLoadRect (harg9.unread xs0)) (View.readAt (Elt F) arg11.view (rA n h).toLoadRect (harg11.unread xs2)) (View.readAt (Elt F) arg5.view (rW).toLoadRect (harg5.unread x2))) shapeCasts_S512x128_S1x512x128) [] := rfl

theorem runD_out (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : ¬cond0_0 i) (hc1 : ¬cond0_1 i) (hc2 : cond0_2 i) (hc3 : cond0_3 i)
    (x0 : Vec F S1x512x1024 .bf16) (x1 : Vec F S1x512x128 .bf16) (x2 : Vec F S1x512x128 .bf16) (x3 : Vec F S1x512x8 .f32) (x4 : Vec F S1x8x512 .f32) (xs0 : Vec F S8x512x1 .f32) (xs1 : Vec F S8x512x1 .f32) (xs2 : Vec F S8x512x128 .f32) :
    (kernelRun0_D c i arg3 harg3 arg4 harg4 arg5 harg5 arg6 harg6 arg7 harg7 arg8 harg8 arg9 harg9 arg10 harg10 arg11 harg11 hc0 hc1 hc2 hc3 x0 x1 x2 x3 x4 xs0 xs1 xs2).1 =
      tilesO (fun n h => shapeCast S1x512x64 (extractStridedSlice S512x64 ![0, 64 * (n / 4)] (divf (shapeCast S512x128 (arg11.view.readCov (kernelRun0_D c i arg3 harg3 arg4 harg4 arg5 harg5 arg6 harg6 arg7 harg7 arg8 harg8 arg9 harg9 arg10 harg10 arg11 harg11 hc0 hc1 hc2 hc3 x0 x1 x2 x3 x4 xs0 xs1 xs2).2.2.2.1 (rA n h).toLoadRect) shapeCasts_S1x512x128_S512x128)
        (broadcastTo S512x128 (shapeCast S512x1 (arg10.view.readCov (kernelRun0_D c i arg3 harg3 arg4 harg4 arg5 harg5 arg6 harg6 arg7 harg7 arg8 harg8 arg9 harg9 arg10 harg10 arg11 harg11 hc0 hc1 hc2 hc3 x0 x1 x2 x3 x4 xs0 xs1 xs2).2.2.1 (rM n h).toLoadRect) shapeCasts_S1x512x1_S512x1) broadcasts_S512x1_S512x128)) (sliceO n h)) shapeCasts_S512x64_S1x512x64) [] := rfl

end Cert.KernelIdeal.Flash

end
-- ==== Proof.FoxUpdD.lean ====
/-
  Case D: what one head of one row is made into.
-/
module

public import proofs.«01_k».proof.Proof.FoxTiles
public import proofs.«01_k».proof.Proof.FoxAt
public import Idealize.ShloMosaic.Lib.WholeRead
public import proofs.«01_k».proof.Proof.FoxElem
public import proofs.«01_k».proof.Proof.FoxPiecesD

@[expose] public section

set_option maxRecDepth 16384

noncomputable section

namespace Cert.KernelIdeal.Flash

open Cert.KernelIdeal.Gen Cert.KernelIdeal.Facts
open Idealize.ShloMosaic Idealize.ShloMosaic.TcCoe

variable (m : (ℓ : Loc nD τ sig) → Buf (Elt Ideal) ℓ)

theorem stD_max (c : Dev nD) (t : Fin cfg0.N) (h0 : ¬t.val % 16 = 0) (h1 : ¬t.val % 16 + 1 ≤ t.val / 16 % 16) (h2 : t.val / 16 % 16 = t.val % 16) (s : St Ideal) (n : Fin 8) (r : Fin 512) :
    (stD m c t h0 h1 h2 s).1 (ix3 n r 0) = newMax (masked (BitVec.ofNat 32 (grid0.coords t 1).val) (BitVec.ofNat 32 (grid0.coords t 2).val) (scv m c t n)) (View.readAt (Elt Ideal) scM0_0.view (rM n.val n.isLt).toLoadRect ((Memref.isWhole_whole _ : scM0_0.IsWhole).unread s.1)) (ix2 r 0) := by
  have e : (stD m c t h0 h1 h2 s).1 = View.canon (Val := Elt Ideal) (runD m c t h0 h1 h2 s).2.1 := by
    unfold stD; dsimp only; rw [View.read_writes_junk_eq_canon]
  rw [e]
  rw [runD_max, canon_tilesM]
  exact cast_col _ r

theorem stD_sum (c : Dev nD) (t : Fin cfg0.N) (h0 : ¬t.val % 16 = 0) (h1 : ¬t.val % 16 + 1 ≤ t.val / 16 % 16) (h2 : t.val / 16 % 16 = t.val % 16) (s : St Ideal) (n : Fin 8) (r : Fin 512) :
    (stD m c t h0 h1 h2 s).2.1 (ix3 n r 0) = newSum (masked (BitVec.ofNat 32 (grid0.coords t 1).val) (BitVec.ofNat 32 (grid0.coords t 2).val) (scv m c t n)) (View.readAt (Elt Ideal) scM0_0.view (rM n.val n.isLt).toLoadRect ((Memref.isWhole_whole _ : scM0_0.IsWhole).unread s.1)) (View.readAt (Elt Ideal) scM0_1.view (rM n.val n.isLt).toLoadRect ((Memref.isWhole_whole _ : scM0_1.IsWhole).unread s.2.1)) (ix2 r 0) := by
  have e : (stD m c t h0 h1 h2 s).2.1 = View.canon (Val := Elt Ideal) (runD m c t h0 h1 h2 s).2.2.1 := by
    unfold stD; dsimp only; rw [View.read_writes_junk_eq_canon]
  rw [e]
  rw [runD_sum, canon_tilesM]
  exact cast_col _ r

theorem stD_acc (c : Dev nD) (t : Fin cfg0.N) (h0 : ¬t.val % 16 = 0) (h1 : ¬t.val % 16 + 1 ≤ t.val / 16 % 16) (h2 : t.val / 16 % 16 = t.val % 16) (s : St Ideal) (n : Fin 8) (r : Fin 512) (d : Fin 128) :
    (stD m c t h0 h1 h2 s).2.2 (ix3 n r d) = newAcc (masked (BitVec.ofNat 32 (grid0.coords t 1).val) (BitVec.ofNat 32 (grid0.coords t 2).val) (scv m c t n)) (View.readAt (Elt Ideal) scM0_0.view (rM n.val n.isLt).toLoadRect ((Memref.isWhole_whole _ : scM0_0.IsWhole).unread s.1)) (View.readAt (Elt Ideal) scM0_2.view (rA n.val n.isLt).toLoadRect ((Memref.isWhole_whole _ : scM0_2.IsWhole).unread s.2.2)) (vlv m c t) (ix2 r d) := by
  have e : (stD m c t h0 h1 h2 s).2.2 = View.canon (Val := Elt Ideal) (runD m c t h0 h1 h2 s).2.2.2.1 := by
    unfold stD; dsimp only; rw [View.read_writes_junk_eq_canon]
  rw [e]
  rw [runD_acc, canon_tilesA]
  exact cast_acc _ r d

theorem stD_upd (c : Dev nD) (t : Fin cfg0.N) (h0 : ¬t.val % 16 = 0) (h1 : ¬t.val % 16 + 1 ≤ t.val / 16 % 16) (h2 : t.val / 16 % 16 = t.val % 16) (s : St Ideal) (n : Fin 8) (r : Fin 512) :
    Upd (s.1 (ix3 n r 0)) (s.2.1 (ix3 n r 0)) (fun d => s.2.2 (ix3 n r d)) (fun x => if x.val ≤ r.val then scoreE m c t n r x else ⊥) (valE m c t)
      ((stD m c t h0 h1 h2 s).1 (ix3 n r 0)) ((stD m c t h0 h1 h2 s).2.1 (ix3 n r 0)) (fun d => (stD m c t h0 h1 h2 s).2.2 (ix3 n r d)) := by
  have h := upd_at (masked (BitVec.ofNat 32 (grid0.coords t 1).val) (BitVec.ofNat 32 (grid0.coords t 2).val) (scv m c t n)) (View.readAt (Elt Ideal) scM0_0.view (rM n.val n.isLt).toLoadRect ((Memref.isWhole_whole _ : scM0_0.IsWhole).unread s.1)) (View.readAt (Elt Ideal) scM0_1.view (rM n.val n.isLt).toLoadRect ((Memref.isWhole_whole _ : scM0_1.IsWhole).unread s.2.1)) (View.readAt (Elt Ideal) scM0_2.view (rA n.val n.isLt).toLoadRect ((Memref.isWhole_whole _ : scM0_2.IsWhole).unread s.2.2)) (vlv m c t) r
  have es : (fun x => (masked (BitVec.ofNat 32 (grid0.coords t 1).val) (BitVec.ofNat 32 (grid0.coords t 2).val) (scv m c t n)) (ix2 r x)) = (fun x => if x.val ≤ r.val then scoreE m c t n r x else ⊥) := funext fun x => (mscv_at c t h2 _ r x).trans (by rw [scv_at])
  have em : (View.readAt (Elt Ideal) scM0_0.view (rM n.val n.isLt).toLoadRect ((Memref.isWhole_whole _ : scM0_0.IsWhole).unread s.1)) (ix3 0 r 0) = (s.1 (ix3 n r 0)) := by rw [Memref.IsWhole.readAt_unread, idx_rM]
  have el : (View.readAt (Elt Ideal) scM0_1.view (rM n.val n.isLt).toLoadRect ((Memref.isWhole_whole _ : scM0_1.IsWhole).unread s.2.1)) (ix3 0 r 0) = (s.2.1 (ix3 n r 0)) := by rw [Memref.IsWhole.readAt_unread, idx_rM]
  have ea : (fun d => (View.readAt (Elt Ideal) scM0_2.view (rA n.val n.isLt).toLoadRect ((Memref.isWhole_whole _ : scM0_2.IsWhole).unread s.2.2)) (ix3 0 r d)) = (fun d => s.2.2 (ix3 n r d)) := funext fun d => by rw [Memref.IsWhole.readAt_unread, idx_rA]
  have ev : (fun x d => vlv m c t (ix3 0 x d)) = valE m c t := funext fun x => funext fun d => vlv_at m c t x d
  rw [es, em, el, ea, ev] at h
  rw [stD_max, stD_sum, funext fun d => stD_acc m c t h0 h1 h2 s n r d]
  exact h

theorem outD_at (c : Dev nD) (t : Fin cfg0.N) (h0 : ¬t.val % 16 = 0) (h1 : ¬t.val % 16 + 1 ≤ t.val / 16 % 16) (h2 : t.val / 16 % 16 = t.val % 16) (s : St Ideal) (n : Fin 8) (r : Fin 512) (d : Fin 64) :
    outD m c t h0 h1 h2 s (ix3 0 r (outLane n d)) =
      Ideal.div ((stD m c t h0 h1 h2 s).2.2 (ix3 n r ⟨64 * (n.val / 4) + d.val, by have := n.isLt; have := d.isLt; omega⟩)) ((stD m c t h0 h1 h2 s).2.1 (ix3 n r 0)) := by
  have e : outD m c t h0 h1 h2 s = View.canon (Val := Elt Ideal) (runD m c t h0 h1 h2 s).1 := by
    unfold outD; rw [View.read_writes_junk_eq_canon]
  have e1 : (stD m c t h0 h1 h2 s).2.1 = View.canon (Val := Elt Ideal) (runD m c t h0 h1 h2 s).2.2.1 := by
    unfold stD; dsimp only; rw [View.read_writes_junk_eq_canon]
  have e2 : (stD m c t h0 h1 h2 s).2.2 = View.canon (Val := Elt Ideal) (runD m c t h0 h1 h2 s).2.2.2.1 := by
    unfold stD; dsimp only; rw [View.read_writes_junk_eq_canon]
  rw [e, runD_out, canon_tilesO]
  refine (out_at _ _ n r d).trans ?_
  rw [readCov_rA, readCov_rM]
  exact congrArg₂ Ideal.div (congrFun e2.symm _) (congrFun e1.symm _)

end Cert.KernelIdeal.Flash

end
-- ==== Proof.FoxPiecesE.lean ====
/-
  The flash body at a point of case E: what it stores, head by head.
-/
module

public import proofs.«01_k».proof.Proof.FoxRects
public import proofs.«01_k».proof.Proof.FoxRunE

@[expose] public section

set_option maxRecDepth 65536

noncomputable section

namespace Cert.KernelIdeal.Flash

open Cert.KernelIdeal.Gen Cert.KernelIdeal.Facts
open Idealize.ShloMosaic Idealize.ShloMosaic.TcCoe

variable {F : FTy → Type} [FloatOps F] [Named F]

theorem runE_max (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : ¬cond0_0 i) (hc1 : cond0_1 i) (hc2 : ¬cond0_2 i) (hc3 : ¬cond0_3 i)
    (x0 : Vec F S1x512x1024 .bf16) (x1 : Vec F S1x512x128 .bf16) (x2 : Vec F S1x512x128 .bf16) (x3 : Vec F S1x512x8 .f32) (x4 : Vec F S1x8x512 .f32) (x5 : Vec F S1x512x512 .f32) (xs0 : Vec F S8x512x1 .f32) (xs1 : Vec F S8x512x1 .f32) (xs2 : Vec F S8x512x128 .f32) :
    (kernelRun0_E c i arg3 harg3 arg4 harg4 arg5 harg5 arg6 harg6 arg7 harg7 arg8 harg8 arg9 harg9 arg10 harg10 arg11 harg11 hc0 hc1 hc2 hc3 x0 x1 x2 x3 x4 x5 xs0 xs1 xs2).1 =
      tilesM (fun n h => shapeCast S1x512x1 (newMax (scores (View.readAt (Elt F) arg3.view (rQ n h).toLoadRect (harg3.unread x0)) (View.readAt (Elt F) arg4.view (rW).toLoadRect (harg4.unread x1)) (View.readAt (Elt F) arg6.view (rC n h).toLoadRect (harg6.unread x3)) (View.readAt (Elt F) arg7.view (rK n h).toLoadRect (harg7.unread x4))) (View.readAt (Elt F) arg9.view (rM n h).toLoadRect (harg9.unread xs0))) shapeCasts_S512x1_S1x512x1) [] := rfl

theorem runE_sum (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : ¬cond0_0 i) (hc1 : cond0_1 i) (hc2 : ¬cond0_2 i) (hc3 : ¬cond0_3 i)
    (x0 : Vec F S1x512x1024 .bf16) (x1 : Vec F S1x512x128 .bf16) (x2 : Vec F S1x512x128 .bf16) (x3 : Vec F S1x512x8 .f32) (x4 : Vec F S1x8x512 .f32) (x5 : Vec F S1x512x512 .f32) (xs0 : Vec F S8x512x1 .f32) (xs1 : Vec F S8x512x1 .f32) (xs2 : Vec F S8x512x128 .f32) :
    (kernelRun0_E c i arg3 harg3 arg4 harg4 arg5 harg5 arg6 harg6 arg7 harg7 arg8 harg8 arg9 harg9 arg10 harg10 arg11 harg11 hc0 hc1 hc2 hc3 x0 x1 x2 x3 x4 x5 xs0 xs1 xs2).2.1 =
      tilesM (fun n h => shapeCast S1x512x1 (newSum (scores (View.readAt (Elt F) arg3.view (rQ n h).toLoadRect (harg3.unread x0)) (View.readAt (Elt F) arg4.view (rW).toLoadRect (harg4.unread x1)) (View.readAt (Elt F) arg6.view (rC n h).toLoadRect (harg6.unread x3)) (View.readAt (Elt F) arg7.view (rK n h).toLoadRect (harg7.unread x4))) (View.readAt (Elt F) arg9.view (rM n h).toLoadRect (harg9.unread xs0)) (View.readAt (Elt F) arg10.view (rM n h).toLoadRect (harg10.unread xs1))) shapeCasts_S512x1_S1x512x1) [] := rfl

theorem runE_acc (c : Dev nD) (i : grid0.Coords) (arg3 : Memref sig .tc .vmem S1x512x1024 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x8 .f32) (harg6 : arg6.IsWhole) (arg7 : Memref sig .tc .vmem S1x8x512 .f32) (harg7 : arg7.IsWhole) (arg8 : Memref sig .tc .vmem S1x512x512 .f32) (harg8 : arg8.IsWhole) (arg9 : Memref sig .tc .vmem S8x512x1 .f32) (harg9 : arg9.IsWhole) (arg10 : Memref sig .tc .vmem S8x512x1 .f32) (harg10 : arg10.IsWhole) (arg11 : Memref sig .tc .vmem S8x512x128 .f32) (harg11 : arg11.IsWhole) (hc0 : ¬cond0_0 i) (hc1 : cond0_1 i) (hc2 : ¬cond0_2 i) (hc3 : ¬cond0_3 i)
    (x0 : Vec F S1x512x1024 .bf16) (x1 : Vec F S1x512x128 .bf16) (x2 : Vec F S1x512x128 .bf16) (x3 : Vec F S1x512x8 .f32) (x4 : Vec F S1x8x512 .f32) (x5 : Vec F S1x512x512 .f32) (xs0 : Vec F S8x512x1 .f32) (xs1 : Vec F S8x512x1 .f32) (xs2 : Vec F S8x512x128 .f32) :
    (kernelRun0_E c i arg3 harg3 arg4 harg4 arg5 harg5 arg6 harg6 arg7 harg7 arg8 harg8 arg9 harg9 arg10 harg10 arg11 harg11 hc0 hc1 hc2 hc3 x0 x1 x2 x3 x4 x5 xs0 xs1 xs2).2.2.1 =
      tilesA (fun n h => shapeCast S1x512x128 (newAcc (scores (View.readAt (Elt F) arg3.view (rQ n h).toLoadRect (harg3.unread x0)) (View.readAt (Elt F) arg4.view (rW).toLoadRect (harg4.unread x1)) (View.readAt (Elt F) arg6.view (rC n h).toLoadRect (harg6.unread x3)) (View.readAt (Elt F) arg7.view (rK n h).toLoadRect (harg7.unread x4))) (View.readAt (Elt F) arg9.view (rM n h).toLoadRect (harg9.unread xs0)) (View.readAt (Elt F) arg11.view (rA n h).toLoadRect (harg11.unread xs2)) (View.readAt (Elt F) arg5.view (rW).toLoadRect (harg5.unread x2))) shapeCasts_S512x128_S1x512x128) [] := rfl

end Cert.KernelIdeal.Flash

end
-- ==== Proof.FoxUpdE.lean ====
/-
  Case E: what one head of one row is made into.
-/
module

public import proofs.«01_k».proof.Proof.FoxTiles
public import proofs.«01_k».proof.Proof.FoxAt
public import Idealize.ShloMosaic.Lib.WholeRead
public import proofs.«01_k».proof.Proof.FoxElem
public import proofs.«01_k».proof.Proof.FoxPiecesE

@[expose] public section

set_option maxRecDepth 16384

noncomputable section

namespace Cert.KernelIdeal.Flash

open Cert.KernelIdeal.Gen Cert.KernelIdeal.Facts
open Idealize.ShloMosaic Idealize.ShloMosaic.TcCoe

variable (m : (ℓ : Loc nD τ sig) → Buf (Elt Ideal) ℓ)

theorem stE_max (c : Dev nD) (t : Fin cfg0.N) (h0 : ¬t.val % 16 = 0) (h1 : t.val % 16 + 1 ≤ t.val / 16 % 16) (h2 : ¬t.val / 16 % 16 = t.val % 16) (s : St Ideal) (n : Fin 8) (r : Fin 512) :
    (stE m c t h0 h1 h2 s).1 (ix3 n r 0) = newMax (scv m c t n) (View.readAt (Elt Ideal) scM0_0.view (rM n.val n.isLt).toLoadRect ((Memref.isWhole_whole _ : scM0_0.IsWhole).unread s.1)) (ix2 r 0) := by
  have e : (stE m c t h0 h1 h2 s).1 = View.canon (Val := Elt Ideal) (runE m c t h0 h1 h2 (Pipeline.Dat.unnamed (cfg := cfg0) 5 t) s).1 := by
    unfold stE; dsimp only; rw [View.read_writes_junk_eq_canon]
  rw [e]
  rw [runE_max, canon_tilesM]
  exact cast_col _ r

theorem stE_sum (c : Dev nD) (t : Fin cfg0.N) (h0 : ¬t.val % 16 = 0) (h1 : t.val % 16 + 1 ≤ t.val / 16 % 16) (h2 : ¬t.val / 16 % 16 = t.val % 16) (s : St Ideal) (n : Fin 8) (r : Fin 512) :
    (stE m c t h0 h1 h2 s).2.1 (ix3 n r 0) = newSum (scv m c t n) (View.readAt (Elt Ideal) scM0_0.view (rM n.val n.isLt).toLoadRect ((Memref.isWhole_whole _ : scM0_0.IsWhole).unread s.1)) (View.readAt (Elt Ideal) scM0_1.view (rM n.val n.isLt).toLoadRect ((Memref.isWhole_whole _ : scM0_1.IsWhole).unread s.2.1)) (ix2 r 0) := by
  have e : (stE m c t h0 h1 h2 s).2.1 = View.canon (Val := Elt Ideal) (runE m c t h0 h1 h2 (Pipeline.Dat.unnamed (cfg := cfg0) 5 t) s).2.1 := by
    unfold stE; dsimp only; rw [View.read_writes_junk_eq_canon]
  rw [e]
  rw [runE_sum, canon_tilesM]
  exact cast_col _ r

theorem stE_acc (c : Dev nD) (t : Fin cfg0.N) (h0 : ¬t.val % 16 = 0) (h1 : t.val % 16 + 1 ≤ t.val / 16 % 16) (h2 : ¬t.val / 16 % 16 = t.val % 16) (s : St Ideal) (n : Fin 8) (r : Fin 512) (d : Fin 128) :
    (stE m c t h0 h1 h2 s).2.2 (ix3 n r d) = newAcc (scv m c t n) (View.readAt (Elt Ideal) scM0_0.view (rM n.val n.isLt).toLoadRect ((Memref.isWhole_whole _ : scM0_0.IsWhole).unread s.1)) (View.readAt (Elt Ideal) scM0_2.view (rA n.val n.isLt).toLoadRect ((Memref.isWhole_whole _ : scM0_2.IsWhole).unread s.2.2)) (vlv m c t) (ix2 r d) := by
  have e : (stE m c t h0 h1 h2 s).2.2 = View.canon (Val := Elt Ideal) (runE m c t h0 h1 h2 (Pipeline.Dat.unnamed (cfg := cfg0) 5 t) s).2.2.1 := by
    unfold stE; dsimp only; rw [View.read_writes_junk_eq_canon]
  rw [e]
  rw [runE_acc, canon_tilesA]
  exact cast_acc _ r d

theorem stE_upd (c : Dev nD) (t : Fin cfg0.N) (h0 : ¬t.val % 16 = 0) (h1 : t.val % 16 + 1 ≤ t.val / 16 % 16) (h2 : ¬t.val / 16 % 16 = t.val % 16) (s : St Ideal) (n : Fin 8) (r : Fin 512) :
    Upd (s.1 (ix3 n r 0)) (s.2.1 (ix3 n r 0)) (fun d => s.2.2 (ix3 n r d)) (fun x => scoreE m c t n r x) (valE m c t)
      ((stE m c t h0 h1 h2 s).1 (ix3 n r 0)) ((stE m c t h0 h1 h2 s).2.1 (ix3 n r 0)) (fun d => (stE m c t h0 h1 h2 s).2.2 (ix3 n r d)) := by
  have h := upd_at (scv m c t n) (View.readAt (Elt Ideal) scM0_0.view (rM n.val n.isLt).toLoadRect ((Memref.isWhole_whole _ : scM0_0.IsWhole).unread s.1)) (View.readAt (Elt Ideal) scM0_1.view (rM n.val n.isLt).toLoadRect ((Memref.isWhole_whole _ : scM0_1.IsWhole).unread s.2.1)) (View.readAt (Elt Ideal) scM0_2.view (rA n.val n.isLt).toLoadRect ((Memref.isWhole_whole _ : scM0_2.IsWhole).unread s.2.2)) (vlv m c t) r
  have es : (fun x => (scv m c t n) (ix2 r x)) = (fun x => scoreE m c t n r x) := funext fun x => scv_at m c t n r x
  have em : (View.readAt (Elt Ideal) scM0_0.view (rM n.val n.isLt).toLoadRect ((Memref.isWhole_whole _ : scM0_0.IsWhole).unread s.1)) (ix3 0 r 0) = (s.1 (ix3 n r 0)) := by rw [Memref.IsWhole.readAt_unread, idx_rM]
  have el : (View.readAt (Elt Ideal) scM0_1.view (rM n.val n.isLt).toLoadRect ((Memref.isWhole_whole _ : scM0_1.IsWhole).unread s.2.1)) (ix3 0 r 0) = (s.2.1 (ix3 n r 0)) := by rw [Memref.IsWhole.readAt_unread, idx_rM]
  have ea : (fun d => (View.readAt (Elt Ideal) scM0_2.view (rA n.val n.isLt).toLoadRect ((Memref.isWhole_whole _ : scM0_2.IsWhole).unread s.2.2)) (ix3 0 r d)) = (fun d => s.2.2 (ix3 n r d)) := funext fun d => by rw [Memref.IsWhole.readAt_unread, idx_rA]
  have ev : (fun x d => vlv m c t (ix3 0 x d)) = valE m c t := funext fun x => funext fun d => vlv_at m c t x d
  rw [es, em, el, ea, ev] at h
  rw [stE_max, stE_sum, funext fun d => stE_acc m c t h0 h1 h2 s n r d]
  exact h

end Cert.KernelIdeal.Flash

end
-- ==== Proof.FoxInv.lean ====
/-
  The running softmax across the points of a row of the grid, and what the row's diagonal point leaves in the output block.
-/
module

public import proofs.«01_k».proof.Proof.FoxUpdA
public import proofs.«01_k».proof.Proof.FoxUpdC
public import proofs.«01_k».proof.Proof.FoxUpdD
public import proofs.«01_k».proof.Proof.FoxUpdE

@[expose] public section

set_option maxRecDepth 16384

noncomputable section

namespace Cert.KernelIdeal.Flash

open Cert.KernelIdeal.Gen Cert.KernelIdeal.Facts
open Idealize.ShloMosaic Idealize.ShloMosaic.TcCoe
open Cert.Attn (Kept soft)

theorem Upd.kept {mp lp : EReal} {ap : Fin 128 → EReal} {sb : Fin 512 → EReal} {vb : Fin 512 → Fin 128 → EReal} {M L : EReal} {A : Fin 128 → EReal}
    (hu : Upd mp lp ap sb vb M L A) {n : ℕ} {s : ℕ → ℝ} {v : ℕ → Fin 128 → ℝ} (h : Kept n s v mp lp ap) (w : ℕ) (hw : w ≤ 512) (hw0 : 0 < w)
    (hs : ∀ x : Fin 512, sb x = if x.val < w then ((s (n + x.val) : ℝ) : EReal) else ⊥)
    (hv : ∀ x d, vb x d = ((v (n + x.val) d : ℝ) : EReal)) : Kept (n + w) s v M L A :=
  h.step 512 w hw hw0 sb vb hs hv hu.1 hu.2.1 hu.2.2

theorem kept_zero (s : ℕ → ℝ) (v : ℕ → Fin 128 → ℝ) : Kept 0 s v ⊥ 0 (fun _ => 0) := Or.inl ⟨rfl, rfl, rfl, fun _ => rfl⟩

variable (m : (ℓ : Loc nD τ sig) → Buf (Elt Ideal) ℓ) (c : Dev nD)
  (s : ℕ → ℕ → ℕ → ℕ → ℝ) (v : ℕ → ℕ → Fin 128 → ℝ)

/-- The scores and values of every point up to the diagonal are these reals, by batch, row, head and key. -/
def Reals : Prop := ∀ t : Fin cfg0.N, t.val % 16 ≤ t.val / 16 % 16 →
  (∀ (n : Fin 8) (r x : Fin 512), scoreE m c t n r x = ((s (t.val / 256) (512 * (t.val / 16 % 16) + r.val) n.val (512 * (t.val % 16) + x.val) : ℝ) : EReal)) ∧
  ∀ (x : Fin 512) (d : Fin 128), valE m c t x d = ((v (t.val / 256) (512 * (t.val % 16) + x.val) d : ℝ) : EReal)

/-- How many keys row `r` has seen after point `t`. -/
def seen (t : ℕ) (r : Fin 512) : ℕ := if t % 16 = t / 16 % 16 then 512 * (t % 16) + (r.val + 1) else 512 * (t % 16) + 512

variable {m c s v}

theorem kept_at (hR : Reals m c s v) : ∀ (k : ℕ) (hk : k < cfg0.N), k % 16 ≤ k / 16 % 16 → ∀ (n : Fin 8) (r : Fin 512),
    Kept (seen k r) (s (k / 256) (512 * (k / 16 % 16) + r.val) n.val) (v (k / 256))
      ((stAt m c k hk).1 (ix3 n r 0)) ((stAt m c k hk).2.1 (ix3 n r 0)) (fun d => (stAt m c k hk).2.2 (ix3 n r d)) := by
  intro k
  induction k using Nat.strong_induction_on with
  | _ k ih =>
  intro hk hle n r
  obtain ⟨hS, hV⟩ := hR ⟨k, hk⟩ hle
  have hr := r.isLt
  by_cases h0 : k % 16 = 0
  · by_cases h1 : k % 16 + 1 ≤ k / 16 % 16
    · have h2 : ¬ k / 16 % 16 = k % 16 := by omega
      rw [stAt_C m c ⟨k, hk⟩ h0 h1 h2]
      have := (stC_upd m c ⟨k, hk⟩ h0 h1 h2 n r).kept (kept_zero (s (k / 256) (512 * (k / 16 % 16) + r.val) n.val) (v (k / 256))) 512 le_rfl (by decide)
        (fun x => by rw [if_pos x.isLt, hS]; simp only [h0, Nat.mul_zero])
        (fun x d => by rw [hV]; simp only [h0, Nat.mul_zero])
      have e : seen k r = 0 + 512 := by unfold seen; rw [if_neg (by omega), h0]
      rw [e]; exact this
    · have h2 : k / 16 % 16 = k % 16 := by omega
      rw [stAt_A m c ⟨k, hk⟩ h0 h1 h2]
      have := (stA_upd m c ⟨k, hk⟩ h0 h1 h2 n r).kept (kept_zero (s (k / 256) (512 * (k / 16 % 16) + r.val) n.val) (v (k / 256))) (r.val + 1) (by omega) (by omega)
        (fun x => by
          simp only [Nat.lt_succ_iff]
          split
          · rw [hS]; simp only [h0, Nat.mul_zero]
          · rfl)
        (fun x d => by rw [hV]; simp only [h0, Nat.mul_zero])
      have e : seen k r = 0 + (r.val + 1) := by unfold seen; rw [if_pos h2.symm, h0]
      rw [e]; exact this
  · have hq : (k - 1) / 16 = k / 16 := by omega
    have hq' : (k - 1) / 256 = k / 256 := by omega
    have hm : 512 * ((k - 1) % 16) + 512 = 512 * (k % 16) := by omega
    have hp := ih (k - 1) (by omega) (by omega) (by omega) n r
    have e0 : seen (k - 1) r = 512 * (k % 16) := by unfold seen; rw [if_neg (by omega), hm]
    rw [e0, hq, hq'] at hp
    by_cases h1 : k % 16 + 1 ≤ k / 16 % 16
    · have h2 : ¬ k / 16 % 16 = k % 16 := by omega
      rw [stAt_E m c ⟨k, hk⟩ h0 h1 h2]
      have := (stE_upd m c ⟨k, hk⟩ h0 h1 h2 _ n r).kept hp 512 le_rfl (by decide)
        (fun x => by rw [if_pos x.isLt, hS])
        (fun x d => by rw [hV])
      have e : seen k r = 512 * (k % 16) + 512 := by unfold seen; rw [if_neg (by omega)]
      rw [e]; exact this
    · have h2 : k / 16 % 16 = k % 16 := by omega
      rw [stAt_D m c ⟨k, hk⟩ h0 h1 h2]
      have := (stD_upd m c ⟨k, hk⟩ h0 h1 h2 _ n r).kept hp (r.val + 1) (by omega) (by omega)
        (fun x => by
          simp only [Nat.lt_succ_iff]
          split
          · rw [hS]
          · rfl)
        (fun x d => by rw [hV])
      have e : seen k r = 512 * (k % 16) + (r.val + 1) := by unfold seen; rw [if_pos h2.symm]
      rw [e]; exact this

/-- The output block of a diagonal point: each row's softmax average over the keys up to the row. -/
theorem outBlk_at (hR : Reals m c s v) (t : Fin cfg0.N) (h2 : t.val / 16 % 16 = t.val % 16) (n : Fin 8) (r : Fin 512) (d : Fin 64) :
    outBlk m c t (ix3 0 r (outLane n d)) =
      ((soft (512 * (t.val / 16 % 16) + r.val + 1) (s (t.val / 256) (512 * (t.val / 16 % 16) + r.val) n.val)
        (fun k => v (t.val / 256) k ⟨64 * (n.val / 4) + d.val, by have := n.isLt; have := d.isLt; omega⟩) : ℝ) : EReal) := by
  have hk := kept_at hR t.val t.isLt (by omega) n r
  have e : seen t.val r = 512 * (t.val / 16 % 16) + r.val + 1 := by unfold seen; rw [if_pos h2.symm]; omega
  rw [e] at hk
  unfold outBlk
  rw [dif_pos h2]
  by_cases h0 : t.val % 16 = 0
  · rw [dif_pos h0]
    refine (outA_at m c t h0 (by omega) h2 n r d).trans ?_
    rw [stAt_A m c t h0 (by omega) h2] at hk
    exact hk.div (Nat.succ_pos _) _
  · rw [dif_neg h0]
    refine (outD_at m c t h0 (by omega) h2 _ n r d).trans ?_
    rw [stAt_D m c t h0 (by omega) h2] at hk
    exact hk.div (Nat.succ_pos _) _

end Cert.KernelIdeal.Flash

end
-- ==== Proof.FoxReals.lean ====
/-
  The launch's scores and values are the reals of the arguments.
-/
module

public import proofs.«01_k».proof.Proof.FoxBlocks
public import proofs.«01_k».proof.Proof.FoxInv

@[expose] public section

set_option maxRecDepth 16384

noncomputable section

namespace Cert.KernelIdeal.Flash

open Cert.KernelIdeal.Gen Cert.KernelIdeal.Facts
open Idealize.ShloMosaic Idealize.ShloMosaic.TcCoe

/-- Lanes outside a head's half contribute nothing. -/
theorem sum_half (g : ℕ) (hg : g < 2) (f : ℕ → ℕ → ℝ) :
    (∑ d : Fin 128, if d.val / 64 = g then f (d.val / 64) (d.val % 64) else 0) = ∑ e : Fin 64, f g e.val := by
  rw [show (∑ d : Fin 128, if d.val / 64 = g then f (d.val / 64) (d.val % 64) else 0)
      = ∑ d : Fin (64 + 64), if d.val / 64 = g then f (d.val / 64) (d.val % 64) else 0 from rfl, Fin.sum_univ_add]
  have a1 : ∀ e : Fin 64, (Fin.castAdd 64 e).val / 64 = 0 := fun e => by simp only [Fin.val_castAdd]; omega
  have a2 : ∀ e : Fin 64, (Fin.castAdd 64 e).val % 64 = e.val := fun e => by simp only [Fin.val_castAdd]; omega
  have b1 : ∀ e : Fin 64, (Fin.natAdd 64 e).val / 64 = 1 := fun e => by simp only [Fin.val_natAdd]; omega
  have b2 : ∀ e : Fin 64, (Fin.natAdd 64 e).val % 64 = e.val := fun e => by simp only [Fin.val_natAdd]; omega
  simp only [a1, a2, b1, b2]
  obtain rfl | rfl : g = 0 ∨ g = 1 := by omega
  · simp
  · simp

variable (m : (ℓ : Loc nD τ sig) → Buf (Elt Ideal) ℓ) (c : Dev nD)

/-- The score of the launch's queries and keys. -/
abbrev scR (b r h k : ℕ) : ℝ := Attn.Fox.score (argQ m c) (argKV m c) (argC m c) b r h k
/-- The launch's values, the two groups side by side. -/
abbrev vlR (b k : ℕ) (d : Fin 128) : ℝ := Attn.Fox.kvR (argKV m c) b k 1 (d.val / 64) (d.val % 64)

variable (hq : Attn.Fox.Real (argQ m c)) (hkv : Attn.Fox.Real (argKV m c)) (hc : Attn.Fox.Real (argC m c))
variable (t : Fin cfg0.N) (ht : t.val % 16 ≤ t.val / 16 % 16) (b : Fin 4) (hb : b.val = t.val / 256) (R K : Fin 8192) (r x : Fin 512)

include hb ht

include hq in
theorem bq_real (hR : R.val = 512 * (t.val / 16 % 16) + r.val) (n : Fin 8) (d : Fin 128) (l : Fin 1024) (hl : l.val = 128 * n.val + d.val) :
    bq m c t (ix3 0 r l) = (((if d.val / 64 = n.val / 4 then Attn.Fox.qR (argQ m c) b R n (d.val % 64) * (1 / 8) else 0 : ℝ)) : EReal) := by
  rw [bq_at m c t b hb R r hR, V9_at m c b R n d l hl, Attn.Fox.ofBits_eighth, Attn.Fox.q_eq hq]
  split
  · rw [← EReal.coe_mul]
  · rfl

include hkv in
theorem bk_real (hK : K.val = 512 * (t.val % 16) + x.val) (d : Fin 128) :
    bk m c t (ix3 0 x d) = ((Attn.Fox.kvR (argKV m c) b K 0 (d.val / 64) (d.val % 64) : ℝ) : EReal) := by
  rw [bk_at m c t b hb K x ht hK d ⟨d.val, by omega⟩ rfl, V11_at, Attn.Fox.kv_eq hkv]
  have e1 : d.val / 128 = 0 := by omega
  have e2 : d.val / 64 % 2 = d.val / 64 := by omega
  simp only [e1, e2]

include hkv in
theorem bv_real (hK : K.val = 512 * (t.val % 16) + x.val) (d : Fin 128) :
    bv m c t (ix3 0 x d) = ((Attn.Fox.kvR (argKV m c) b K 1 (d.val / 64) (d.val % 64) : ℝ) : EReal) := by
  rw [bv_at m c t b hb K x ht hK d ⟨128 + d.val, by omega⟩ rfl, V11_at, Attn.Fox.kv_eq hkv]
  have e1 : (128 + d.val) / 128 = 1 := by omega
  have e2 : (128 + d.val) / 64 % 2 = d.val / 64 := by omega
  have e3 : (128 + d.val) % 64 = d.val % 64 := by omega
  simp only [e1, e2, e3]

include hq hkv hc in
theorem score_real (hR : R.val = 512 * (t.val / 16 % 16) + r.val) (hK : K.val = 512 * (t.val % 16) + x.val) (n : Fin 8) :
    scoreE m c t n r x = ((scR m c b R n K : ℝ) : EReal) := by
  unfold scoreE
  rw [bcq_at m c t b hb R r hR, bck_at m c t b hb K x ht hK, V12_at, V_main_arg2]
  have e1 := Attn.Fox.c_eq hc b R n
  have e2 := Attn.Fox.c_eq hc b K n
  refine (congrArg₂ (fun a b : EReal => a + b) (Finset.sum_congr rfl fun d _ => congrArg₂ (fun a b : EReal => a * b)
    (bq_real m c hq t ht b hb R r hR n d _ rfl) (bk_real m c hkv t ht b hb K x hK d)) (congrArg₂ (fun a b : EReal => a - b) e1 e2)).trans ?_
  simp only [← EReal.coe_mul, Attn.coe_sum, ← EReal.coe_sub, ← EReal.coe_add]
  refine congrArg (fun x : ℝ => (x : EReal)) ?_
  unfold scR Attn.Fox.score
  refine congrArg (fun x : ℝ => x + _) ?_
  rw [Finset.sum_div]
  refine Eq.trans (Finset.sum_congr rfl fun d _ => ?_) (sum_half (n.val / 4) (by omega) (fun g e => Attn.Fox.kvR (argKV m c) b K 0 g e * Attn.Fox.qR (argQ m c) b R n e / 8))
  split
  · ring
  · ring

omit hb ht in
include hq hkv hc in
/-- The launch's scores and values. -/
theorem reals : Reals m c (scR m c) (vlR m c) := by
  intro t ht
  have hN : t.val < 1024 := t.isLt.trans_eq N_0
  refine ⟨fun n r x => ?_, fun x d => ?_⟩
  · exact score_real m c hq hkv hc t ht ⟨t.val / 256, by omega⟩ rfl ⟨512 * (t.val / 16 % 16) + r.val, by omega⟩ ⟨512 * (t.val % 16) + x.val, by omega⟩ r x rfl rfl n
  · exact bv_real m c hkv t ht ⟨t.val / 256, by omega⟩ rfl ⟨512 * (t.val % 16) + x.val, by omega⟩ x rfl d

end Cert.KernelIdeal.Flash

end
-- ==== Proof.FoxFrame.lean ====
/-
  The flash kernel's proof data with the output named, its body's triple at every point, and its launch.
-/
module

public import proofs.«01_k».proof.Proof.FoxState
public import Idealize.ShloMosaic.Lib.Claim

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The invariant between points: before the first, every scratch buffer at anything; afterwards at what the point before left. -/
def PhiS (c : Dev nD) : (n : ℕ) → n ≤ cfg0.N → sProp 𝕄
  | 0, _ => Pipeline.ΦA spec0 c
  | n + 1, hn => iprop(iprop(owns (c : Thread nD τ) scM0_0 fullShare ((stAt m c n hn).1) ∗ owns (c : Thread nD τ) scM0_1 fullShare ((stAt m c n hn).2.1) ∗ owns (c : Thread nD τ) scM0_2 fullShare ((stAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((stAt m c n hn).1) ∗ owns (c : Thread nD τ) scM0_1 fullShare ((stAt m c n hn).2.1) ∗ owns (c : Thread nD τ) scM0_2 fullShare ((stAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((stAt m c (n - 1) (by omega)).1) ∗ owns (c : Thread nD τ) scM0_1 fullShare ((stAt m c (n - 1) (by omega)).2.1) ∗ owns (c : Thread nD τ) scM0_2 fullShare ((stAt m c (n - 1) (by omega)).2.2)) ∗ (∃ r, prngReg c r)) := by
  cases n with
  | zero => exact absurd rfl hz
  | succ n => rfl

/-- The proof data: each input's buffer at its block; the output's, at every point of a row, at what the row's point on the
    diagonal leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c (diag t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]

theorem after0_5 (c : Dev nD) (t : Fin cfg0.N) : (dats m 0 c).after 5 t = outBlk m c (diag t) := by dsimp only [dats]

/-- The output is stored at the points on the diagonal and idle at the others. -/
theorem idle0_5 (t : Fin cfg0.N) : cfg0.idle 5 (grid0.coords t) = false ↔ t.val / 16 % 16 = t.val % 16 := by
  rw [← hcond0_3 t]
  show (!(k0_cond4 (grid0.coords t) == 1#1)) = false ↔ _
  simp [cond0_3]

theorem idle0_5_true (t : Fin cfg0.N) (h : ¬ t.val / 16 % 16 = t.val % 16) : cfg0.idle 5 (grid0.coords t) = true := by
  rw [← Bool.not_eq_false]; exact fun h' => h ((idle0_5 t).mp h')

theorem flush0_5_false (t : Fin cfg0.N) (h : ¬ t.val % 16 = 15) : (cfg0.win 5).flush t = false := by
  rw [← Bool.not_eq_true]; exact fun h' => h ((flush0_5 t).mp h')

/-- Past the diagonal the output's buffer still holds what the diagonal left. -/
theorem before0_5 (c : Dev nD) : ∀ (n : ℕ) (hn : n < cfg0.N) (d), n / 16 % 16 < n % 16 →
    (dats m 0 c).before 5 ⟨n, hn⟩ d = outBlk m c (diag ⟨n, hn⟩)
  | 0, _, _, h => by simp at h
  | n + 1, hn, d, h => by
    have hN : n + 1 < 1024 := lt_of_lt_of_eq hn (show cfg0.N = 1024 from N_0)
    have hq : (n + 1) / 16 = n / 16 := by omega
    have hd : diag ⟨n + 1, hn⟩ = diag ⟨n, Nat.lt_of_succ_lt hn⟩ := Fin.ext (by
      show (n + 1) / 16 * 16 + (n + 1) / 16 % 16 = n / 16 * 16 + n / 16 % 16; rw [hq])
    rw [hq] at h
    have e1 : (⟨(⟨n + 1, hn⟩ : Fin cfg0.N).val - 1, Nat.lt_of_le_of_lt (Nat.sub_le _ _) hn⟩ : Fin cfg0.N) = ⟨n, Nat.lt_of_succ_lt hn⟩ := Fin.ext (by simp)
    rw [(dats m 0 c).before_of_pos 5 ⟨n + 1, hn⟩ (Nat.succ_ne_zero n) rfl, hd, e1,
      flush0_5_false ⟨n, Nat.lt_of_succ_lt hn⟩ (by show ¬ n % 16 = 15; omega), if_neg Bool.false_ne_true]
    unfold Dat.left
    by_cases he : n / 16 % 16 = n % 16
    · rw [(idle0_5 ⟨n, Nat.lt_of_succ_lt hn⟩).mpr he]
      show (dats m 0 c).kept 5 ⟨n, Nat.lt_of_succ_lt hn⟩ d = _
      unfold Dat.kept
      rw [Pipeline.fill_of_clip_none 5 _ (fun _ => rfl) d ((dats m 0 c).after 5 _), Window.fill_cut]
      exact after0_5 m c _
    · rw [idle0_5_true ⟨n, Nat.lt_of_succ_lt hn⟩ he]
      exact before0_5 c n (Nat.lt_of_succ_lt hn) d (by omega)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- At a point on the diagonal the output's buffer is left at the point's own block. -/
theorem leaves0_5_diag (c : Dev nD) (t : Fin cfg0.N) (h2 : t.val / 16 % 16 = t.val % 16) :
    (dats m 0 c).leavesExact 5 t = owns (c : Thread nD τ) (ms0_5 t) fullShare (outBlk m c t) := by
  have hd : diag t = t := Fin.ext (by show t.val / 16 * 16 + t.val / 16 % 16 = t.val; omega)
  unfold Dat.leavesExact; rw [(idle0_5 t).mpr h2, after0_5, hd]

/-- At a point off the diagonal the output's buffer may be left as found. -/
theorem leaves0_5_off (c : Dev nD) (t : Fin cfg0.N) (h2 : ¬ t.val / 16 % 16 = t.val % 16) (d) :
    owns (c : Thread nD τ) (ms0_5 t) fullShare ((dats m 0 c).before 5 t d) ⊢ ((dats m 0 c).leavesExact 5 t : sProp 𝕄) := by
  unfold Dat.leavesExact; rw [idle0_5_true t h2]
  by_cases hf : t.val % 16 = 15
  · rw [(flush0_5 t).mpr hf, after0_5]
    have hN : t.val < 1024 := lt_of_lt_of_eq t.isLt (show cfg0.N = 1024 from N_0)
    rw [before0_5 m c t.val t.isLt d (by omega)]
  · rw [flush0_5_false t hf]
    iintro H; iexists d; iexact H

set_option maxHeartbeats 4000000 in
/-- The body's triple at a point of case A. -/
theorem sound_A (c : Dev nD) (t : Fin cfg0.N) (h0 : t.val % 16 = 0) (h1 : ¬t.val % 16 + 1 ≤ t.val / 16 % 16) (h2 : t.val / 16 % 16 = t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  by_cases hz : t.val = 0
  · rw [PhiS_castSucc m c t, PhiS_zero m c _ _ hz, PhiA0_eq, stAt_A m c t h0 h1 h2]
    unfold stA; (try dsimp only)
    rw [leaves0_5_diag m c t h2, show outBlk m c t = outA m c t h0 h1 h2 from (dif_pos h2).trans (dif_pos h0)]
    unfold outA
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((runA m c t h0 h1 h2 ).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scoverA_0 m c t h0 h1 h2)
        isplitl [HS1]
        · unfold owns; iexists _; isplitr
          swap; · iexact HS1
          ipureintro; exact View.read_writes_of_cover _ _ _ _ _ (scoverA_1 m c t h0 h1 h2)
        unfold owns; iexists _; isplitr
        swap; · iexact HS2
        ipureintro; exact View.read_writes_of_cover _ _ _ _ _ (scoverA_2 m c t h0 h1 h2)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (ocoverA m c t h0 h1 h2)
  · rw [PhiS_castSucc m c t, PhiS_pos m c _ _ hz, stAt_A m c t h0 h1 h2]
    unfold stA; (try dsimp only)
    rw [leaves0_5_diag m c t h2, show outBlk m c t = outA m c t h0 h1 h2 from (dif_pos h2).trans (dif_pos h0)]
    unfold outA
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((runA m c t h0 h1 h2 ).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    isplitl [HS2]; · iexists _; iexact HS2
    iintro ⟨H0, H1, H2, H3, H4, ⟨%e5, H5⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scoverA_0 m c t h0 h1 h2)
        isplitl [HS1]
        · unfold owns; iexists _; isplitr
          swap; · iexact HS1
          ipureintro; exact View.read_writes_of_cover _ _ _ _ _ (scoverA_1 m c t h0 h1 h2)
        unfold owns; iexists _; isplitr
        swap; · iexact HS2
        ipureintro; exact View.read_writes_of_cover _ _ _ _ _ (scoverA_2 m c t h0 h1 h2)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (ocoverA m c t h0 h1 h2)

set_option maxHeartbeats 4000000 in
/-- The body's triple at a point of case B. -/
theorem sound_B (c : Dev nD) (t : Fin cfg0.N) (h0 : ¬t.val % 16 = 0) (h1 : ¬t.val % 16 + 1 ≤ t.val / 16 % 16) (h2 : ¬t.val / 16 % 16 = t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun h => h0 (by rw [h])
  rw [PhiS_castSucc m c t, PhiS_pos m c _ _ hz, stAt_B m c t h0 h1 h2]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (fun h => h2 ((hcond0_3 t).mp h)) (iblk m c 0 t) (iblk m c 1 t) (iblk m c 2 t) (iblk m c 3 t) (iblk m c 4 t) ((dats m 0 c).before 5 t d5) (stAt m c (t.val - 1) (lt_of_le_of_lt (Nat.sub_le _ _) t.isLt)).1 (stAt m c (t.val - 1) (lt_of_le_of_lt (Nat.sub_le _ _) t.isLt)).2.1 (stAt m c (t.val - 1) (lt_of_le_of_lt (Nat.sub_le _ _) t.isLt)).2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iapply (leaves0_5_off m c t h2 d5); iexact H5

set_option maxHeartbeats 4000000 in
/-- The body's triple at a point of case C. -/
theorem sound_C (c : Dev nD) (t : Fin cfg0.N) (h0 : t.val % 16 = 0) (h1 : t.val % 16 + 1 ≤ t.val / 16 % 16) (h2 : ¬t.val / 16 % 16 = t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun h => by rw [h] at h1; simp at h1
  rw [PhiS_castSucc m c t, PhiS_pos m c _ _ hz, stAt_C m c t h0 h1 h2]
  unfold stC; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((runC m c t h0 h1 h2 ((dats m 0 c).before 5 t d5) ).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [HS2]; · iexists _; iexact HS2
  iintro ⟨H0, H1, H2, H3, H4, H5, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scoverC_0 m c t h0 h1 h2 _)
      isplitl [HS1]
      · unfold owns; iexists _; isplitr
        swap; · iexact HS1
        ipureintro; exact View.read_writes_of_cover _ _ _ _ _ (scoverC_1 m c t h0 h1 h2 _)
      unfold owns; iexists _; isplitr
      swap; · iexact HS2
      ipureintro; exact View.read_writes_of_cover _ _ _ _ _ (scoverC_2 m c t h0 h1 h2 _)
    iexact Hg
  isplitl [Ho]; · iexact Ho
  isplitl [H0]; · iexact H0
  isplitl [H1]; · iexact H1
  isplitl [H2]; · iexact H2
  isplitl [H3]; · iexact H3
  isplitl [H4]; · iexact H4
  iapply (leaves0_5_off m c t h2 d5); iexact H5

set_option maxHeartbeats 4000000 in
/-- The body's triple at a point of case D. -/
theorem sound_D (c : Dev nD) (t : Fin cfg0.N) (h0 : ¬t.val % 16 = 0) (h1 : ¬t.val % 16 + 1 ≤ t.val / 16 % 16) (h2 : t.val / 16 % 16 = t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun h => h0 (by rw [h])
  rw [PhiS_castSucc m c t, PhiS_pos m c _ _ hz, stAt_D m c t h0 h1 h2]
  unfold stD; (try dsimp only)
  rw [leaves0_5_diag m c t h2, show outBlk m c t = outD m c t h0 h1 h2 (stAt m c (t.val - 1) (lt_of_le_of_lt (Nat.sub_le _ _) t.isLt)) from (dif_pos h2).trans (dif_neg h0)]
  unfold outD
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((runD m c t h0 h1 h2 (stAt m c (t.val - 1) (lt_of_le_of_lt (Nat.sub_le _ _) t.isLt))).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scoverD_0 m c t h0 h1 h2 (stAt m c (t.val - 1) (lt_of_le_of_lt (Nat.sub_le _ _) t.isLt)))
      isplitl [HS1]
      · unfold owns; iexists _; isplitr
        swap; · iexact HS1
        ipureintro; exact View.read_writes_of_cover _ _ _ _ _ (scoverD_1 m c t h0 h1 h2 (stAt m c (t.val - 1) (lt_of_le_of_lt (Nat.sub_le _ _) t.isLt)))
      unfold owns; iexists _; isplitr
      swap; · iexact HS2
      ipureintro; exact View.read_writes_of_cover _ _ _ _ _ (scoverD_2 m c t h0 h1 h2 (stAt m c (t.val - 1) (lt_of_le_of_lt (Nat.sub_le _ _) t.isLt)))
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (ocoverD m c t h0 h1 h2 (stAt m c (t.val - 1) (lt_of_le_of_lt (Nat.sub_le _ _) t.isLt)))

set_option maxHeartbeats 4000000 in
/-- The body's triple at a point of case E. -/
theorem sound_E (c : Dev nD) (t : Fin cfg0.N) (h0 : ¬t.val % 16 = 0) (h1 : t.val % 16 + 1 ≤ t.val / 16 % 16) (h2 : ¬t.val / 16 % 16 = t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun h => h0 (by rw [h])
  rw [PhiS_castSucc m c t, PhiS_pos m c _ _ hz, stAt_E m c t h0 h1 h2]
  unfold stE; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((runE m c t h0 h1 h2 ((dats m 0 c).before 5 t d5) (stAt m c (t.val - 1) (lt_of_le_of_lt (Nat.sub_le _ _) t.isLt))).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scoverE_0 m c t h0 h1 h2 _ (stAt m c (t.val - 1) (lt_of_le_of_lt (Nat.sub_le _ _) t.isLt)))
      isplitl [HS1]
      · unfold owns; iexists _; isplitr
        swap; · iexact HS1
        ipureintro; exact View.read_writes_of_cover _ _ _ _ _ (scoverE_1 m c t h0 h1 h2 _ (stAt m c (t.val - 1) (lt_of_le_of_lt (Nat.sub_le _ _) t.isLt)))
      unfold owns; iexists _; isplitr
      swap; · iexact HS2
      ipureintro; exact View.read_writes_of_cover _ _ _ _ _ (scoverE_2 m c t h0 h1 h2 _ (stAt m c (t.val - 1) (lt_of_le_of_lt (Nat.sub_le _ _) t.isLt)))
    iexact Hg
  isplitl [Ho]; · iexact Ho
  isplitl [H0]; · iexact H0
  isplitl [H1]; · iexact H1
  isplitl [H2]; · iexact H2
  isplitl [H3]; · iexact H3
  isplitl [H4]; · iexact H4
  iapply (leaves0_5_off m c t h2 d5); iexact H5

/-- The body's triple at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · by_cases h1 : t.val % 16 + 1 ≤ t.val / 16 % 16
    · exact sound_C m c t h0 h1 (by omega)
    · exact sound_A m c t h0 h1 (by omega)
  · by_cases h1 : t.val % 16 + 1 ≤ t.val / 16 % 16
    · exact sound_E m c t h0 h1 (by omega)
    · by_cases h2 : t.val / 16 % 16 = t.val % 16
      · exact sound_D m c t h0 h1 h2
      · exact sound_B m c t h0 h1 h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 1024 := N_0; omega)

set_option backward.isDefEq.respectTransparency.types false in
/-- The launch: the program runs to the pipeline's arrays as the proof data name them, every counter back at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Flash

end
-- ==== Proof.FoxOut.lean ====
/-
  The launch's result array.
-/
module

public import proofs.«01_k».proof.Proof.FoxReals
public import proofs.«01_k».proof.Proof.FoxFrame

@[expose] public section

set_option maxRecDepth 16384

noncomputable section

namespace Cert.KernelIdeal.Flash

open Cert.KernelIdeal.Gen Cert.KernelIdeal.Facts
open Idealize.ShloMosaic Idealize.ShloMosaic.TcCoe

variable (m : (ℓ : Loc nD τ sig) → Buf (Elt Ideal) ℓ) (c : Dev nD)

/-- The softmax over the keys up to the query, heads side by side. -/
def res : FVec Ideal S4x8192x512 .f32 := fun i =>
  ((Attn.soft ((i 1).val + 1) (scR m c (i 0).val (i 1).val ((i 2).val / 64))
    (fun k => Attn.Fox.kvR (argKV m c) (i 0).val k 1 ((i 2).val / 256) ((i 2).val % 64)) : ℝ) : EReal)

variable (hq : Attn.Fox.Real (argQ m c)) (hkv : Attn.Fox.Real (argKV m c)) (hc : Attn.Fox.Real (argC m c))

include hq hkv hc in
/-- A block of the result array. -/
theorem outBlk_res (t : Fin cfg0.N) (y : S1x512x512.Idx) (i : S4x8192x512.Idx) (h0 : (i 0).val = t.val / 256)
    (h1 : (i 1).val = 512 * (t.val / 16 % 16) + (y 1).val) (h2 : (i 2).val = (y 2).val) :
    outBlk m c (diag t) y = res m c i := by
  have hN : t.val < 1024 := t.isLt.trans_eq N_0
  have y0 : (y 0).val < 1 := (y 0).isLt
  have y2 : (y 2).val < 512 := (y 2).isLt
  have hd : (diag t).val = t.val / 16 * 16 + t.val / 16 % 16 := rfl
  have a0 : (diag t).val / 16 = t.val / 16 := by omega
  have a1 : (diag t).val / 16 % 16 = t.val / 16 % 16 := by omega
  have a2 : (diag t).val % 16 = t.val / 16 % 16 := by omega
  have a3 : (diag t).val / 256 = t.val / 256 := by omega
  have hy : y = ix3 0 (y 1) (outLane ⟨(y 2).val / 64, by omega⟩ ⟨(y 2).val % 64, by omega⟩) := by
    funext a
    apply Fin.ext
    match a with
    | ⟨0, _⟩ => show (y 0).val = 0; omega
    | ⟨1, _⟩ => rfl
    | ⟨2, _⟩ => show (y 2).val = 64 * ((y 2).val / 64) + (y 2).val % 64; omega
  have e := outBlk_at (reals m c hq hkv hc) (diag t) (a1.trans a2.symm) ⟨(y 2).val / 64, by omega⟩ (y 1) ⟨(y 2).val % 64, by omega⟩
  rw [hy]
  refine e.trans ?_
  unfold res
  rw [a1, a3, h0, h1, h2]
  refine congrArg (fun x : ℝ => (x : EReal)) (Attn.soft_congr (fun k _ => rfl) fun k _ => ?_)
  have b1 : (64 * ((y 2).val / 64 / 4) + (y 2).val % 64) / 64 = (y 2).val / 256 := by omega
  have b2 : (64 * ((y 2).val / 64 / 4) + (y 2).val % 64) % 64 = (y 2).val % 64 := by omega
  simp only [vlR, b1, b2]

include hq hkv hc in
theorem arr_eq : (dats m 0 c).arrAt 5 cfg0.N = res m c := by
  refine (dats m 0 c).arrAt_eq_of_covers 5 (res m c) (by decide +kernel) fun t hf y => ?_
  blk_simp
  rw [after0_5]
  refine outBlk_res m c hq hkv hc t y _ ?_ ?_ ?_
  · blk_simp [(places t).2.2.2.2.2]
  · blk_simp [(places t).2.2.2.2.2]
    rw [Nat.mul_comm]
  · blk_simp [(places t).2.2.2.2.2]

end Cert.KernelIdeal.Flash

end
-- ==== Proof.FoxPre.lean ====
/-
  What the precondition says: every element of the arguments is a real number.
-/
module

public import proofs.«01_k».proof.Defs
public import proofs.«01_k».proof.Proof.FoxReal
public import Idealize.ShloMosaic.Lib.ReduceAll

@[expose] public section

set_option maxRecDepth 16384

noncomputable section

namespace Cert.Pre_finite_inputs

open Idealize.ShloMosaic

theorem facts : Facts where
  bcast_S_S4x8192x8x64 := by decide
  reducesTo_S4x8192x8x64_S_d0_1_2_3 := by decide
  h_S_ := by decide
  bcast_S_S4x8192x2x2x64 := by decide
  reducesTo_S4x8192x2x2x64_S_d0_1_2_3_4 := by decide
  bcast_S_S4x8192x8 := by decide
  reducesTo_S4x8192x8_S_d0_1_2 := by decide

/-- An extended real whose size is below plus infinity is a real. -/
theorem real_of_word (x : EReal) (h : BitVec.ofBool (decide (FloatOps.absf (F := Ideal) (φ := .f32) x < Ideal.ofBits FTy.f32 0x7F800000#32)) = 1#1) :
    x = (x.toReal : EReal) := by
  rw [Attn.ofBits_inf] at h
  have h' : FloatOps.absf (F := Ideal) (φ := .f32) x < (⊤ : EReal) := by
    by_contra hn
    rw [decide_eq_false hn] at h
    exact absurd h (by decide)
  induction x with
  | bot => exact absurd h' (by simp [FloatOps.absf])
  | top => exact absurd h' (by simp [FloatOps.absf])
  | coe r => simp

variable [Facts]

theorem real_of_pre (q : FVec Ideal S4x8192x8x64 .f32) (kv : FVec Ideal S4x8192x2x2x64 .f32) (cu : FVec Ideal S4x8192x8 .f32)
    (h : fn (F := Ideal) q kv cu = fun _ => 1#1) : Attn.Fox.Real q ∧ Attn.Fox.Real kv ∧ Attn.Fox.Real cu := by
  have e := congrFun h ix0
  unfold fn at e
  dsimp only at e
  have andi_one : ∀ a b : BitVec 1, IntOp.andi a b = 1#1 → a = 1#1 ∧ b = 1#1 := by decide
  obtain ⟨e12, e3⟩ := andi_one _ _ e
  obtain ⟨e1, e2⟩ := andi_one _ _ e12
  refine ⟨fun i => ?_, fun i => ?_, fun i => ?_⟩
  · exact real_of_word _ (Host.reduce_andi_all _ _ _ _ _ e1 i)
  · exact real_of_word _ (Host.reduce_andi_all _ _ _ _ _ e2 i)
  · exact real_of_word _ (Host.reduce_andi_all _ _ _ _ _ e3 i)

end Cert.Pre_finite_inputs

end
-- ==== Proof.RefAt.lean ====
/-
  The reference at an element, in pieces.
-/
module

public import proofs.«01_k».proof.Proof.Gen.ReferenceIdeal.Run
public import proofs.«01_k».proof.Proof.FoxReal

@[expose] public section

set_option maxRecDepth 16384

noncomputable section

namespace Cert.ReferenceIdeal.Direct

open Cert.ReferenceIdeal.Gen Cert.ReferenceIdeal.Facts
open Idealize.ShloMosaic Idealize.ShloMosaic.TcCoe

/-- Keys not after the query. -/
def mask : IVec S4x2x4x8192x8192 1 :=
  broadcastInDim S4x2x4x8192x8192 ![3, 4] bcast_S8192x8192_S4x2x4x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The scores, scaled and with the decay. -/
def logits (q : FVec Ideal S4x8192x8x64 .f32) (kv : FVec Ideal S4x8192x2x2x64 .f32) (cu : FVec Ideal S4x8192x8 .f32) : FVec Ideal S4x2x4x8192x8192 .f32 :=
  addf (Host.divf (transpose S4x2x4x8192x8192 [0, 1, 4, 3, 2] (Host.dotGeneral dot_S4x8192x2x64_S4x8192x2x4x64_S4x2x8192x8192x4_3_4_1_13_02_02 none (shapeCast _ (extractStridedSlice S4x8192x1x2x64 ![0, 0, 0, 0, 0] kv slices_S4x8192x2x2x64_S4x8192x1x2x64_0_0_0_0_0) shapeCasts_S4x8192x1x2x64_S4x8192x2x64) (shapeCast _ q shapeCasts_S4x8192x8x64_S4x8192x2x4x64)) transposes_S4x2x8192x8192x4_S4x2x4x8192x8192_0_1_4_3_2) (broadcastInDim S4x2x4x8192x8192 ![] bcast_S_S4x2x4x8192x8192 (constant S_ .f32 0x41000000#32))) (subf (broadcastInDim S4x2x4x8192x8192 ![0, 1, 2, 3, 4] bcast_S4x2x4x8192x1_S4x2x4x8192x8192_0_1_2_3_4 (broadcastInDim S4x2x4x8192x1 ![0, 1, 2, 3] bcast_S4x2x4x8192_S4x2x4x8192x1_0_1_2_3 (transpose S4x2x4x8192 [0, 2, 3, 1] (shapeCast _ cu shapeCasts_S4x8192x8_S4x8192x2x4) transposes_S4x8192x2x4_S4x2x4x8192_0_2_3_1))) (broadcastInDim S4x2x4x8192x8192 ![0, 1, 2, 3, 4] bcast_S4x2x4x1x8192_S4x2x4x8192x8192_0_1_2_3_4 (broadcastInDim S4x2x4x1x8192 ![0, 1, 2, 4] bcast_S4x2x4x8192_S4x2x4x1x8192_0_1_2_4 (transpose S4x2x4x8192 [0, 2, 3, 1] (shapeCast _ cu shapeCasts_S4x8192x8_S4x8192x2x4) transposes_S4x8192x2x4_S4x2x4x8192_0_2_3_1))))

/-- The scores with the keys after the query at minus infinity. -/
def cut (l : FVec Ideal S4x2x4x8192x8192 .f32) : FVec Ideal S4x2x4x8192x8192 .f32 :=
  select mask l (broadcastInDim S4x2x4x8192x8192 ![] bcast_S_S4x2x4x8192x8192 (id (constant S_ .f32 0xFF800000#32)))

/-- Each row's maximum. -/
def top (l : FVec Ideal S4x2x4x8192x8192 .f32) : FVec Ideal S4x2x4x8192x1 .f32 :=
  broadcastInDim S4x2x4x8192x1 ![0, 1, 2, 3] bcast_S4x2x4x8192_S4x2x4x8192x1_0_1_2_3 (Host.reduce FloatOps.maximumf l (constant S_ .f32 0xFF800000#32) reducesTo_S4x2x4x8192x8192_S4x2x4x8192_d4 h_S_)

/-- The maximum, or zero where it is infinite. -/
def level (t : FVec Ideal S4x2x4x8192x1 .f32) : FVec Ideal S4x2x4x8192x1 .f32 :=
  select (cmpf .olt (Host.absf t) (broadcastInDim S4x2x4x8192x1 ![] bcast_S_S4x2x4x8192x1 (constant S_ .f32 0x7F800000#32))) t (broadcastInDim S4x2x4x8192x1 ![] bcast_S_S4x2x4x8192x1 (id (constant S_ .f32 0x00000000#32)))

/-- The weights. -/
def wts (l : FVec Ideal S4x2x4x8192x8192 .f32) (t : FVec Ideal S4x2x4x8192x1 .f32) : FVec Ideal S4x2x4x8192x8192 .f32 :=
  select mask (Host.exp (subf l (broadcastInDim S4x2x4x8192x8192 ![0, 1, 2, 3, 4] bcast_S4x2x4x8192x1_S4x2x4x8192x8192_0_1_2_3_4 t))) (broadcastInDim S4x2x4x8192x8192 ![] bcast_S_S4x2x4x8192x8192 (id (constant S_ .f32 0x00000000#32)))

/-- The weights over their sum. -/
def probs (p : FVec Ideal S4x2x4x8192x8192 .f32) : FVec Ideal S4x2x4x8192x8192 .f32 :=
  Host.divf p (broadcastInDim S4x2x4x8192x8192 ![0, 1, 2, 3, 4] bcast_S4x2x4x8192x1_S4x2x4x8192x8192_0_1_2_3_4 (maximumf (broadcastInDim S4x2x4x8192x1 ![0, 1, 2, 3] bcast_S4x2x4x8192_S4x2x4x8192x1_0_1_2_3 (Host.reduceAdd p (constant S_ .f32 0x00000000#32) reducesTo_S4x2x4x8192x8192_S4x2x4x8192_d4 h_S_)) (broadcastInDim S4x2x4x8192x1 ![] bcast_S_S4x2x4x8192x1 (constant S_ .f32 0x0DA24260#32))))

/-- The weighted values, heads side by side. -/
def mix (kv : FVec Ideal S4x8192x2x2x64 .f32) (p : FVec Ideal S4x2x4x8192x8192 .f32) : FVec Ideal S4x8192x512 .f32 :=
  shapeCast _ (transpose S4x8192x2x4x64 [0, 4, 1, 3, 2] (Host.dotGeneral dot_S4x8192x2x64_S4x2x4x8192x8192_S4x2x64x4x8192_1_4_3_23_02_01 none (shapeCast _ (extractStridedSlice S4x8192x1x2x64 ![0, 0, 1, 0, 0] kv slices_S4x8192x2x2x64_S4x8192x1x2x64_0_0_1_0_0) shapeCasts_S4x8192x1x2x64_S4x8192x2x64) p) transposes_S4x2x64x4x8192_S4x8192x2x4x64_0_4_1_3_2) shapeCasts_S4x8192x2x4x64_S4x8192x512

variable (b : Fin 4) (g : Fin 2) (p : Fin 4) (r k : Fin 8192)

theorem select_word {α : Type} {n : ℕ} (a c : α) : Scalar.select (BitVec.ofBool (decide (k.val < n))) a c = if k.val < n then a else c := by
  by_cases h : k.val < n <;> simp [Scalar.select, h]

theorem mask_at : mask (ix5 b g p r k) = BitVec.ofBool (decide (k.val < r.val + 1)) := by
  pointwise [mask]
  exact Attn.Fox.sle_word _ _ k.isLt r.isLt

variable {q : FVec Ideal S4x8192x8x64 .f32} {kv : FVec Ideal S4x8192x2x2x64 .f32} {cu : FVec Ideal S4x8192x8 .f32}

theorem logits_at (hq : Attn.Fox.Real q) (hkv : Attn.Fox.Real kv) (hc : Attn.Fox.Real cu) :
    logits q kv cu (ix5 b g p r k) = ((Attn.Fox.score q kv cu b r (g.val * 4 + p.val) k : ℝ) : EReal) := by
  pointwise [logits]
  simp only [Attn.Fox.q_eq hq, Attn.Fox.kv_eq hkv, Attn.Fox.c_eq hc, Attn.Fox.ofBits_eight, ← EReal.coe_mul, Attn.coe_sum, ← EReal.coe_sub]
  rw [Ideal.div_coe (by norm_num), ← EReal.coe_mul, ← EReal.coe_add]
  unfold Attn.Fox.score
  have e : (g.val * 4 + p.val) / 4 = g.val := by omega
  rw [e, mul_one_div]
  rfl

theorem cut_at (l : FVec Ideal S4x2x4x8192x8192 .f32) : cut l (ix5 b g p r k) = if k.val < r.val + 1 then l (ix5 b g p r k) else ⊥ := by
  pointwise [cut]
  rw [mask_at, select_word]
  exact congrArg _ Attn.ofBits_neg_inf

theorem top_at (l : FVec Ideal S4x2x4x8192x8192 .f32) : top l (ix5 b g p r 0) = Finset.univ.fold max ⊥ fun x => l (ix5 b g p r x) := by
  pointwise [top]
  rw [Attn.ofBits_neg_inf]

theorem level_at (t : FVec Ideal S4x2x4x8192x1 .f32) (μ : ℝ) (h : t (ix5 b g p r 0) = (μ : EReal)) : level t (ix5 b g p r 0) = (μ : EReal) := by
  pointwise [level]
  rw [Attn.ofBits_inf, h, if_pos]
  exact EReal.coe_lt_top _

theorem wts_at (l : FVec Ideal S4x2x4x8192x8192 .f32) (t : FVec Ideal S4x2x4x8192x1 .f32) :
    wts l t (ix5 b g p r k) = if k.val < r.val + 1 then Ideal.exp (l (ix5 b g p r k) - t (ix5 b g p r 0)) else 0 := by
  pointwise [wts]
  rw [mask_at, select_word]
  exact congrArg _ Ideal.ofBits_zero_f32

theorem probs_at (l : FVec Ideal S4x2x4x8192x8192 .f32) :
    probs l (ix5 b g p r k) = Ideal.div (l (ix5 b g p r k)) (max (∑ x, l (ix5 b g p r x)) (Ideal.ofBits FTy.f32 0x0DA24260#32)) := by
  pointwise [probs]

theorem mix_at (kv : FVec Ideal S4x8192x2x2x64 .f32) (w : FVec Ideal S4x2x4x8192x8192 .f32) (l : Fin 512) :
    mix kv w (ix3 b r l) = ∑ x, kv (ix5 b x 1 ⟨l / 256, by omega⟩ ⟨l % 64, by omega⟩) * w (ix5 b ⟨l / 256, by omega⟩ ⟨l / 64 % 4, by omega⟩ r x) := by
  pointwise [mix]

/-- The reference's result, as a function of its arguments. -/
def out (q : FVec Ideal S4x8192x8x64 .f32) (kv : FVec Ideal S4x8192x2x2x64 .f32) (cu : FVec Ideal S4x8192x8 .f32) : FVec Ideal S4x8192x512 .f32 :=
  mix kv (probs (wts (cut (logits q kv cu)) (level (top (cut (logits q kv cu))))))

theorem res_eq (m : (ℓ : Loc nD τ sig) → Buf (Elt Ideal) ℓ) (c : Dev nD) :
    Cert.ReferenceIdeal.Value.res_main_v44 m c =
      out (m ((c.tc : Thread nD τ).loc main_arg0)) (m ((c.tc : Thread nD τ).loc main_arg1)) (m ((c.tc : Thread nD τ).loc main_arg2)) := by
  unfold Cert.ReferenceIdeal.Value.res_main_v44
  rfl

/-- The reference is the softmax over the keys up to the query. -/
theorem out_at (hq : Attn.Fox.Real q) (hkv : Attn.Fox.Real kv) (hc : Attn.Fox.Real cu) (l : Fin 512) :
    out q kv cu (ix3 b r l) =
      ((Attn.soft (r.val + 1) (Attn.Fox.score q kv cu b r (l.val / 64)) (fun k => Attn.Fox.kvR kv b k 1 (l.val / 256) (l.val % 64)) : ℝ) : EReal) := by
  obtain ⟨lo, hlo0, hlo, elo⟩ := Attn.Fox.ofBits_tiny
  have e : l.val / 256 * 4 + l.val / 64 % 4 = l.val / 64 := by omega
  have hs : ∀ x : Fin 8192, cut (logits q kv cu) (ix5 b ⟨l.val / 256, by omega⟩ ⟨l.val / 64 % 4, by omega⟩ r x) =
      if x.val < r.val + 1 then ((Attn.Fox.score q kv cu b r (l.val / 64) x : ℝ) : EReal) else ⊥ := by
    intro x
    rw [cut_at, logits_at _ _ _ _ _ hq hkv hc]
    simp only [e]
  have ht := top_at b ⟨l.val / 256, by omega⟩ ⟨l.val / 64 % 4, by omega⟩ r (cut (logits q kv cu))
  obtain ⟨μ, hμ⟩ := Attn.max_real Finset.univ (fun x => cut (logits q kv cu) (ix5 b ⟨l.val / 256, by omega⟩ ⟨l.val / 64 % 4, by omega⟩ r x)) ⊥ bot_ne_top
    (fun x _ => by rw [hs]; split; exacts [EReal.coe_ne_top _, bot_ne_top])
    (Or.inr ⟨⟨0, by omega⟩, Finset.mem_univ _, by rw [hs, if_pos (Nat.succ_pos _)]; exact EReal.coe_ne_bot _⟩)
  rw [max_eq_right bot_le] at hμ
  have hl := level_at b ⟨l.val / 256, by omega⟩ ⟨l.val / 64 % 4, by omega⟩ r (top (cut (logits q kv cu))) μ (ht.trans hμ)
  rw [out, mix_at]
  rw [← Attn.soft_direct (B := 8192) (Nat.succ_pos _) (by omega) _ _ lo hlo0 hlo _ hs _ rfl
    (fun x => wts (cut (logits q kv cu)) (level (top (cut (logits q kv cu)))) (ix5 b ⟨l.val / 256, by omega⟩ ⟨l.val / 64 % 4, by omega⟩ r x))
    (fun x => by rw [wts_at, hl, hμ])
    (fun x => kv (ix5 b x 1 ⟨l / 256, by omega⟩ ⟨l % 64, by omega⟩))
    (fun x => Attn.Fox.kv_eq hkv _ _ _ _ _)]
  refine Finset.sum_congr rfl fun x _ => ?_
  rw [probs_at, elo, mul_comm]

end Cert.ReferenceIdeal.Direct

end
-- ==== Proof.FoxClaims.lean ====
/-
  The decayed causal attention: the launch and the reference end with the same array.
-/
module

public import proofs.«01_k».proof.Defs
public import proofs.«01_k».proof.Proof.FoxOut
public import proofs.«01_k».proof.Proof.FoxPre
public import proofs.«01_k».proof.Proof.RefAt
public import proofs.«01_k».proof.Proof.KFoxFrame
public import Idealize.ShloMosaic.Adequacy
public import Idealize.ShloMosaic.Init

@[expose] public section

set_option maxRecDepth 16384

noncomputable section

namespace Cert.FoxClaims

open Idealize.ShloMosaic Idealize.SL.Sem Idealize.ShloMosaic.TcCoe

section Launch

open Cert.KernelIdeal Cert.KernelIdeal.Gen Cert.KernelIdeal.Flash

variable (m : (ℓ : Loc nD τ sig) → Buf (Elt Ideal) ℓ) (ρ : Dev nD → PrngReg)

theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ))
    ((θ_run defs _ _).mono (fun _ h => h.2) (run_main_quiescent m ρ))

theorem value (h : ∀ c : Dev nD, Attn.Fox.Real (argQ m c) ∧ Attn.Fox.Real (argKV m c) ∧ Attn.Fox.Real (argC m c)) :
    θ_run (defs (F := Ideal)) (onTc (τ := τ) (main (F := Ideal))) ⟨m, fun _ => 0, ρ⟩ (fun r => ∀ c : Dev nD,
      r.2.mem ((c.tc : Thread nD τ).loc main_v13) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have e : θ_run (defs (F := Ideal)) (onTc (τ := τ) (main (F := Ideal))) ⟨m, fun _ => 0, ρ⟩ (fun r => ∀ c : Dev nD,
      r.2.mem ((c.tc : Thread nD τ).loc main_v13) = res m c) :=
    (θ_run defs _ _).mono (fun r hr c => ((hr c).1 5).trans (arr_eq m c (h c).1 (h c).2.1 (h c).2.2)) (run_main m ρ)
  exact (θ_run defs _ _).mono (fun _ hr c => ⟨hr.1 c, hr.2.1 c⟩) (θ_run_and e (frame m ρ))

end Launch

theorem kernel : Cert.quiescent_Kernel (hKernel := Cert.Kernel.Gen.facts) := fun m ρ _ =>
  θ_run_and (Cert.Kernel.Gen.frame_of m ρ (Cert.Kernel.Flash.dats m) (Cert.Kernel.Flash.A_eq m) (Cert.Kernel.Flash.run_main m ρ))
    ((θ_run Cert.Kernel.defs _ _).mono (fun _ h => h.2) (Cert.Kernel.Flash.run_main_quiescent m ρ))

theorem kernelIdeal : Cert.quiescent_KernelIdeal (hKernelIdeal := Cert.KernelIdeal.Gen.facts) := fun m ρ _ => frame m ρ

theorem kernelIdeal_pre : Cert.quiescent_KernelIdeal_pre_finite_inputs (hKernelIdeal := Cert.KernelIdeal.Gen.facts) (hPre_finite_inputs := Cert.Pre_finite_inputs.facts) :=
  fun m ρ _ => frame m ρ

theorem referenceIdeal : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem referenceIdeal_pre : Cert.quiescent_ReferenceIdeal_pre_finite_inputs (hReferenceIdeal := Cert.ReferenceIdeal.Gen.facts) (hPre_finite_inputs := Cert.Pre_finite_inputs.facts) :=
  fun m ρ _ => referenceIdeal m ρ trivial

theorem preserves : Cert.preserves_Kernel_KernelIdeal :=
  IdealRules.named_const.statement Cert.KernelIdeal.κ "mask" .f32 0xF149F2CA#32 ⊥ rfl

/-- The reference's array is the launch's. -/
theorem same (m : (ℓ : Loc Cert.KernelIdeal.nD Cert.KernelIdeal.τ Cert.KernelIdeal.sig) → Buf (Elt Ideal) ℓ) (c : Dev Cert.KernelIdeal.nD)
    (hq : Attn.Fox.Real (Cert.KernelIdeal.Flash.argQ m c)) (hkv : Attn.Fox.Real (Cert.KernelIdeal.Flash.argKV m c)) (hc : Attn.Fox.Real (Cert.KernelIdeal.Flash.argC m c)) :
    Cert.ReferenceIdeal.Direct.out (Cert.KernelIdeal.Flash.argQ m c) (Cert.KernelIdeal.Flash.argKV m c) (Cert.KernelIdeal.Flash.argC m c) = Cert.KernelIdeal.Flash.res m c := by
  funext i
  have hi : i = ix3 (i 0) (i 1) (i 2) := by
    funext a
    match a with
    | ⟨0, _⟩ => rfl
    | ⟨1, _⟩ => rfl
    | ⟨2, _⟩ => rfl
  rw [hi]
  exact Cert.ReferenceIdeal.Direct.out_at (i 0) (i 1) hq hkv hc (i 2)

theorem algebraic : Cert.algebraic_KernelIdeal_ReferenceIdeal_pre_finite_inputs (hKernelIdeal := Cert.KernelIdeal.Gen.facts) (hReferenceIdeal := Cert.ReferenceIdeal.Gen.facts) (hPre_finite_inputs := Cert.Pre_finite_inputs.facts) := by
  intro m ρ m' ρ' hpre hagree
  have hr : ∀ c : Dev Cert.KernelIdeal.nD, Attn.Fox.Real (Cert.KernelIdeal.Flash.argQ m c) ∧ Attn.Fox.Real (Cert.KernelIdeal.Flash.argKV m c) ∧ Attn.Fox.Real (Cert.KernelIdeal.Flash.argC m c) :=
    fun c => @Cert.Pre_finite_inputs.real_of_pre Cert.Pre_finite_inputs.facts _ _ _ (hpre c)
  refine ⟨_, value m ρ hr, ?_⟩
  refine (θ_run Cert.ReferenceIdeal.defs _ _).mono (fun _ h c => ⟨(h c).1.trans ?_, (h c).2⟩) (Cert.ReferenceIdeal.Value.run m' ρ')
  rw [Cert.ReferenceIdeal.Direct.res_eq]
  obtain ⟨e0, e1, e2⟩ := hagree c
  rw [e0, e1, e2]
  exact same m c (hr c).1 (hr c).2.1 (hr c).2.2

end Cert.FoxClaims

end
-- ==== Proof.Post.lean ====
/-
  The end of a layer, one row at a time, over the extended reals: the mixers' outputs times a matrix, added to
  the row; then the row normalised, through two matrices with a squared positive part between, added again.
-/
module

public import Idealize.ShloMosaic.Lib.Pipeline.ValueKit
public import Idealize.ShloMosaic.PureOps.Ideal

@[expose] public section

noncomputable section

namespace Cert.Post

open Idealize.ShloMosaic

/-- The row with the mixers' outputs: `a` times the upper half of `w`, `b` times its lower half. -/
def mixed (x : Fin 1024 → EReal) (a b : Fin 512 → EReal) (w : Fin 1024 → Fin 1024 → EReal) (d : Fin 1024) : EReal :=
  x d + ∑ k : Fin 512, a k * w ⟨k.val, by omega⟩ d + ∑ k : Fin 512, b k * w ⟨512 + k.val, by omega⟩ d

/-- The reciprocal of the row's root mean square. -/
def scale (x : Fin 1024 → EReal) : EReal :=
  Ideal.rsqrt (Ideal.div (∑ k, x k * x k) (Ideal.ofBits FTy.f32 1149239296#32) + Ideal.ofBits FTy.f32 897988541#32)

/-- The normalised row. -/
def normed (x g : Fin 1024 → EReal) (d : Fin 1024) : EReal := x d * scale x * g d

/-- The square of the positive part. -/
def act (u : EReal) : EReal := max u 0 * max u 0

/-- A hidden unit before its activation. -/
def hidden (x g : Fin 1024 → EReal) (up : Fin 1024 → Fin 4096 → EReal) (l : Fin 4096) : EReal := ∑ d, normed x g d * up d l

/-- What the `f`-th 1024 hidden units add to the row. -/
def chunk (x g : Fin 1024 → EReal) (up : Fin 1024 → Fin 4096 → EReal) (dn : Fin 4096 → Fin 1024 → EReal) (f : ℕ) (d : Fin 1024) : EReal :=
  ∑ k : Fin 1024, act (hidden x g up ⟨(f * 1024 + k.val) % 4096, Nat.mod_lt _ (by decide)⟩) * dn ⟨(f * 1024 + k.val) % 4096, Nat.mod_lt _ (by decide)⟩ d

/-- The row after the feed-forward part. -/
def fed (x g : Fin 1024 → EReal) (up : Fin 1024 → Fin 4096 → EReal) (dn : Fin 4096 → Fin 1024 → EReal) (d : Fin 1024) : EReal :=
  x d + ∑ l : Fin 4096, act (hidden x g up l) * dn l d

/-- The four chunks are the whole sum. -/
theorem chunks (x g : Fin 1024 → EReal) (up : Fin 1024 → Fin 4096 → EReal) (dn : Fin 4096 → Fin 1024 → EReal) (d : Fin 1024) :
    ∑ s ∈ Finset.range 4, chunk x g up dn s d = ∑ l : Fin 4096, act (hidden x g up l) * dn l d := by
  rw [Finset.sum_range]
  unfold chunk
  refine Fin.sum_mul_add_congr fun s k hl => ?_
  have e : (⟨(s.val * 1024 + k.val) % 4096, Nat.mod_lt _ (by decide)⟩ : Fin 4096) = ⟨s.val * 1024 + k.val, hl⟩ :=
    Fin.ext (Nat.mod_eq_of_lt hl)
  rw [e]

/-- The mixers' outputs side by side times the whole matrix are the two halves' products. -/
theorem mixed_eq (x : Fin 1024 → EReal) (a b : Fin 512 → EReal) (w : Fin 1024 → Fin 1024 → EReal) (d : Fin 1024) :
    x d + ∑ l : Fin 1024, (if h : l.val < 512 then a ⟨l.val, h⟩ else b ⟨l.val - 512, by omega⟩) * w l d = mixed x a b w d := by
  have e := Fin.sum_univ_add (a := 512) (b := 512)
    (fun l : Fin 1024 => (if h : l.val < 512 then a ⟨l.val, h⟩ else b ⟨l.val - 512, by omega⟩) * w l d)
  rw [show (∑ l : Fin 1024, (if h : l.val < 512 then a ⟨l.val, h⟩ else b ⟨l.val - 512, by omega⟩) * w l d) = _ from e, mixed, add_assoc]
  congr 2

end Cert.Post

end
-- ==== Proof.Post2Body.lean ====
/-
  The call that ends a layer: what its body computes, at an element.
-/
module

public import proofs.«01_k».proof.Proof.Gen.Kernel2Ideal.Value
public import proofs.«01_k».proof.Proof.Post
public import Idealize.ShloMosaic.Lib.Pipeline.ValueKit

@[expose] public section

set_option maxRecDepth 16384

noncomputable section

namespace Cert.Kernel2Ideal.Post

open Cert.Kernel2Ideal.Gen Cert.Kernel2Ideal.Facts
open Idealize.ShloMosaic Idealize.ShloMosaic.TcCoe

/-- The row with the mixers' outputs. -/
theorem mixed_at (a b c : Vec Ideal S512x512 .f32) (x : Vec Ideal S512x1024 .f32) (w : Vec Ideal S512x1024 .bf16) (e : Vec Ideal S512x512 .f32)
    (w' : Vec Ideal S512x1024 .bf16) (r : Fin 512) (d : Fin 1024) :
    k0_pay5 a b c x w e w' (ix2 r d) = (x (ix2 r d) : EReal) + ∑ k : Fin 512, (a (ix2 r k) + b (ix2 r k) + c (ix2 r k)) * w (ix2 k d) + ∑ k : Fin 512, e (ix2 r k) * w' (ix2 k d) := by
  pointwise [k0_pay5]

theorem mixed_copy (a b c : Vec Ideal S512x512 .f32) (x : Vec Ideal S512x1024 .f32) (w : Vec Ideal S512x1024 .bf16) (e : Vec Ideal S512x512 .f32)
    (w' : Vec Ideal S512x1024 .bf16) (r : Fin 512) (d : Fin 1024) :
    k0_pay6 a b c x w e w' (ix2 r d) = k0_pay5 a b c x w e w' (ix2 r d) := by
  pointwise [k0_pay6]

/-- The normalised row. -/
theorem normed_at (a b c : Vec Ideal S512x512 .f32) (x : Vec Ideal S512x1024 .f32) (w : Vec Ideal S512x1024 .bf16) (e : Vec Ideal S512x512 .f32)
    (w' : Vec Ideal S512x1024 .bf16) (g : Vec Ideal S1x1024 .f32) (r : Fin 512) (d : Fin 1024) :
    k0_pay1 (k0_pay5 a b c x w e w') (k0_pay7 g) (k0_pay8 a b c x w e w') (ix2 r d)
      = Post.normed (fun k => k0_pay5 a b c x w e w' (ix2 r k)) (fun k => g (ix2 0 k)) d := by
  unfold Post.normed Post.scale
  pointwise [k0_pay1, k0_pay7, k0_pay8]

theorem zero_at (y : S512x1024.Idx) : k0_pay2 (F := Ideal) y = 0 := by
  pointwise [k0_pay2]

/-- One chunk's step. -/
theorem step_at (h : Vec Ideal S512x1024 .bf16) (u : Vec Ideal S1024x1024 .bf16) (p : Vec Ideal S512x1024 .f32) (v : Vec Ideal S1024x1024 .bf16)
    (r : Fin 512) (d : Fin 1024) :
    k0_pay3 h u p v (ix2 r d) = (p (ix2 r d) : EReal) + ∑ k : Fin 1024, Post.act (∑ e : Fin 1024, h (ix2 r e) * u (ix2 e k)) * v (ix2 k d) := by
  unfold Post.act
  pointwise [k0_pay3]

theorem last_at (x p : Vec Ideal S512x1024 .f32) (r : Fin 512) (d : Fin 1024) :
    k0_pay4 x p (ix2 r d) = (x (ix2 r d) : EReal) + p (ix2 r d) := by
  pointwise [k0_pay4]

end Cert.Kernel2Ideal.Post

end
-- ==== Proof.Post2Blocks.lean ====
/-
  The call that ends a layer: its blocks, as elements of the launched arrays.
-/
module

public import proofs.«01_k».proof.Proof.Post2Body
public import Idealize.ShloMosaic.Lib.StableHlo.ReadAt

@[expose] public section

set_option maxRecDepth 16384

noncomputable section

namespace Cert.Kernel2Ideal.Post

open Cert.Kernel2Ideal.Gen Cert.Kernel2Ideal.Facts
open Idealize.ShloMosaic Idealize.ShloMosaic.TcCoe

variable (m : (ℓ : Loc nD τ sig) → Buf (Elt Ideal) ℓ) (c : Dev nD)

/-- The rows, the mixers' outputs and the weights, as launched. -/
abbrev argX : FVec Ideal S4x8192x1024 .f32 := m ((c.tc : Thread nD τ).loc main_arg0)
@[inherit_doc argX] abbrev argA1 : FVec Ideal S4x8192x512 .f32 := m ((c.tc : Thread nD τ).loc main_arg1)
@[inherit_doc argX] abbrev argA2 : FVec Ideal S4x8192x512 .f32 := m ((c.tc : Thread nD τ).loc main_arg2)
@[inherit_doc argX] abbrev argA3 : FVec Ideal S4x8192x512 .f32 := m ((c.tc : Thread nD τ).loc main_arg3)
@[inherit_doc argX] abbrev argB : FVec Ideal S4x8192x512 .f32 := m ((c.tc : Thread nD τ).loc main_arg4)
@[inherit_doc argX] abbrev argW : FVec Ideal S1024x1024 .f32 := m ((c.tc : Thread nD τ).loc main_arg5)
@[inherit_doc argX] abbrev argG : FVec Ideal S1024 .f32 := m ((c.tc : Thread nD τ).loc main_arg6)
@[inherit_doc argX] abbrev argU : FVec Ideal S1024x4096 .f32 := m ((c.tc : Thread nD τ).loc main_arg7)
@[inherit_doc argX] abbrev argD : FVec Ideal S4096x1024 .f32 := m ((c.tc : Thread nD τ).loc main_arg8)

/-- Row `R` of the rows and of the mixers' outputs; the weights. -/
def rowX (R : Fin 32768) (d : Fin 1024) : EReal := argX m c (ix3 ⟨R.val / 8192, by omega⟩ ⟨R.val % 8192, by omega⟩ d)
@[inherit_doc rowX] def rowA (R : Fin 32768) (k : Fin 512) : EReal :=
  (argA1 m c (ix3 ⟨R.val / 8192, by omega⟩ ⟨R.val % 8192, by omega⟩ k) : EReal) + (argA2 m c (ix3 ⟨R.val / 8192, by omega⟩ ⟨R.val % 8192, by omega⟩ k) : EReal) + (argA3 m c (ix3 ⟨R.val / 8192, by omega⟩ ⟨R.val % 8192, by omega⟩ k) : EReal)
@[inherit_doc rowX] def rowB (R : Fin 32768) (k : Fin 512) : EReal := argB m c (ix3 ⟨R.val / 8192, by omega⟩ ⟨R.val % 8192, by omega⟩ k)
@[inherit_doc rowX] def wout (l d : Fin 1024) : EReal := argW m c (ix2 l d)
@[inherit_doc rowX] def gain (d : Fin 1024) : EReal := argG m c (ix1 d)
@[inherit_doc rowX] def wup (d : Fin 1024) (l : Fin 4096) : EReal := argU m c (ix2 d l)
@[inherit_doc rowX] def wdn (l : Fin 4096) (d : Fin 1024) : EReal := argD m c (ix2 l d)

/-- Row `R` with the mixers' outputs. -/
def row1 (R : Fin 32768) : Fin 1024 → EReal := Post.mixed (rowX m c R) (rowA m c R) (rowB m c R) (wout m c)

theorem host_x (R : Fin 32768) (d : Fin 1024) : V m c main_v0 (ix2 R d) = rowX m c R d := by
  unfold V rowX; after_reads_at

theorem host_a1 (R : Fin 32768) (k : Fin 512) : V m c main_v1 (ix2 R k) = argA1 m c (ix3 ⟨R.val / 8192, by omega⟩ ⟨R.val % 8192, by omega⟩ k) := by
  unfold V; after_reads_at

theorem host_a2 (R : Fin 32768) (k : Fin 512) : V m c main_v2 (ix2 R k) = argA2 m c (ix3 ⟨R.val / 8192, by omega⟩ ⟨R.val % 8192, by omega⟩ k) := by
  unfold V; after_reads_at

theorem host_a3 (R : Fin 32768) (k : Fin 512) : V m c main_v3 (ix2 R k) = argA3 m c (ix3 ⟨R.val / 8192, by omega⟩ ⟨R.val % 8192, by omega⟩ k) := by
  unfold V; after_reads_at

theorem host_b (R : Fin 32768) (k : Fin 512) : V m c main_v4 (ix2 R k) = rowB m c R k := by
  unfold V rowB; after_reads_at

theorem host_w (l d : Fin 1024) : V m c main_v5 (ix2 l d) = wout m c l d := by
  unfold V wout; after_reads_at

theorem host_g (d : Fin 1024) : V m c main_v6 (ix2 0 d) = gain m c d := by
  unfold V gain; after_reads_at

theorem host_u (d : Fin 1024) (l : Fin 4096) : V m c main_v7 (ix2 d l) = wup m c d l := by
  unfold V wup; after_reads_at

theorem host_d (l : Fin 4096) (d : Fin 1024) : V m c main_v8 (ix2 l d) = wdn m c l d := by
  unfold V wdn; after_reads_at

/-- Where each window's block lies, in blocks. -/
theorem places : ∀ t : Fin cfg0.N, win0_0.index t = ![t.val / 4, 0]
    ∧ win0_1.index t = ![t.val / 4, 0]
    ∧ win0_2.index t = ![t.val / 4, 0]
    ∧ win0_3.index t = ![t.val / 4, 0]
    ∧ win0_4.index t = ![t.val / 4, 0]
    ∧ win0_5.index t = ![0, 0]
    ∧ win0_6.index t = ![1, 0]
    ∧ win0_7.index t = ![0, 0]
    ∧ win0_8.index t = ![0, t.val % 4]
    ∧ win0_9.index t = ![t.val % 4, 0]
    ∧ win0_10.index t = ![t.val / 4, 0] :=
  (by decide +kernel : ∀ t : Fin grid0.N, _)

theorem row_lt (t : Fin cfg0.N) (r : Fin 512) : 512 * (t.val / 4) + r.val < 32768 := by
  have := t.isLt; have h : cfg0.N = 256 := N_0; omega

variable (X : ∀ b : Ref sig .tc, Buf (Elt Ideal) ((c.tc : Thread nD τ).loc b)) (t : Fin cfg0.N)

theorem blk0_at (r : Fin 512) (d : Fin 1024) :
    ((cfg0.win 0).blk t).view.read (Elt Ideal) (X (Pipeline.arrRef spec0 0)) (ix2 r d) = X main_v0 (ix2 ⟨512 * (t.val / 4) + r.val, row_lt t r⟩ d) := by
  blk_simp
  refine congrArg (X main_v0) ?_
  blk_ext [places t]

theorem blk1_at (r : Fin 512) (d : Fin 512) :
    ((cfg0.win 1).blk t).view.read (Elt Ideal) (X (Pipeline.arrRef spec0 1)) (ix2 r d) = X main_v1 (ix2 ⟨512 * (t.val / 4) + r.val, row_lt t r⟩ d) := by
  blk_simp
  refine congrArg (X main_v1) ?_
  blk_ext [places t]

theorem blk2_at (r : Fin 512) (d : Fin 512) :
    ((cfg0.win 2).blk t).view.read (Elt Ideal) (X (Pipeline.arrRef spec0 2)) (ix2 r d) = X main_v2 (ix2 ⟨512 * (t.val / 4) + r.val, row_lt t r⟩ d) := by
  blk_simp
  refine congrArg (X main_v2) ?_
  blk_ext [places t]

theorem blk3_at (r : Fin 512) (d : Fin 512) :
    ((cfg0.win 3).blk t).view.read (Elt Ideal) (X (Pipeline.arrRef spec0 3)) (ix2 r d) = X main_v3 (ix2 ⟨512 * (t.val / 4) + r.val, row_lt t r⟩ d) := by
  blk_simp
  refine congrArg (X main_v3) ?_
  blk_ext [places t]

theorem blk4_at (r : Fin 512) (d : Fin 512) :
    ((cfg0.win 4).blk t).view.read (Elt Ideal) (X (Pipeline.arrRef spec0 4)) (ix2 r d) = X main_v4 (ix2 ⟨512 * (t.val / 4) + r.val, row_lt t r⟩ d) := by
  blk_simp
  refine congrArg (X main_v4) ?_
  blk_ext [places t]

theorem blk5_at (k : Fin 512) (d : Fin 1024) :
    ((cfg0.win 5).blk t).view.read (Elt Ideal) (X (Pipeline.arrRef spec0 5)) (ix2 k d) = X main_v5 (ix2 ⟨k.val, by omega⟩ d) := by
  blk_simp
  refine congrArg (X main_v5) ?_
  blk_ext [places t]

theorem blk6_at (k : Fin 512) (d : Fin 1024) :
    ((cfg0.win 6).blk t).view.read (Elt Ideal) (X (Pipeline.arrRef spec0 6)) (ix2 k d) = X main_v5 (ix2 ⟨512 + k.val, by omega⟩ d) := by
  blk_simp
  refine congrArg (X main_v5) ?_
  blk_ext [places t]

theorem blk7_at (d : Fin 1024) :
    ((cfg0.win 7).blk t).view.read (Elt Ideal) (X (Pipeline.arrRef spec0 7)) (ix2 0 d) = X main_v6 (ix2 0 d) := by
  blk_simp
  refine congrArg (X main_v6) ?_
  blk_ext [places t]

theorem blk8_at (d k : Fin 1024) :
    ((cfg0.win 8).blk t).view.read (Elt Ideal) (X (Pipeline.arrRef spec0 8)) (ix2 d k)
      = X main_v7 (ix2 d ⟨(t.val % 4 * 1024 + k.val) % 4096, Nat.mod_lt _ (by decide)⟩) := by
  blk_simp
  refine congrArg (X main_v7) ?_
  blk_ext [places t]

theorem blk9_at (k d : Fin 1024) :
    ((cfg0.win 9).blk t).view.read (Elt Ideal) (X (Pipeline.arrRef spec0 9)) (ix2 k d)
      = X main_v8 (ix2 ⟨(t.val % 4 * 1024 + k.val) % 4096, Nat.mod_lt _ (by decide)⟩ d) := by
  blk_simp
  refine congrArg (X main_v8) ?_
  blk_ext [places t]

end Cert.Kernel2Ideal.Post

end
-- ==== Proof.Post2State.lean ====
/-
  The call that ends a layer: what its buffers hold after each grid point.
-/
module

public import proofs.«01_k».proof.Proof.Post2Blocks

@[expose] public section

set_option maxRecDepth 16384

noncomputable section

namespace Cert.Kernel2Ideal.Post

open Cert.Kernel2Ideal.Gen Cert.Kernel2Ideal.Facts
open Idealize.ShloMosaic Idealize.ShloMosaic.TcCoe

variable (m : (ℓ : Loc nD τ sig) → Buf (Elt Ideal) ℓ) (c : Dev nD)

/-- The row of the array that row `r` of the block at point `t` is. -/
def rowOf (t : Fin cfg0.N) (r : Fin 512) : Fin 32768 := ⟨512 * (t.val / 4) + r.val, row_lt t r⟩

theorem mixed_blk (t : Fin cfg0.N) (r : Fin 512) (d : Fin 1024) :
    k0_pay5 (F := Ideal) (iblk m c 1 t) (iblk m c 2 t) (iblk m c 3 t) (iblk m c 0 t) (iblk m c 5 t) (iblk m c 4 t) (iblk m c 6 t) (ix2 r d) = row1 m c (rowOf t r) d := by
  rw [mixed_at]
  unfold row1 Post.mixed
  refine congrArg₂ (· + ·) (congrArg₂ (· + ·) ?_ ?_) ?_
  · exact (blk0_at c (V m c) t r d).trans (host_x m c _ d)
  · refine Finset.sum_congr rfl fun k _ => congrArg₂ (· * ·) ?_ ?_
    · unfold rowA
      exact congrArg₂ (· + ·) (congrArg₂ (· + ·) ((blk1_at c (V m c) t r k).trans (host_a1 m c _ k)) ((blk2_at c (V m c) t r k).trans (host_a2 m c _ k)))
        ((blk3_at c (V m c) t r k).trans (host_a3 m c _ k))
    · exact (blk5_at c (V m c) t k d).trans (host_w m c _ d)
  · refine Finset.sum_congr rfl fun k _ => congrArg₂ (· * ·) ?_ ?_
    · exact (blk4_at c (V m c) t r k).trans (host_b m c _ k)
    · exact (blk6_at c (V m c) t k d).trans (host_w m c _ d)

theorem gain_blk (t : Fin cfg0.N) (d : Fin 1024) : (iblk m c 7 t) (ix2 0 d) = gain m c d :=
  (blk7_at c (V m c) t d).trans (host_g m c d)

/-- What a chunk adds, from a block that holds the normalised rows. -/
theorem chunk_blk (t : Fin cfg0.N) (r : Fin 512) (d : Fin 1024) (h : Vec Ideal S512x1024 .bf16) (x : Fin 1024 → EReal)
    (hh : ∀ e, h (ix2 r e) = Post.normed x (gain m c) e) :
    (∑ k : Fin 1024, Post.act (∑ e : Fin 1024, h (ix2 r e) * (show Vec Ideal S1024x1024 .bf16 from iblk m c 8 t) (ix2 e k))
        * (show Vec Ideal S1024x1024 .bf16 from iblk m c 9 t) (ix2 k d) : EReal)
      = Post.chunk x (gain m c) (wup m c) (wdn m c) (t.val % 4) d := by
  unfold Post.chunk Post.hidden
  refine Finset.sum_congr rfl fun k _ => congrArg₂ (· * ·) (congrArg Post.act (Finset.sum_congr rfl fun e _ => congrArg₂ (· * ·) (hh e) ?_)) ?_
  · exact (blk8_at c (V m c) t e k).trans (host_u m c e _)
  · exact (blk9_at c (V m c) t k d).trans (host_d m c _ d)

/-- After point `t`: the rows with the mixers' outputs, the same rows normalised, the chunks added so far. -/
structure Holds (t : Fin cfg0.N) : Prop where
  row : ∀ r d, (outsAt0 m c t.val t.isLt).2.1 (ix2 r d) = row1 m c (rowOf t r) d
  nrm : ∀ r d, (outsAt0 m c t.val t.isLt).2.2.1 (ix2 r d) = Post.normed (row1 m c (rowOf t r)) (gain m c) d
  acc : ∀ r d, (outsAt0 m c t.val t.isLt).2.2.2 (ix2 r d)
    = ∑ s ∈ Finset.range (t.val % 4 + 1), Post.chunk (row1 m c (rowOf t r)) (gain m c) (wup m c) (wdn m c) s d

theorem holds_first (t : Fin cfg0.N) (h0 : t.val % 4 = 0) : Holds m c t := by
  have h1 : ¬t.val % 4 = 3 := by omega
  have hn : ∀ r d, k0_pay1 (F := Ideal) (k0_pay5 (iblk m c 1 t) (iblk m c 2 t) (iblk m c 3 t) (iblk m c 0 t) (iblk m c 5 t) (iblk m c 4 t) (iblk m c 6 t)) (k0_pay7 (iblk m c 7 t)) (k0_pay8 (iblk m c 1 t) (iblk m c 2 t) (iblk m c 3 t) (iblk m c 0 t) (iblk m c 5 t) (iblk m c 4 t) (iblk m c 6 t)) (ix2 r d)
      = Post.normed (row1 m c (rowOf t r)) (gain m c) d := by
    intro r d
    rw [normed_at]
    exact congrArg₂ (fun x y => Post.normed x y d) (funext fun k => mixed_blk m c t r k) (funext fun k => gain_blk m c t k)
  refine ⟨fun r d => ?_, fun r d => ?_, fun r d => ?_⟩
  · rw [outsAt0_A m c t h0 h1]
    frame_out
    rw [mixed_copy]
    exact mixed_blk m c t r d
  · rw [outsAt0_A m c t h0 h1]
    frame_out
    exact hn r d
  · rw [outsAt0_A m c t h0 h1]
    frame_out
    rw [step_at, zero_at, chunk_blk m c t r d _ _ (fun e => hn r e), h0, Finset.sum_range_one]
    exact zero_add _

theorem rowOf_prev (t : Fin cfg0.N) (h0 : ¬t.val % 4 = 0) (r : Fin 512) :
    rowOf ⟨t.val - 1, Nat.lt_of_le_of_lt (Nat.sub_le _ _) t.isLt⟩ r = rowOf t r :=
  Fin.ext (by show 512 * ((t.val - 1) / 4) + r.val = 512 * (t.val / 4) + r.val; omega)

theorem acc_prev (t : Fin cfg0.N) (h0 : ¬t.val % 4 = 0) : (t.val - 1) % 4 + 1 = t.val % 4 := by omega

theorem holds_next (t : Fin cfg0.N) (h0 : ¬t.val % 4 = 0)
    (p : Holds m c ⟨t.val - 1, Nat.lt_of_le_of_lt (Nat.sub_le _ _) t.isLt⟩) : Holds m c t := by
  have pr := fun r d => p.row r d
  have pn := fun r d => p.nrm r d
  have pa := fun r d => p.acc r d
  simp only [rowOf_prev t h0] at pr pn pa
  by_cases h1 : t.val % 4 = 3
  · refine ⟨fun r d => ?_, fun r d => ?_, fun r d => ?_⟩
    · rw [outsAt0_C m c t h0 h1]
      exact pr r d
    · rw [outsAt0_C m c t h0 h1]
      exact pn r d
    · rw [outsAt0_C m c t h0 h1]
      frame_out
      rw [step_at, chunk_blk m c t r d _ (row1 m c (rowOf t r)) (fun e => (congrFun ((Memref.isWhole_whole _).read_unread _) _).trans (pn r e)), Finset.sum_range_succ]
      refine congrArg (· + _) ?_
      refine (congrFun ((Memref.isWhole_whole _).read_unread _) _).trans ((pa r d).trans ?_)
      rw [acc_prev t h0]
  · refine ⟨fun r d => ?_, fun r d => ?_, fun r d => ?_⟩
    · rw [outsAt0_B m c t h0 h1]
      exact pr r d
    · rw [outsAt0_B m c t h0 h1]
      exact pn r d
    · rw [outsAt0_B m c t h0 h1]
      frame_out
      rw [step_at, chunk_blk m c t r d _ (row1 m c (rowOf t r)) (fun e => (congrFun ((Memref.isWhole_whole _).read_unread _) _).trans (pn r e)), Finset.sum_range_succ]
      refine congrArg (· + _) ?_
      refine (congrFun ((Memref.isWhole_whole _).read_unread _) _).trans ((pa r d).trans ?_)
      rw [acc_prev t h0]

theorem holds (n : ℕ) : ∀ h : n < cfg0.N, Holds m c ⟨n, h⟩ := by
  induction n with
  | zero => exact fun h => holds_first m c _ rfl
  | succ n ih =>
    intro h
    by_cases h0 : (n + 1) % 4 = 0
    · exact holds_first m c _ h0
    · exact holds_next m c ⟨n + 1, h⟩ h0 (ih (by omega))

/-- What the last point of a block's four stores. -/
theorem stored (t : Fin cfg0.N) (h1 : t.val % 4 = 3) (r : Fin 512) (d : Fin 1024) :
    (outsAt0 m c t.val t.isLt).1 (ix2 r d) = Post.fed (row1 m c (rowOf t r)) (gain m c) (wup m c) (wdn m c) d := by
  have h0 : ¬t.val % 4 = 0 := by omega
  have H := holds m c t.val t.isLt
  have p := holds m c (t.val - 1) (Nat.lt_of_le_of_lt (Nat.sub_le _ _) t.isLt)
  have pr := fun r d => p.row r d
  simp only [rowOf_prev t h0] at pr
  have ha : (outsAt0 m c t.val t.isLt).2.2.2 (ix2 r d)
      = ∑ s ∈ Finset.range 4, Post.chunk (row1 m c (rowOf t r)) (gain m c) (wup m c) (wdn m c) s d :=
    (H.acc r d).trans (by show Finset.sum (Finset.range (t.val % 4 + 1)) _ = _; rw [h1])
  rw [outsAt0_C m c t h0 h1] at ha ⊢
  unfold Post.fed
  rw [← Post.chunks]
  refine Eq.trans ?_ (congrArg (_ + ·) ha)
  frame_out
  rw [last_at]
  refine congrArg (· + _) ?_
  exact (congrFun ((Memref.isWhole_whole _).read_unread _) _).trans (pr r d)

end Cert.Kernel2Ideal.Post

end
-- ==== Proof.Post2Out.lean ====
/-
  The call that ends a layer: the array it returns.
-/
module

public import proofs.«01_k».proof.Proof.Post2State

@[expose] public section

set_option maxRecDepth 16384

noncomputable section

namespace Cert.Kernel2Ideal.Post

open Cert.Kernel2Ideal.Gen Cert.Kernel2Ideal.Facts
open Idealize.ShloMosaic Idealize.ShloMosaic.TcCoe

variable (m : (ℓ : Loc nD τ sig) → Buf (Elt Ideal) ℓ) (c : Dev nD)

/-- Every row after the feed-forward part. -/
def res : FVec Ideal S32768x1024 .f32 := fun i => Post.fed (row1 m c (i 0)) (gain m c) (wup m c) (wdn m c) (i 1)

theorem arr_eq : (dats m 0 c).arrAt 10 cfg0.N = res m c := by
  refine (dats m 0 c).arrAt_eq_of_covers 10 (res m c) (by decide +kernel) fun t hf y => ?_
  obtain ⟨r, d, rfl⟩ : ∃ (r : Fin 512) (d : Fin 1024), y = ix2 r d := ⟨y 0, y 1, (ix2_eta y).symm⟩
  blk_simp
  rw [after0_10]
  refine (stored m c t ((flush0_10 t).mp hf) r d).trans ?_
  unfold res
  refine congrArg₂ (fun R e => Post.fed (row1 m c R) (gain m c) (wup m c) (wdn m c) e) (Fin.ext ?_) (Fin.ext ?_)
  · show 512 * (t.val / 4) + r.val = _
    blk_simp [(places t)]
    omega
  · blk_simp [(places t)]

end Cert.Kernel2Ideal.Post

end
-- ==== Proof.Post2Ref.lean ====
/-
  The reference for the call that ends a layer, at an element, in pieces.
-/
module

public import proofs.«01_k».proof.Proof.Gen.Reference2Ideal.Run
public import proofs.«01_k».proof.Proof.Post
public import Idealize.ShloMosaic.Lib.Pipeline.ValueKit
public import Idealize.ShloMosaic.Lib.StableHlo.ReadAt

@[expose] public section

set_option maxRecDepth 16384

noncomputable section

namespace Cert.Reference2Ideal.Direct

open Cert.Reference2Ideal.Gen Cert.Reference2Ideal.Facts
open Idealize.ShloMosaic Idealize.ShloMosaic.TcCoe

/-- The mixers' outputs side by side. -/
def joined (a b : FVec Ideal S4x8192x512 .f32) : FVec Ideal S4x8192x1024 .f32 :=
  concatenate S4x8192x1024 2 [⟨S4x8192x512, a⟩, ⟨S4x8192x512, b⟩] concatenates_S4x8192x512_S4x8192x512_S4x8192x1024_d2

/-- Their product with the output matrix, added to the input. -/
def sum1 (x j : FVec Ideal S4x8192x1024 .f32) (w : FVec Ideal S1024x1024 .f32) : FVec Ideal S4x8192x1024 .f32 :=
  addf x (Host.dotGeneral dot_S4x8192x1024_S1024x1024_S4x8192x1024_2_0_01_1_n_n none j w)

/-- The reciprocal root mean squares. -/
def scales (y : FVec Ideal S4x8192x1024 .f32) : FVec Ideal S4x8192x1 .f32 :=
  Host.rsqrt (addf (Host.divf (broadcastInDim S4x8192x1 ![0, 1] bcast_S4x8192_S4x8192x1_0_1 (Host.reduceAdd (mulf y y) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))

/-- The normalised rows. -/
def normal (y : FVec Ideal S4x8192x1024 .f32) (s : FVec Ideal S4x8192x1 .f32) (g : FVec Ideal S1024 .f32) : FVec Ideal S4x8192x1024 .f32 :=
  mulf (mulf y (broadcastInDim S4x8192x1024 ![0, 1, 2] bcast_S4x8192x1_S4x8192x1024_0_1_2 s)) (broadcastInDim S4x8192x1024 ![0, 1, 2] bcast_S1x1x1024_S4x8192x1024_0_1_2 (broadcastInDim S1x1x1024 ![2] bcast_S1024_S1x1x1024_2 g))

/-- The hidden units. -/
def units (v : FVec Ideal S4x8192x1024 .f32) (u : FVec Ideal S1024x4096 .f32) : FVec Ideal S4x8192x4096 .f32 :=
  Host.dotGeneral dot_S4x8192x1024_S1024x4096_S4x8192x4096_2_0_01_1_n_n none v u

/-- Their positive part. -/
def pos (h : FVec Ideal S4x8192x4096 .f32) : FVec Ideal S4x8192x4096 .f32 :=
  maximumf h (broadcastInDim S4x8192x4096 ![] bcast_S_S4x8192x4096 (constant S_ .f32 0x00000000#32))

/-- The second sum, its rows in one list. -/
def sum2 (y : FVec Ideal S4x8192x1024 .f32) (p : FVec Ideal S4x8192x4096 .f32) (e : FVec Ideal S4096x1024 .f32) : FVec Ideal S32768x1024 .f32 :=
  shapeCast _ (addf y (Host.dotGeneral dot_S4x8192x4096_S4096x1024_S4x8192x1024_2_0_01_1_n_n none (mulf p p) e)) shapeCasts_S4x8192x1024_S32768x1024

/-- The whole call, from the first sum on. -/
def rest (y : FVec Ideal S4x8192x1024 .f32) (g : FVec Ideal S1024 .f32) (u : FVec Ideal S1024x4096 .f32) (e : FVec Ideal S4096x1024 .f32) : FVec Ideal S32768x1024 .f32 :=
  sum2 y (pos (units (normal y (scales y) g) u)) e

/-- The whole call. -/
def out (x : FVec Ideal S4x8192x1024 .f32) (a0 : FVec Ideal S4x8192x512 .f32) (a1 : FVec Ideal S4x8192x512 .f32) (a2 : FVec Ideal S4x8192x512 .f32) (b : FVec Ideal S4x8192x512 .f32) (w : FVec Ideal S1024x1024 .f32) (g : FVec Ideal S1024 .f32) (u : FVec Ideal S1024x4096 .f32) (e : FVec Ideal S4096x1024 .f32) : FVec Ideal S32768x1024 .f32 :=
  rest (sum1 x (joined (addf (addf a0 a1) a2) b) w) g u e

theorem res_eq (m : (ℓ : Loc nD τ sig) → Buf (Elt Ideal) ℓ) (c : Dev nD) :
    Value.res_main_v23 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Value.res_main_v23 out rest sum2 pos units normal scales sum1 joined
  rfl

variable (b0 : Fin 4) (s : Fin 8192)

theorem joined_at (a b : FVec Ideal S4x8192x512 .f32) (l : Fin 1024) :
    joined a b (ix3 b0 s l) = if h : l.val < 512 then a (ix3 b0 s ⟨l.val, h⟩) else b (ix3 b0 s ⟨l.val - 512, by omega⟩) := by
  pointwise [joined]

theorem sum1_at (x j : FVec Ideal S4x8192x1024 .f32) (w : FVec Ideal S1024x1024 .f32) (d : Fin 1024) :
    sum1 x j w (ix3 b0 s d) = x (ix3 b0 s d) + ∑ l, j (ix3 b0 s l) * w (ix2 l d) := by
  pointwise [sum1]

theorem scales_at (y : FVec Ideal S4x8192x1024 .f32) :
    scales y (ix3 b0 s 0) = Post.scale (fun d => y (ix3 b0 s d)) := by
  pointwise [scales]
  rfl

theorem normal_at (y : FVec Ideal S4x8192x1024 .f32) (g : FVec Ideal S1024 .f32) (d : Fin 1024) :
    normal y (scales y) g (ix3 b0 s d) = Post.normed (fun d => y (ix3 b0 s d)) (fun d => g (ix1 d)) d := by
  rw [Post.normed, ← scales_at]
  pointwise [normal]

theorem units_at (v : FVec Ideal S4x8192x1024 .f32) (u : FVec Ideal S1024x4096 .f32) (l : Fin 4096) :
    units v u (ix3 b0 s l) = ∑ d, v (ix3 b0 s d) * u (ix2 d l) := by
  pointwise [units]

theorem pos_at (h : FVec Ideal S4x8192x4096 .f32) (l : Fin 4096) : pos h (ix3 b0 s l) = max (h (ix3 b0 s l)) 0 := by
  pointwise [pos]

theorem sum2_at (y : FVec Ideal S4x8192x1024 .f32) (p : FVec Ideal S4x8192x4096 .f32) (e : FVec Ideal S4096x1024 .f32) (R : Fin 32768) (d : Fin 1024) :
    sum2 y p e (ix2 R d) = y (ix3 ⟨R.val / 8192, by omega⟩ ⟨R.val % 8192, Nat.mod_lt _ (by decide)⟩ d)
      + ∑ l, p (ix3 ⟨R.val / 8192, by omega⟩ ⟨R.val % 8192, Nat.mod_lt _ (by decide)⟩ l) * p (ix3 ⟨R.val / 8192, by omega⟩ ⟨R.val % 8192, Nat.mod_lt _ (by decide)⟩ l) * e (ix2 l d) := by
  pointwise [sum2]

/-- The call from the first sum on, at an element. -/
theorem rest_at (y : FVec Ideal S4x8192x1024 .f32) (g : FVec Ideal S1024 .f32) (u : FVec Ideal S1024x4096 .f32) (e : FVec Ideal S4096x1024 .f32) (R : Fin 32768) (d : Fin 1024) :
    rest y g u e (ix2 R d) = Post.fed (fun d => y (ix3 ⟨R.val / 8192, by omega⟩ ⟨R.val % 8192, Nat.mod_lt _ (by decide)⟩ d)) (fun d => g (ix1 d)) (fun d l => u (ix2 d l)) (fun l d => e (ix2 l d)) d := by
  rw [rest, sum2_at, Post.fed]
  simp only [pos_at, units_at, normal_at]
  rfl

/-- The call at an element. -/
theorem out_at (x : FVec Ideal S4x8192x1024 .f32) (a0 : FVec Ideal S4x8192x512 .f32) (a1 : FVec Ideal S4x8192x512 .f32) (a2 : FVec Ideal S4x8192x512 .f32) (b : FVec Ideal S4x8192x512 .f32) (w : FVec Ideal S1024x1024 .f32) (g : FVec Ideal S1024 .f32) (u : FVec Ideal S1024x4096 .f32) (e : FVec Ideal S4096x1024 .f32) (R : Fin 32768) (d : Fin 1024) :
    out x a0 a1 a2 b w g u e (ix2 R d) = Post.fed
      (Post.mixed (fun d => x (ix3 ⟨R.val / 8192, by omega⟩ ⟨R.val % 8192, Nat.mod_lt _ (by decide)⟩ d))
        (fun k => ((addf (addf a0 a1) a2) : FVec Ideal S4x8192x512 .f32) (ix3 ⟨R.val / 8192, by omega⟩ ⟨R.val % 8192, Nat.mod_lt _ (by decide)⟩ k))
        (fun k => b (ix3 ⟨R.val / 8192, by omega⟩ ⟨R.val % 8192, Nat.mod_lt _ (by decide)⟩ k)) (fun l d => w (ix2 l d)))
      (fun d => g (ix1 d)) (fun d l => u (ix2 d l)) (fun l d => e (ix2 l d)) d := by
  rw [out, rest_at]
  congr 1
  funext d
  rw [sum1_at, ← Post.mixed_eq]
  simp only [joined_at]

end Cert.Reference2Ideal.Direct

end
-- ==== Proof.Post2Claims.lean ====
/-
  The call that ends a layer: the launch and the reference end with the same array.
-/
module

public import proofs.«01_k».proof.Defs
public import proofs.«01_k».proof.Proof.Post2Out
public import proofs.«01_k».proof.Proof.Post2Ref
public import proofs.«01_k».proof.Proof.Gen.Kernel2.Frame
public import proofs.«01_k».proof.Proof.Gen.Kernel2Ideal.Frame
public import Idealize.ShloMosaic.Adequacy
public import Idealize.ShloMosaic.Init

@[expose] public section

set_option maxRecDepth 16384

noncomputable section

namespace Cert.Post2Claims

open Idealize.ShloMosaic Idealize.SL.Sem Idealize.ShloMosaic.TcCoe

section Launch

open Cert.Kernel2Ideal Cert.Kernel2Ideal.Gen Cert.Kernel2Ideal.Post

variable (m : (ℓ : Loc nD τ sig) → Buf (Elt Ideal) ℓ) (ρ : Dev nD → PrngReg)

theorem value : θ_run (defs (F := Ideal)) (onTc (τ := τ) (main (F := Ideal))) ⟨m, fun _ => 0, ρ⟩ (fun r => ∀ c : Dev nD,
      r.2.mem ((c.tc : Thread nD τ).loc main_v9) = Cert.Kernel2Ideal.Post.res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have e : θ_run (defs (F := Ideal)) (onTc (τ := τ) (main (F := Ideal))) ⟨m, fun _ => 0, ρ⟩ (fun r => ∀ c : Dev nD,
      r.2.mem ((c.tc : Thread nD τ).loc main_v9) = Cert.Kernel2Ideal.Post.res m c) :=
    (θ_run defs _ _).mono (fun r hr c => ((hr c).1 10).trans (arr_eq m c)) (run_main m ρ)
  exact (θ_run defs _ _).mono (fun _ hr c => ⟨hr.1 c, hr.2.1 c⟩) (θ_run_and e (Cert.Kernel2Ideal.Gen.frame m ρ))

end Launch

theorem kernel : Cert.quiescent_Kernel2 (hKernel2 := Cert.Kernel2.Gen.facts) := fun m ρ _ => Cert.Kernel2.Gen.frame m ρ

theorem kernelIdeal : Cert.quiescent_Kernel2Ideal (hKernel2Ideal := Cert.Kernel2Ideal.Gen.facts) := fun m ρ _ => Cert.Kernel2Ideal.Gen.frame m ρ

theorem referenceIdeal : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem preserves : Cert.preserves_Kernel2_Kernel2Ideal := trivial

/-- The reference's array is the launch's. -/
theorem same (m : (ℓ : Loc Cert.Kernel2Ideal.nD Cert.Kernel2Ideal.τ Cert.Kernel2Ideal.sig) → Buf (Elt Ideal) ℓ) (c : Dev Cert.Kernel2Ideal.nD) :
    Cert.Reference2Ideal.Direct.out (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8)) = Cert.Kernel2Ideal.Post.res m c := by
  funext i
  obtain ⟨r, d, rfl⟩ : ∃ (r : Fin 32768) (d : Fin 1024), i = ix2 r d := ⟨i 0, i 1, (ix2_eta i).symm⟩
  exact Cert.Reference2Ideal.Direct.out_at _ _ _ _ _ _ _ _ _ r d

theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨_, value m ρ, ?_⟩
  refine (θ_run Cert.Reference2Ideal.defs _ _).mono (fun _ h c => ⟨(h c).1.trans ?_, (h c).2⟩) (Cert.Reference2Ideal.Value.run m' ρ')
  rw [Cert.Reference2Ideal.Direct.res_eq]
  obtain ⟨e0, e1, e2, e3, e4, e5, e6, e7, e8⟩ := hagree c
  rw [e0, e1, e2, e3, e4, e5, e6, e7, e8]
  exact same m c

end Cert.Post2Claims

end
-- ==== Proof.Post3Body.lean ====
/-
  The call that ends a layer: what its body computes, at an element.
-/
module

public import proofs.«01_k».proof.Proof.Gen.Kernel3Ideal.Value
public import proofs.«01_k».proof.Proof.Post
public import Idealize.ShloMosaic.Lib.Pipeline.ValueKit

@[expose] public section

set_option maxRecDepth 16384

noncomputable section

namespace Cert.Kernel3Ideal.Post

open Cert.Kernel3Ideal.Gen Cert.Kernel3Ideal.Facts
open Idealize.ShloMosaic Idealize.ShloMosaic.TcCoe

/-- The row with the mixers' outputs. -/
theorem mixed_at (a : Vec Ideal S512x512 .f32) (x : Vec Ideal S512x1024 .f32) (w : Vec Ideal S512x1024 .bf16) (e : Vec Ideal S512x512 .f32)
    (w' : Vec Ideal S512x1024 .bf16) (r : Fin 512) (d : Fin 1024) :
    k0_pay4 a x w e w' (ix2 r d) = (x (ix2 r d) : EReal) + ∑ k : Fin 512, (a (ix2 r k)) * w (ix2 k d) + ∑ k : Fin 512, e (ix2 r k) * w' (ix2 k d) := by
  pointwise [k0_pay4]

theorem mixed_copy (a : Vec Ideal S512x512 .f32) (x : Vec Ideal S512x1024 .f32) (w : Vec Ideal S512x1024 .bf16) (e : Vec Ideal S512x512 .f32)
    (w' : Vec Ideal S512x1024 .bf16) (r : Fin 512) (d : Fin 1024) :
    k0_pay5 a x w e w' (ix2 r d) = k0_pay4 a x w e w' (ix2 r d) := by
  pointwise [k0_pay5]

/-- The normalised row. -/
theorem normed_at (a : Vec Ideal S512x512 .f32) (x : Vec Ideal S512x1024 .f32) (w : Vec Ideal S512x1024 .bf16) (e : Vec Ideal S512x512 .f32)
    (w' : Vec Ideal S512x1024 .bf16) (g : Vec Ideal S1x1024 .f32) (r : Fin 512) (d : Fin 1024) :
    k0_pay6 a x w e w' g (ix2 r d)
      = Post.normed (fun k => k0_pay4 a x w e w' (ix2 r k)) (fun k => g (ix2 0 k)) d := by
  unfold Post.normed Post.scale
  pointwise [k0_pay6]

theorem zero_at (y : S512x1024.Idx) : k0_pay1 (F := Ideal) y = 0 := by
  pointwise [k0_pay1]

/-- One chunk's step. -/
theorem step_at (h : Vec Ideal S512x1024 .bf16) (u : Vec Ideal S1024x1024 .bf16) (p : Vec Ideal S512x1024 .f32) (v : Vec Ideal S1024x1024 .bf16)
    (r : Fin 512) (d : Fin 1024) :
    k0_pay2 h u p v (ix2 r d) = (p (ix2 r d) : EReal) + ∑ k : Fin 1024, Post.act (∑ e : Fin 1024, h (ix2 r e) * u (ix2 e k)) * v (ix2 k d) := by
  unfold Post.act
  pointwise [k0_pay2]

theorem last_at (x p : Vec Ideal S512x1024 .f32) (r : Fin 512) (d : Fin 1024) :
    k0_pay3 x p (ix2 r d) = (x (ix2 r d) : EReal) + p (ix2 r d) := by
  pointwise [k0_pay3]

end Cert.Kernel3Ideal.Post

end
-- ==== Proof.Post3Blocks.lean ====
/-
  The call that ends a layer: its blocks, as elements of the launched arrays.
-/
module

public import proofs.«01_k».proof.Proof.Post3Body
public import Idealize.ShloMosaic.Lib.StableHlo.ReadAt

@[expose] public section

set_option maxRecDepth 16384

noncomputable section

namespace Cert.Kernel3Ideal.Post

open Cert.Kernel3Ideal.Gen Cert.Kernel3Ideal.Facts
open Idealize.ShloMosaic Idealize.ShloMosaic.TcCoe

variable (m : (ℓ : Loc nD τ sig) → Buf (Elt Ideal) ℓ) (c : Dev nD)

/-- The rows, the mixers' outputs and the weights, as launched. -/
abbrev argX : FVec Ideal S4x8192x1024 .f32 := m ((c.tc : Thread nD τ).loc main_arg0)
@[inherit_doc argX] abbrev argA1 : FVec Ideal S4x8192x512 .f32 := m ((c.tc : Thread nD τ).loc main_arg1)
@[inherit_doc argX] abbrev argB : FVec Ideal S4x8192x512 .f32 := m ((c.tc : Thread nD τ).loc main_arg2)
@[inherit_doc argX] abbrev argW : FVec Ideal S1024x1024 .f32 := m ((c.tc : Thread nD τ).loc main_arg3)
@[inherit_doc argX] abbrev argG : FVec Ideal S1024 .f32 := m ((c.tc : Thread nD τ).loc main_arg4)
@[inherit_doc argX] abbrev argU : FVec Ideal S1024x4096 .f32 := m ((c.tc : Thread nD τ).loc main_arg5)
@[inherit_doc argX] abbrev argD : FVec Ideal S4096x1024 .f32 := m ((c.tc : Thread nD τ).loc main_arg6)

/-- Row `R` of the rows and of the mixers' outputs; the weights. -/
def rowX (R : Fin 32768) (d : Fin 1024) : EReal := argX m c (ix3 ⟨R.val / 8192, by omega⟩ ⟨R.val % 8192, by omega⟩ d)
@[inherit_doc rowX] def rowA (R : Fin 32768) (k : Fin 512) : EReal :=
  (argA1 m c (ix3 ⟨R.val / 8192, by omega⟩ ⟨R.val % 8192, by omega⟩ k) : EReal)
@[inherit_doc rowX] def rowB (R : Fin 32768) (k : Fin 512) : EReal := argB m c (ix3 ⟨R.val / 8192, by omega⟩ ⟨R.val % 8192, by omega⟩ k)
@[inherit_doc rowX] def wout (l d : Fin 1024) : EReal := argW m c (ix2 l d)
@[inherit_doc rowX] def gain (d : Fin 1024) : EReal := argG m c (ix1 d)
@[inherit_doc rowX] def wup (d : Fin 1024) (l : Fin 4096) : EReal := argU m c (ix2 d l)
@[inherit_doc rowX] def wdn (l : Fin 4096) (d : Fin 1024) : EReal := argD m c (ix2 l d)

/-- Row `R` with the mixers' outputs. -/
def row1 (R : Fin 32768) : Fin 1024 → EReal := Post.mixed (rowX m c R) (rowA m c R) (rowB m c R) (wout m c)

theorem host_x (R : Fin 32768) (d : Fin 1024) : V m c main_v0 (ix2 R d) = rowX m c R d := by
  unfold V rowX; after_reads_at

theorem host_a1 (R : Fin 32768) (k : Fin 512) : V m c main_v1 (ix2 R k) = argA1 m c (ix3 ⟨R.val / 8192, by omega⟩ ⟨R.val % 8192, by omega⟩ k) := by
  unfold V; after_reads_at

theorem host_b (R : Fin 32768) (k : Fin 512) : V m c main_v2 (ix2 R k) = rowB m c R k := by
  unfold V rowB; after_reads_at

theorem host_w (l d : Fin 1024) : V m c main_v3 (ix2 l d) = wout m c l d := by
  unfold V wout; after_reads_at

theorem host_g (d : Fin 1024) : V m c main_v4 (ix2 0 d) = gain m c d := by
  unfold V gain; after_reads_at

theorem host_u (d : Fin 1024) (l : Fin 4096) : V m c main_v5 (ix2 d l) = wup m c d l := by
  unfold V wup; after_reads_at

theorem host_d (l : Fin 4096) (d : Fin 1024) : V m c main_v6 (ix2 l d) = wdn m c l d := by
  unfold V wdn; after_reads_at

/-- Where each window's block lies, in blocks. -/
theorem places : ∀ t : Fin cfg0.N, win0_0.index t = ![t.val / 4, 0]
    ∧ win0_1.index t = ![t.val / 4, 0]
    ∧ win0_2.index t = ![t.val / 4, 0]
    ∧ win0_3.index t = ![0, 0]
    ∧ win0_4.index t = ![1, 0]
    ∧ win0_5.index t = ![0, 0]
    ∧ win0_6.index t = ![0, t.val % 4]
    ∧ win0_7.index t = ![t.val % 4, 0]
    ∧ win0_8.index t = ![t.val / 4, 0] :=
  (by decide +kernel : ∀ t : Fin grid0.N, _)

theorem row_lt (t : Fin cfg0.N) (r : Fin 512) : 512 * (t.val / 4) + r.val < 32768 := by
  have := t.isLt; have h : cfg0.N = 256 := N_0; omega

variable (X : ∀ b : Ref sig .tc, Buf (Elt Ideal) ((c.tc : Thread nD τ).loc b)) (t : Fin cfg0.N)

theorem blk0_at (r : Fin 512) (d : Fin 1024) :
    ((cfg0.win 0).blk t).view.read (Elt Ideal) (X (Pipeline.arrRef spec0 0)) (ix2 r d) = X main_v0 (ix2 ⟨512 * (t.val / 4) + r.val, row_lt t r⟩ d) := by
  blk_simp
  refine congrArg (X main_v0) ?_
  blk_ext [places t]

theorem blk1_at (r : Fin 512) (d : Fin 512) :
    ((cfg0.win 1).blk t).view.read (Elt Ideal) (X (Pipeline.arrRef spec0 1)) (ix2 r d) = X main_v1 (ix2 ⟨512 * (t.val / 4) + r.val, row_lt t r⟩ d) := by
  blk_simp
  refine congrArg (X main_v1) ?_
  blk_ext [places t]

theorem blk2_at (r : Fin 512) (d : Fin 512) :
    ((cfg0.win 2).blk t).view.read (Elt Ideal) (X (Pipeline.arrRef spec0 2)) (ix2 r d) = X main_v2 (ix2 ⟨512 * (t.val / 4) + r.val, row_lt t r⟩ d) := by
  blk_simp
  refine congrArg (X main_v2) ?_
  blk_ext [places t]

theorem blk3_at (k : Fin 512) (d : Fin 1024) :
    ((cfg0.win 3).blk t).view.read (Elt Ideal) (X (Pipeline.arrRef spec0 3)) (ix2 k d) = X main_v3 (ix2 ⟨k.val, by omega⟩ d) := by
  blk_simp
  refine congrArg (X main_v3) ?_
  blk_ext [places t]

theorem blk4_at (k : Fin 512) (d : Fin 1024) :
    ((cfg0.win 4).blk t).view.read (Elt Ideal) (X (Pipeline.arrRef spec0 4)) (ix2 k d) = X main_v3 (ix2 ⟨512 + k.val, by omega⟩ d) := by
  blk_simp
  refine congrArg (X main_v3) ?_
  blk_ext [places t]

theorem blk5_at (d : Fin 1024) :
    ((cfg0.win 5).blk t).view.read (Elt Ideal) (X (Pipeline.arrRef spec0 5)) (ix2 0 d) = X main_v4 (ix2 0 d) := by
  blk_simp
  refine congrArg (X main_v4) ?_
  blk_ext [places t]

theorem blk6_at (d k : Fin 1024) :
    ((cfg0.win 6).blk t).view.read (Elt Ideal) (X (Pipeline.arrRef spec0 6)) (ix2 d k)
      = X main_v5 (ix2 d ⟨(t.val % 4 * 1024 + k.val) % 4096, Nat.mod_lt _ (by decide)⟩) := by
  blk_simp
  refine congrArg (X main_v5) ?_
  blk_ext [places t]

theorem blk7_at (k d : Fin 1024) :
    ((cfg0.win 7).blk t).view.read (Elt Ideal) (X (Pipeline.arrRef spec0 7)) (ix2 k d)
      = X main_v6 (ix2 ⟨(t.val % 4 * 1024 + k.val) % 4096, Nat.mod_lt _ (by decide)⟩ d) := by
  blk_simp
  refine congrArg (X main_v6) ?_
  blk_ext [places t]

end Cert.Kernel3Ideal.Post

end
-- ==== Proof.Post3State.lean ====
/-
  The call that ends a layer: what its buffers hold after each grid point.
-/
module

public import proofs.«01_k».proof.Proof.Post3Blocks

@[expose] public section

set_option maxRecDepth 16384

noncomputable section

namespace Cert.Kernel3Ideal.Post

open Cert.Kernel3Ideal.Gen Cert.Kernel3Ideal.Facts
open Idealize.ShloMosaic Idealize.ShloMosaic.TcCoe

variable (m : (ℓ : Loc nD τ sig) → Buf (Elt Ideal) ℓ) (c : Dev nD)

/-- The row of the array that row `r` of the block at point `t` is. -/
def rowOf (t : Fin cfg0.N) (r : Fin 512) : Fin 32768 := ⟨512 * (t.val / 4) + r.val, row_lt t r⟩

theorem mixed_blk (t : Fin cfg0.N) (r : Fin 512) (d : Fin 1024) :
    k0_pay4 (F := Ideal) (iblk m c 1 t) (iblk m c 0 t) (iblk m c 3 t) (iblk m c 2 t) (iblk m c 4 t) (ix2 r d) = row1 m c (rowOf t r) d := by
  rw [mixed_at]
  unfold row1 Post.mixed
  refine congrArg₂ (· + ·) (congrArg₂ (· + ·) ?_ ?_) ?_
  · exact (blk0_at c (V m c) t r d).trans (host_x m c _ d)
  · refine Finset.sum_congr rfl fun k _ => congrArg₂ (· * ·) ?_ ?_
    · unfold rowA
      exact (blk1_at c (V m c) t r k).trans (host_a1 m c _ k)
    · exact (blk3_at c (V m c) t k d).trans (host_w m c _ d)
  · refine Finset.sum_congr rfl fun k _ => congrArg₂ (· * ·) ?_ ?_
    · exact (blk2_at c (V m c) t r k).trans (host_b m c _ k)
    · exact (blk4_at c (V m c) t k d).trans (host_w m c _ d)

theorem gain_blk (t : Fin cfg0.N) (d : Fin 1024) : (iblk m c 5 t) (ix2 0 d) = gain m c d :=
  (blk5_at c (V m c) t d).trans (host_g m c d)

/-- What a chunk adds, from a block that holds the normalised rows. -/
theorem chunk_blk (t : Fin cfg0.N) (r : Fin 512) (d : Fin 1024) (h : Vec Ideal S512x1024 .bf16) (x : Fin 1024 → EReal)
    (hh : ∀ e, h (ix2 r e) = Post.normed x (gain m c) e) :
    (∑ k : Fin 1024, Post.act (∑ e : Fin 1024, h (ix2 r e) * (show Vec Ideal S1024x1024 .bf16 from iblk m c 6 t) (ix2 e k))
        * (show Vec Ideal S1024x1024 .bf16 from iblk m c 7 t) (ix2 k d) : EReal)
      = Post.chunk x (gain m c) (wup m c) (wdn m c) (t.val % 4) d := by
  unfold Post.chunk Post.hidden
  refine Finset.sum_congr rfl fun k _ => congrArg₂ (· * ·) (congrArg Post.act (Finset.sum_congr rfl fun e _ => congrArg₂ (· * ·) (hh e) ?_)) ?_
  · exact (blk6_at c (V m c) t e k).trans (host_u m c e _)
  · exact (blk7_at c (V m c) t k d).trans (host_d m c _ d)

/-- After point `t`: the rows with the mixers' outputs, the same rows normalised, the chunks added so far. -/
structure Holds (t : Fin cfg0.N) : Prop where
  row : ∀ r d, (outsAt0 m c t.val t.isLt).2.1 (ix2 r d) = row1 m c (rowOf t r) d
  nrm : ∀ r d, (outsAt0 m c t.val t.isLt).2.2.1 (ix2 r d) = Post.normed (row1 m c (rowOf t r)) (gain m c) d
  acc : ∀ r d, (outsAt0 m c t.val t.isLt).2.2.2 (ix2 r d)
    = ∑ s ∈ Finset.range (t.val % 4 + 1), Post.chunk (row1 m c (rowOf t r)) (gain m c) (wup m c) (wdn m c) s d

theorem holds_first (t : Fin cfg0.N) (h0 : t.val % 4 = 0) : Holds m c t := by
  have h1 : ¬t.val % 4 = 3 := by omega
  have hn : ∀ r d, k0_pay6 (F := Ideal) (iblk m c 1 t) (iblk m c 0 t) (iblk m c 3 t) (iblk m c 2 t) (iblk m c 4 t) (iblk m c 5 t) (ix2 r d)
      = Post.normed (row1 m c (rowOf t r)) (gain m c) d := by
    intro r d
    rw [normed_at]
    exact congrArg₂ (fun x y => Post.normed x y d) (funext fun k => mixed_blk m c t r k) (funext fun k => gain_blk m c t k)
  refine ⟨fun r d => ?_, fun r d => ?_, fun r d => ?_⟩
  · rw [outsAt0_A m c t h0 h1]
    frame_out
    rw [mixed_copy]
    exact mixed_blk m c t r d
  · rw [outsAt0_A m c t h0 h1]
    frame_out
    exact hn r d
  · rw [outsAt0_A m c t h0 h1]
    frame_out
    rw [step_at, zero_at, chunk_blk m c t r d _ _ (fun e => hn r e), h0, Finset.sum_range_one]
    exact zero_add _

theorem rowOf_prev (t : Fin cfg0.N) (h0 : ¬t.val % 4 = 0) (r : Fin 512) :
    rowOf ⟨t.val - 1, Nat.lt_of_le_of_lt (Nat.sub_le _ _) t.isLt⟩ r = rowOf t r :=
  Fin.ext (by show 512 * ((t.val - 1) / 4) + r.val = 512 * (t.val / 4) + r.val; omega)

theorem acc_prev (t : Fin cfg0.N) (h0 : ¬t.val % 4 = 0) : (t.val - 1) % 4 + 1 = t.val % 4 := by omega

theorem holds_next (t : Fin cfg0.N) (h0 : ¬t.val % 4 = 0)
    (p : Holds m c ⟨t.val - 1, Nat.lt_of_le_of_lt (Nat.sub_le _ _) t.isLt⟩) : Holds m c t := by
  have pr := fun r d => p.row r d
  have pn := fun r d => p.nrm r d
  have pa := fun r d => p.acc r d
  simp only [rowOf_prev t h0] at pr pn pa
  by_cases h1 : t.val % 4 = 3
  · refine ⟨fun r d => ?_, fun r d => ?_, fun r d => ?_⟩
    · rw [outsAt0_C m c t h0 h1]
      exact pr r d
    · rw [outsAt0_C m c t h0 h1]
      exact pn r d
    · rw [outsAt0_C m c t h0 h1]
      frame_out
      rw [step_at, chunk_blk m c t r d _ (row1 m c (rowOf t r)) (fun e => (congrFun ((Memref.isWhole_whole _).read_unread _) _).trans (pn r e)), Finset.sum_range_succ]
      refine congrArg (· + _) ?_
      refine (congrFun ((Memref.isWhole_whole _).read_unread _) _).trans ((pa r d).trans ?_)
      rw [acc_prev t h0]
  · refine ⟨fun r d => ?_, fun r d => ?_, fun r d => ?_⟩
    · rw [outsAt0_B m c t h0 h1]
      exact pr r d
    · rw [outsAt0_B m c t h0 h1]
      exact pn r d
    · rw [outsAt0_B m c t h0 h1]
      frame_out
      rw [step_at, chunk_blk m c t r d _ (row1 m c (rowOf t r)) (fun e => (congrFun ((Memref.isWhole_whole _).read_unread _) _).trans (pn r e)), Finset.sum_range_succ]
      refine congrArg (· + _) ?_
      refine (congrFun ((Memref.isWhole_whole _).read_unread _) _).trans ((pa r d).trans ?_)
      rw [acc_prev t h0]

theorem holds (n : ℕ) : ∀ h : n < cfg0.N, Holds m c ⟨n, h⟩ := by
  induction n with
  | zero => exact fun h => holds_first m c _ rfl
  | succ n ih =>
    intro h
    by_cases h0 : (n + 1) % 4 = 0
    · exact holds_first m c _ h0
    · exact holds_next m c ⟨n + 1, h⟩ h0 (ih (by omega))

/-- What the last point of a block's four stores. -/
theorem stored (t : Fin cfg0.N) (h1 : t.val % 4 = 3) (r : Fin 512) (d : Fin 1024) :
    (outsAt0 m c t.val t.isLt).1 (ix2 r d) = Post.fed (row1 m c (rowOf t r)) (gain m c) (wup m c) (wdn m c) d := by
  have h0 : ¬t.val % 4 = 0 := by omega
  have H := holds m c t.val t.isLt
  have p := holds m c (t.val - 1) (Nat.lt_of_le_of_lt (Nat.sub_le _ _) t.isLt)
  have pr := fun r d => p.row r d
  simp only [rowOf_prev t h0] at pr
  have ha : (outsAt0 m c t.val t.isLt).2.2.2 (ix2 r d)
      = ∑ s ∈ Finset.range 4, Post.chunk (row1 m c (rowOf t r)) (gain m c) (wup m c) (wdn m c) s d :=
    (H.acc r d).trans (by show Finset.sum (Finset.range (t.val % 4 + 1)) _ = _; rw [h1])
  rw [outsAt0_C m c t h0 h1] at ha ⊢
  unfold Post.fed
  rw [← Post.chunks]
  refine Eq.trans ?_ (congrArg (_ + ·) ha)
  frame_out
  rw [last_at]
  refine congrArg (· + _) ?_
  exact (congrFun ((Memref.isWhole_whole _).read_unread _) _).trans (pr r d)

end Cert.Kernel3Ideal.Post

end
-- ==== Proof.Post3Out.lean ====
/-
  The call that ends a layer: the array it returns.
-/
module

public import proofs.«01_k».proof.Proof.Post3State

@[expose] public section

set_option maxRecDepth 16384

noncomputable section

namespace Cert.Kernel3Ideal.Post

open Cert.Kernel3Ideal.Gen Cert.Kernel3Ideal.Facts
open Idealize.ShloMosaic Idealize.ShloMosaic.TcCoe

variable (m : (ℓ : Loc nD τ sig) → Buf (Elt Ideal) ℓ) (c : Dev nD)

/-- Every row after the feed-forward part. -/
def res : FVec Ideal S32768x1024 .f32 := fun i => Post.fed (row1 m c (i 0)) (gain m c) (wup m c) (wdn m c) (i 1)

theorem arr_eq : (dats m 0 c).arrAt 8 cfg0.N = res m c := by
  refine (dats m 0 c).arrAt_eq_of_covers 8 (res m c) (by decide +kernel) fun t hf y => ?_
  obtain ⟨r, d, rfl⟩ : ∃ (r : Fin 512) (d : Fin 1024), y = ix2 r d := ⟨y 0, y 1, (ix2_eta y).symm⟩
  blk_simp
  rw [after0_8]
  refine (stored m c t ((flush0_8 t).mp hf) r d).trans ?_
  unfold res
  refine congrArg₂ (fun R e => Post.fed (row1 m c R) (gain m c) (wup m c) (wdn m c) e) (Fin.ext ?_) (Fin.ext ?_)
  · show 512 * (t.val / 4) + r.val = _
    blk_simp [(places t)]
    omega
  · blk_simp [(places t)]

end Cert.Kernel3Ideal.Post

end
-- ==== Proof.Post3Ref.lean ====
/-
  The reference for the call that ends a layer, at an element, in pieces.
-/
module

public import proofs.«01_k».proof.Proof.Gen.Reference3Ideal.Run
public import proofs.«01_k».proof.Proof.Post
public import Idealize.ShloMosaic.Lib.Pipeline.ValueKit
public import Idealize.ShloMosaic.Lib.StableHlo.ReadAt

@[expose] public section

set_option maxRecDepth 16384

noncomputable section

namespace Cert.Reference3Ideal.Direct

open Cert.Reference3Ideal.Gen Cert.Reference3Ideal.Facts
open Idealize.ShloMosaic Idealize.ShloMosaic.TcCoe

/-- The mixers' outputs side by side. -/
def joined (a b : FVec Ideal S4x8192x512 .f32) : FVec Ideal S4x8192x1024 .f32 :=
  concatenate S4x8192x1024 2 [⟨S4x8192x512, a⟩, ⟨S4x8192x512, b⟩] concatenates_S4x8192x512_S4x8192x512_S4x8192x1024_d2

/-- Their product with the output matrix, added to the input. -/
def sum1 (x j : FVec Ideal S4x8192x1024 .f32) (w : FVec Ideal S1024x1024 .f32) : FVec Ideal S4x8192x1024 .f32 :=
  addf x (Host.dotGeneral dot_S4x8192x1024_S1024x1024_S4x8192x1024_2_0_01_1_n_n none j w)

/-- The reciprocal root mean squares. -/
def scales (y : FVec Ideal S4x8192x1024 .f32) : FVec Ideal S4x8192x1 .f32 :=
  Host.rsqrt (addf (Host.divf (broadcastInDim S4x8192x1 ![0, 1] bcast_S4x8192_S4x8192x1_0_1 (Host.reduceAdd (mulf y y) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))

/-- The normalised rows. -/
def normal (y : FVec Ideal S4x8192x1024 .f32) (s : FVec Ideal S4x8192x1 .f32) (g : FVec Ideal S1024 .f32) : FVec Ideal S4x8192x1024 .f32 :=
  mulf (mulf y (broadcastInDim S4x8192x1024 ![0, 1, 2] bcast_S4x8192x1_S4x8192x1024_0_1_2 s)) (broadcastInDim S4x8192x1024 ![0, 1, 2] bcast_S1x1x1024_S4x8192x1024_0_1_2 (broadcastInDim S1x1x1024 ![2] bcast_S1024_S1x1x1024_2 g))

/-- The hidden units. -/
def units (v : FVec Ideal S4x8192x1024 .f32) (u : FVec Ideal S1024x4096 .f32) : FVec Ideal S4x8192x4096 .f32 :=
  Host.dotGeneral dot_S4x8192x1024_S1024x4096_S4x8192x4096_2_0_01_1_n_n none v u

/-- Their positive part. -/
def pos (h : FVec Ideal S4x8192x4096 .f32) : FVec Ideal S4x8192x4096 .f32 :=
  maximumf h (broadcastInDim S4x8192x4096 ![] bcast_S_S4x8192x4096 (constant S_ .f32 0x00000000#32))

/-- The second sum, its rows in one list. -/
def sum2 (y : FVec Ideal S4x8192x1024 .f32) (p : FVec Ideal S4x8192x4096 .f32) (e : FVec Ideal S4096x1024 .f32) : FVec Ideal S32768x1024 .f32 :=
  shapeCast _ (addf y (Host.dotGeneral dot_S4x8192x4096_S4096x1024_S4x8192x1024_2_0_01_1_n_n none (mulf p p) e)) shapeCasts_S4x8192x1024_S32768x1024

/-- The whole call, from the first sum on. -/
def rest (y : FVec Ideal S4x8192x1024 .f32) (g : FVec Ideal S1024 .f32) (u : FVec Ideal S1024x4096 .f32) (e : FVec Ideal S4096x1024 .f32) : FVec Ideal S32768x1024 .f32 :=
  sum2 y (pos (units (normal y (scales y) g) u)) e

/-- The whole call. -/
def out (x : FVec Ideal S4x8192x1024 .f32) (a0 : FVec Ideal S4x8192x512 .f32) (b : FVec Ideal S4x8192x512 .f32) (w : FVec Ideal S1024x1024 .f32) (g : FVec Ideal S1024 .f32) (u : FVec Ideal S1024x4096 .f32) (e : FVec Ideal S4096x1024 .f32) : FVec Ideal S32768x1024 .f32 :=
  rest (sum1 x (joined a0 b) w) g u e

theorem res_eq (m : (ℓ : Loc nD τ sig) → Buf (Elt Ideal) ℓ) (c : Dev nD) :
    Value.res_main_v21 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Value.res_main_v21 out rest sum2 pos units normal scales sum1 joined
  rfl

variable (b0 : Fin 4) (s : Fin 8192)

theorem joined_at (a b : FVec Ideal S4x8192x512 .f32) (l : Fin 1024) :
    joined a b (ix3 b0 s l) = if h : l.val < 512 then a (ix3 b0 s ⟨l.val, h⟩) else b (ix3 b0 s ⟨l.val - 512, by omega⟩) := by
  pointwise [joined]

theorem sum1_at (x j : FVec Ideal S4x8192x1024 .f32) (w : FVec Ideal S1024x1024 .f32) (d : Fin 1024) :
    sum1 x j w (ix3 b0 s d) = x (ix3 b0 s d) + ∑ l, j (ix3 b0 s l) * w (ix2 l d) := by
  pointwise [sum1]

theorem scales_at (y : FVec Ideal S4x8192x1024 .f32) :
    scales y (ix3 b0 s 0) = Post.scale (fun d => y (ix3 b0 s d)) := by
  pointwise [scales]
  rfl

theorem normal_at (y : FVec Ideal S4x8192x1024 .f32) (g : FVec Ideal S1024 .f32) (d : Fin 1024) :
    normal y (scales y) g (ix3 b0 s d) = Post.normed (fun d => y (ix3 b0 s d)) (fun d => g (ix1 d)) d := by
  rw [Post.normed, ← scales_at]
  pointwise [normal]

theorem units_at (v : FVec Ideal S4x8192x1024 .f32) (u : FVec Ideal S1024x4096 .f32) (l : Fin 4096) :
    units v u (ix3 b0 s l) = ∑ d, v (ix3 b0 s d) * u (ix2 d l) := by
  pointwise [units]

theorem pos_at (h : FVec Ideal S4x8192x4096 .f32) (l : Fin 4096) : pos h (ix3 b0 s l) = max (h (ix3 b0 s l)) 0 := by
  pointwise [pos]

theorem sum2_at (y : FVec Ideal S4x8192x1024 .f32) (p : FVec Ideal S4x8192x4096 .f32) (e : FVec Ideal S4096x1024 .f32) (R : Fin 32768) (d : Fin 1024) :
    sum2 y p e (ix2 R d) = y (ix3 ⟨R.val / 8192, by omega⟩ ⟨R.val % 8192, Nat.mod_lt _ (by decide)⟩ d)
      + ∑ l, p (ix3 ⟨R.val / 8192, by omega⟩ ⟨R.val % 8192, Nat.mod_lt _ (by decide)⟩ l) * p (ix3 ⟨R.val / 8192, by omega⟩ ⟨R.val % 8192, Nat.mod_lt _ (by decide)⟩ l) * e (ix2 l d) := by
  pointwise [sum2]

/-- The call from the first sum on, at an element. -/
theorem rest_at (y : FVec Ideal S4x8192x1024 .f32) (g : FVec Ideal S1024 .f32) (u : FVec Ideal S1024x4096 .f32) (e : FVec Ideal S4096x1024 .f32) (R : Fin 32768) (d : Fin 1024) :
    rest y g u e (ix2 R d) = Post.fed (fun d => y (ix3 ⟨R.val / 8192, by omega⟩ ⟨R.val % 8192, Nat.mod_lt _ (by decide)⟩ d)) (fun d => g (ix1 d)) (fun d l => u (ix2 d l)) (fun l d => e (ix2 l d)) d := by
  rw [rest, sum2_at, Post.fed]
  simp only [pos_at, units_at, normal_at]
  rfl

/-- The call at an element. -/
theorem out_at (x : FVec Ideal S4x8192x1024 .f32) (a0 : FVec Ideal S4x8192x512 .f32) (b : FVec Ideal S4x8192x512 .f32) (w : FVec Ideal S1024x1024 .f32) (g : FVec Ideal S1024 .f32) (u : FVec Ideal S1024x4096 .f32) (e : FVec Ideal S4096x1024 .f32) (R : Fin 32768) (d : Fin 1024) :
    out x a0 b w g u e (ix2 R d) = Post.fed
      (Post.mixed (fun d => x (ix3 ⟨R.val / 8192, by omega⟩ ⟨R.val % 8192, Nat.mod_lt _ (by decide)⟩ d))
        (fun k => (a0 : FVec Ideal S4x8192x512 .f32) (ix3 ⟨R.val / 8192, by omega⟩ ⟨R.val % 8192, Nat.mod_lt _ (by decide)⟩ k))
        (fun k => b (ix3 ⟨R.val / 8192, by omega⟩ ⟨R.val % 8192, Nat.mod_lt _ (by decide)⟩ k)) (fun l d => w (ix2 l d)))
      (fun d => g (ix1 d)) (fun d l => u (ix2 d l)) (fun l d => e (ix2 l d)) d := by
  rw [out, rest_at]
  congr 1
  funext d
  rw [sum1_at, ← Post.mixed_eq]
  simp only [joined_at]

end Cert.Reference3Ideal.Direct

end
-- ==== Proof.Post3Claims.lean ====
/-
  The call that ends a layer: the launch and the reference end with the same array.
-/
module

public import proofs.«01_k».proof.Defs
public import proofs.«01_k».proof.Proof.Post3Out
public import proofs.«01_k».proof.Proof.Post3Ref
public import proofs.«01_k».proof.Proof.Gen.Kernel3.Frame
public import proofs.«01_k».proof.Proof.Gen.Kernel3Ideal.Frame
public import Idealize.ShloMosaic.Adequacy
public import Idealize.ShloMosaic.Init

@[expose] public section

set_option maxRecDepth 16384

noncomputable section

namespace Cert.Post3Claims

open Idealize.ShloMosaic Idealize.SL.Sem Idealize.ShloMosaic.TcCoe

section Launch

open Cert.Kernel3Ideal Cert.Kernel3Ideal.Gen Cert.Kernel3Ideal.Post

variable (m : (ℓ : Loc nD τ sig) → Buf (Elt Ideal) ℓ) (ρ : Dev nD → PrngReg)

theorem value : θ_run (defs (F := Ideal)) (onTc (τ := τ) (main (F := Ideal))) ⟨m, fun _ => 0, ρ⟩ (fun r => ∀ c : Dev nD,
      r.2.mem ((c.tc : Thread nD τ).loc main_v7) = Cert.Kernel3Ideal.Post.res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have e : θ_run (defs (F := Ideal)) (onTc (τ := τ) (main (F := Ideal))) ⟨m, fun _ => 0, ρ⟩ (fun r => ∀ c : Dev nD,
      r.2.mem ((c.tc : Thread nD τ).loc main_v7) = Cert.Kernel3Ideal.Post.res m c) :=
    (θ_run defs _ _).mono (fun r hr c => ((hr c).1 8).trans (arr_eq m c)) (run_main m ρ)
  exact (θ_run defs _ _).mono (fun _ hr c => ⟨hr.1 c, hr.2.1 c⟩) (θ_run_and e (Cert.Kernel3Ideal.Gen.frame m ρ))

end Launch

theorem kernel : Cert.quiescent_Kernel3 (hKernel3 := Cert.Kernel3.Gen.facts) := fun m ρ _ => Cert.Kernel3.Gen.frame m ρ

theorem kernelIdeal : Cert.quiescent_Kernel3Ideal (hKernel3Ideal := Cert.Kernel3Ideal.Gen.facts) := fun m ρ _ => Cert.Kernel3Ideal.Gen.frame m ρ

theorem referenceIdeal : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem preserves : Cert.preserves_Kernel3_Kernel3Ideal := trivial

/-- The reference's array is the launch's. -/
theorem same (m : (ℓ : Loc Cert.Kernel3Ideal.nD Cert.Kernel3Ideal.τ Cert.Kernel3Ideal.sig) → Buf (Elt Ideal) ℓ) (c : Dev Cert.Kernel3Ideal.nD) :
    Cert.Reference3Ideal.Direct.out (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6)) = Cert.Kernel3Ideal.Post.res m c := by
  funext i
  obtain ⟨r, d, rfl⟩ : ∃ (r : Fin 32768) (d : Fin 1024), i = ix2 r d := ⟨i 0, i 1, (ix2_eta i).symm⟩
  exact Cert.Reference3Ideal.Direct.out_at _ _ _ _ _ _ _ r d

theorem algebraic : Cert.algebraic_Kernel3Ideal_Reference3Ideal (hKernel3Ideal := Cert.Kernel3Ideal.Gen.facts) (hReference3Ideal := Cert.Reference3Ideal.Gen.facts) := by
  intro m ρ m' ρ' _ hagree
  refine ⟨_, value m ρ, ?_⟩
  refine (θ_run Cert.Reference3Ideal.defs _ _).mono (fun _ h c => ⟨(h c).1.trans ?_, (h c).2⟩) (Cert.Reference3Ideal.Value.run m' ρ')
  rw [Cert.Reference3Ideal.Direct.res_eq]
  obtain ⟨e0, e1, e2, e3, e4, e5, e6⟩ := hagree c
  rw [e0, e1, e2, e3, e4, e5, e6]
  exact same m c

end Cert.Post3Claims

end
-- ==== Proof.MlaBase.lean ====
/-
  The conditions of the MLA flash body in closed form, its windows' buffers at a point, and its scratch as views.
-/
module

public import proofs.«01_k».proof.Proof.Gen.Kernel4Ideal.Frame
public import proofs.«01_k».proof.Proof.Gen.Kernel4Ideal.Skeleton
public import Idealize.ShloMosaic.Lib.Exec
public import Idealize.ShloMosaic.Lib.Tactic

@[expose] public section

set_option maxRecDepth 16384

noncomputable section

namespace Cert.Kernel4Ideal.Mla

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 16 % 16 := Pipeline.Grid.coords_val t 1 (by decide) rfl
    have e2 : (grid0.coords t 2).val = t.val / 1 % 16 := Pipeline.Grid.coords_val t 2 (by decide) rfl
    simp only [cond0_0, e0, e1, e2]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 2).val) (BitVec.ofNat 32 (i 1).val))) 0#32) = 1#1
/-- It holds at the points whose coordinates have i2 + 1 ≤ i1 — decided over the grid. -/
theorem hcond0_1 : ∀ t : Fin cfg0.N, cond0_1 (grid0.coords t) ↔ t.val % 16 + 1 ≤ t.val / 16 % 16 :=
  (by decide +kernel : ∀ t : Fin grid0.N, cond0_1 (grid0.coords t) ↔ t.val % 16 + 1 ≤ t.val / 16 % 16)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 2).val) (BitVec.ofNat 32 (i 1).val))) 0#32) = 1#1
/-- It holds at the points whose coordinates have i1 = i2 — decided over the grid. -/
theorem hcond0_2 : ∀ t : Fin cfg0.N, cond0_2 (grid0.coords t) ↔ t.val / 16 % 16 = t.val % 16 :=
  (by decide +kernel : ∀ t : Fin grid0.N, cond0_2 (grid0.coords t) ↔ t.val / 16 % 16 = t.val % 16)

/-- The condition of the body's `scf.if` 3 (`k0_h4`), from the grid coordinates (the skeleton's scalar
    chain substituted). -/
abbrev cond0_3 (i : grid0.Coords) : Prop := k0_cond4 i = 1#1
/-- It holds at the points whose coordinates have i1 = i2 — decided over the grid. -/
theorem hcond0_3 : ∀ t : Fin cfg0.N, cond0_3 (grid0.coords t) ↔ t.val / 16 % 16 = t.val % 16 :=
  (by decide +kernel : ∀ t : Fin grid0.N, cond0_3 (grid0.coords t) ↔ t.val / 16 % 16 = t.val % 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S8x512x1 .f32 := Memref.whole cc0_scratch0
abbrev scM0_1 : Memref sig .tc .vmem S8x512x1 .f32 := Memref.whole cc0_scratch1
abbrev scM0_2 : Memref sig .tc .vmem S8x512x128 .f32 := Memref.whole cc0_scratch2
/-- The scratch `arg7` the kernel carries between points, as a view: what it holds is stated through it. -/
abbrev VS0_0 : View sig .tc .vmem S8x512x1 .f32 := scM0_0.view
/-- The scratch `arg8` the kernel carries between points, as a view: what it holds is stated through it. -/
abbrev VS0_1 : View sig .tc .vmem S8x512x1 .f32 := scM0_1.view
/-- The scratch `arg9` the kernel carries between points, as a view: what it holds is stated through it. -/
abbrev VS0_2 : View sig .tc .vmem S8x512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel4Ideal.Mla

end
-- ==== Proof.MlaRunA.lean ====
/-
  The MLA flash body run at a point of case A.
-/
module

public import proofs.«01_k».proof.Proof.MlaBase

@[expose] public section

set_option maxRecDepth 16384

noncomputable section

namespace Cert.Kernel4Ideal.Mla

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a point of case A (the first key block, on the diagonal), on any whole staging buffers: it runs, and what it stores into each buffer is the list of pieces the run finds. -/
noncomputable def kernelRun0_A (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond0_0 i) (hc1 : ¬cond0_1 i) (hc2 : cond0_2 i) (hc3 : cond0_3 i)
    (x0 : Vec F S1x512x1024 .bf16) (x1 : Vec F S1x512x1024 .bf16) (x2 : Vec F S1x512x512 .bf16) :
    Σ' (L5 : List (View.Piece (Elt F) S1x512x512 .f32)), Σ' (LS0 : List (View.Piece (Elt F) S8x512x1 .f32)), Σ' (LS1 : List (View.Piece (Elt F) S8x512x1 .f32)), { LS2 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_flash_mla i arg3 harg3 arg4 harg4 arg5 harg5 arg6 harg6 arg7 harg7 arg8 harg8 arg9 harg9) K } := by
  refine ⟨?_, ?_, ?_, ?_, fun E K => ?run⟩
  case run =>
    simp only [cc0_flash_mla_eq_skeleton]; unfold cc0_flash_mla_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%d5, %f5, -, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H5]; · iexists _; iexact H5
    isplitl [HS0]; · iexists _; iexact HS0
    isplitl [HS1]; · iexists _; iexact HS1
    iexists _; iexact HS2

end Cert.Kernel4Ideal.Mla

end
-- ==== Proof.MlaRunB.lean ====
/-
  The MLA flash body run at a point of case B.
-/
module

public import proofs.«01_k».proof.Proof.MlaBase

@[expose] public section

set_option maxRecDepth 16384

noncomputable section

namespace Cert.Kernel4Ideal.Mla

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a point of case B (a key block past the diagonal: nothing runs), on any whole staging buffers: it runs, and what it stores into each buffer is the list of pieces the run finds. -/
theorem kernelRun0_B (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond0_0 i) (hc1 : ¬cond0_1 i) (hc2 : ¬cond0_2 i) (hc3 : ¬cond0_3 i)
    (x0 : Vec F S1x512x1024 .bf16) (x1 : Vec F S1x512x1024 .bf16) (x2 : Vec F S1x512x512 .bf16) (x5 : Vec F S1x512x512 .f32) (xs0 : Vec F S8x512x1 .f32) (xs1 : Vec F S8x512x1 .f32) (xs2 : Vec F S8x512x128 .f32) :
          ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x5 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x5 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0_flash_mla i arg3 harg3 arg4 harg4 arg5 harg5 arg6 harg6 arg7 harg7 arg8 harg8 arg9 harg9) K := by
  refine fun E K => ?run
  case run =>
    simp only [cc0_flash_mla_eq_skeleton]; unfold cc0_flash_mla_skel
    unfold owns
    iintro ⟨⟨%f0, %hf0, H0⟩, ⟨%f1, %hf1, H1⟩, ⟨%f2, %hf2, H2⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf5; obtain rfl := harg7.eq_unread hfs0; obtain rfl := harg8.eq_unread hfs1; obtain rfl := harg9.eq_unread hfs2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H5]
    · iexists _; isplitr; · ipureintro; exact harg6.read_unread _
      iexact H5
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel4Ideal.Mla

end
-- ==== Proof.MlaRunC.lean ====
/-
  The MLA flash body run at a point of case C.
-/
module

public import proofs.«01_k».proof.Proof.MlaBase

@[expose] public section

set_option maxRecDepth 16384

noncomputable section

namespace Cert.Kernel4Ideal.Mla

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a point of case C (the first key block, below the diagonal), on any whole staging buffers: it runs, and what it stores into each buffer is the list of pieces the run finds. -/
noncomputable def kernelRun0_C (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond0_0 i) (hc1 : cond0_1 i) (hc2 : ¬cond0_2 i) (hc3 : ¬cond0_3 i)
    (x0 : Vec F S1x512x1024 .bf16) (x1 : Vec F S1x512x1024 .bf16) (x2 : Vec F S1x512x512 .bf16) (x5 : Vec F S1x512x512 .f32) :
    Σ' (LS0 : List (View.Piece (Elt F) S8x512x1 .f32)), Σ' (LS1 : List (View.Piece (Elt F) S8x512x1 .f32)), { LS2 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_flash_mla i arg3 harg3 arg4 harg4 arg5 harg5 arg6 harg6 arg7 harg7 arg8 harg8 arg9 harg9) K } := by
  refine ⟨?_, ?_, ?_, fun E K => ?run⟩
  case run =>
    simp only [cc0_flash_mla_eq_skeleton]; unfold cc0_flash_mla_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H5]
    · iexists _; isplitr; · ipureintro; exact harg6.read_unread _
      iexact H5
    isplitl [HS0]; · iexists _; iexact HS0
    isplitl [HS1]; · iexists _; iexact HS1
    iexists _; iexact HS2

end Cert.Kernel4Ideal.Mla

end
-- ==== Proof.MlaRunD.lean ====
/-
  The MLA flash body run at a point of case D.
-/
module

public import proofs.«01_k».proof.Proof.MlaBase

@[expose] public section

set_option maxRecDepth 16384

noncomputable section

namespace Cert.Kernel4Ideal.Mla

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a point of case D (a later key block, on the diagonal), on any whole staging buffers: it runs, and what it stores into each buffer is the list of pieces the run finds. -/
noncomputable def kernelRun0_D (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond0_0 i) (hc1 : ¬cond0_1 i) (hc2 : cond0_2 i) (hc3 : cond0_3 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x128 .f32) :
    Σ' (L5 : List (View.Piece (Elt F) S1x512x512 .f32)), Σ' (LS0 : List (View.Piece (Elt F) S8x512x1 .f32)), Σ' (LS1 : List (View.Piece (Elt F) S8x512x1 .f32)), { LS2 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_flash_mla i arg3 harg3 arg4 harg4 arg5 harg5 arg6 harg6 arg7 harg7 arg8 harg8 arg9 harg9) K } := by
  refine ⟨?_, ?_, ?_, ?_, fun E K => ?run⟩
  case run =>
    simp only [cc0_flash_mla_eq_skeleton]; unfold cc0_flash_mla_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H5]; · iexists _; iexact H5
    isplitl [HS0]; · iexists _; iexact HS0
    isplitl [HS1]; · iexists _; iexact HS1
    iexists _; iexact HS2

end Cert.Kernel4Ideal.Mla

end
-- ==== Proof.MlaRunE.lean ====
/-
  The MLA flash body run at a point of case E.
-/
module

public import proofs.«01_k».proof.Proof.MlaBase

@[expose] public section

set_option maxRecDepth 16384

noncomputable section

namespace Cert.Kernel4Ideal.Mla

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a point of case E (a later key block, below the diagonal), on any whole staging buffers: it runs, and what it stores into each buffer is the list of pieces the run finds. -/
noncomputable def kernelRun0_E (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond0_0 i) (hc1 : cond0_1 i) (hc2 : ¬cond0_2 i) (hc3 : ¬cond0_3 i)
    (x0 : Vec F S1x512x1024 .bf16) (x1 : Vec F S1x512x1024 .bf16) (x2 : Vec F S1x512x512 .bf16) (x5 : Vec F S1x512x512 .f32) (xs0 : Vec F S8x512x1 .f32) (xs1 : Vec F S8x512x1 .f32) (xs2 : Vec F S8x512x128 .f32) :
    Σ' (LS0 : List (View.Piece (Elt F) S8x512x1 .f32)), Σ' (LS1 : List (View.Piece (Elt F) S8x512x1 .f32)), { LS2 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x5 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_flash_mla i arg3 harg3 arg4 harg4 arg5 harg5 arg6 harg6 arg7 harg7 arg8 harg8 arg9 harg9) K } := by
  refine ⟨?_, ?_, ?_, fun E K => ?run⟩
  case run =>
    simp only [cc0_flash_mla_eq_skeleton]; unfold cc0_flash_mla_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf5; obtain rfl := harg7.eq_unread hfs0; obtain rfl := harg8.eq_unread hfs1; obtain rfl := harg9.eq_unread hfs2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H5]
    · iexists _; isplitr; · ipureintro; exact harg6.read_unread _
      iexact H5
    isplitl [HS0]; · iexists _; iexact HS0
    isplitl [HS1]; · iexists _; iexact HS1
    iexists _; iexact HS2

end Cert.Kernel4Ideal.Mla

end
-- ==== Proof.MlaState.lean ====
/-
  What the MLA flash body leaves in its scratch and output point by point.
-/
module

public import proofs.«01_k».proof.Proof.MlaRunA
public import proofs.«01_k».proof.Proof.MlaRunB
public import proofs.«01_k».proof.Proof.MlaRunC
public import proofs.«01_k».proof.Proof.MlaRunD
public import proofs.«01_k».proof.Proof.MlaRunE

@[expose] public section

set_option maxRecDepth 16384

noncomputable section

namespace Cert.Kernel4Ideal.Mla

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the three scratch buffers hold: the running maxima, the running sums, the accumulators. -/
abbrev St (F : FTy → Type) := Vec F S8x512x1 .f32 × Vec F S8x512x1 .f32 × Vec F S8x512x128 .f32

/-- Case A's run at point `t`, on the point's own buffers and blocks. -/
abbrev runA (c : Dev nD) (t : Fin cfg0.N) (h0 : t.val % 16 = 0) (h1 : ¬t.val % 16 + 1 ≤ t.val / 16 % 16) (h2 : t.val / 16 % 16 = t.val % 16) :=
  kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) ((hcond0_2 t).mpr h2) ((hcond0_3 t).mpr h2) (iblk m c 0 t) (iblk m c 1 t) (iblk m c 2 t)

/-- Case A's stores into scratch 0 leave no element of it out. -/
theorem scoverA_0 (c : Dev nD) (t : Fin cfg0.N) (h0 : t.val % 16 = 0) (h1 : ¬t.val % 16 + 1 ≤ t.val / 16 % 16) (h2 : t.val / 16 % 16 = t.val % 16) (y : S8x512x1.Idx) :
    ∃ pc ∈ (runA m c t h0 h1 h2).2.1, y ∈ pc.1.set :=
  View.cover_of_wholeMem (runA m c t h0 h1 h2).2.1 (by sl_whole_mem) y

/-- Case A's stores into scratch 1 leave no element of it out. -/
theorem scoverA_1 (c : Dev nD) (t : Fin cfg0.N) (h0 : t.val % 16 = 0) (h1 : ¬t.val % 16 + 1 ≤ t.val / 16 % 16) (h2 : t.val / 16 % 16 = t.val % 16) (y : S8x512x1.Idx) :
    ∃ pc ∈ (runA m c t h0 h1 h2).2.2.1, y ∈ pc.1.set :=
  View.cover_of_wholeMem (runA m c t h0 h1 h2).2.2.1 (by sl_whole_mem) y

/-- Case A's stores into scratch 2 leave no element of it out. -/
theorem scoverA_2 (c : Dev nD) (t : Fin cfg0.N) (h0 : t.val % 16 = 0) (h1 : ¬t.val % 16 + 1 ≤ t.val / 16 % 16) (h2 : t.val / 16 % 16 = t.val % 16) (y : S8x512x128.Idx) :
    ∃ pc ∈ (runA m c t h0 h1 h2).2.2.2.1, y ∈ pc.1.set :=
  View.cover_of_wholeMem (runA m c t h0 h1 h2).2.2.2.1 (by sl_whole_mem) y

/-- Case A's stores into the output block leave no element of it out. -/
theorem ocoverA (c : Dev nD) (t : Fin cfg0.N) (h0 : t.val % 16 = 0) (h1 : ¬t.val % 16 + 1 ≤ t.val / 16 % 16) (h2 : t.val / 16 % 16 = t.val % 16) (y : S1x512x512.Idx) :
    ∃ pc ∈ (runA m c t h0 h1 h2).1, y ∈ pc.1.set :=
  View.cover_of_tiledL (runA m c t h0 h1 h2).1 S1x512x64.size (by sl_kernel_rfl) y

/-- What case A leaves in the output block. -/
def outA (c : Dev nD) (t : Fin cfg0.N) (h0 : t.val % 16 = 0) (h1 : ¬t.val % 16 + 1 ≤ t.val / 16 % 16) (h2 : t.val / 16 % 16 = t.val % 16) : Vec F S1x512x512 .f32 :=
  (ms0_3 t).view.read (Elt F) ((ms0_3 t).view.writes (Elt F) (ms0_3 t).view.junk (runA m c t h0 h1 h2).1)

/-- What case A leaves in the scratch. -/
def stA (c : Dev nD) (t : Fin cfg0.N) (h0 : t.val % 16 = 0) (h1 : ¬t.val % 16 + 1 ≤ t.val / 16 % 16) (h2 : t.val / 16 % 16 = t.val % 16) : St F :=
  (VS0_0.read (Elt F) (VS0_0.writes (Elt F) VS0_0.junk (runA m c t h0 h1 h2).2.1),
    VS0_1.read (Elt F) (VS0_1.writes (Elt F) VS0_1.junk (runA m c t h0 h1 h2).2.2.1),
    VS0_2.read (Elt F) (VS0_2.writes (Elt F) VS0_2.junk (runA m c t h0 h1 h2).2.2.2.1))

/-- Case C's run at point `t`, on the point's own buffers and blocks. -/
abbrev runC (c : Dev nD) (t : Fin cfg0.N) (h0 : t.val % 16 = 0) (h1 : t.val % 16 + 1 ≤ t.val / 16 % 16) (h2 : ¬t.val / 16 % 16 = t.val % 16) (x5 : Vec F S1x512x512 .f32) :=
  kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h2 ((hcond0_3 t).mp h)) (iblk m c 0 t) (iblk m c 1 t) (iblk m c 2 t) x5

/-- Case C's stores into scratch 0 leave no element of it out. -/
theorem scoverC_0 (c : Dev nD) (t : Fin cfg0.N) (h0 : t.val % 16 = 0) (h1 : t.val % 16 + 1 ≤ t.val / 16 % 16) (h2 : ¬t.val / 16 % 16 = t.val % 16) (x5 : Vec F S1x512x512 .f32) (y : S8x512x1.Idx) :
    ∃ pc ∈ (runC m c t h0 h1 h2 x5).1, y ∈ pc.1.set :=
  View.cover_of_wholeMem (runC m c t h0 h1 h2 x5).1 (by sl_whole_mem) y

/-- Case C's stores into scratch 1 leave no element of it out. -/
theorem scoverC_1 (c : Dev nD) (t : Fin cfg0.N) (h0 : t.val % 16 = 0) (h1 : t.val % 16 + 1 ≤ t.val / 16 % 16) (h2 : ¬t.val / 16 % 16 = t.val % 16) (x5 : Vec F S1x512x512 .f32) (y : S8x512x1.Idx) :
    ∃ pc ∈ (runC m c t h0 h1 h2 x5).2.1, y ∈ pc.1.set :=
  View.cover_of_wholeMem (runC m c t h0 h1 h2 x5).2.1 (by sl_whole_mem) y

/-- Case C's stores into scratch 2 leave no element of it out. -/
theorem scoverC_2 (c : Dev nD) (t : Fin cfg0.N) (h0 : t.val % 16 = 0) (h1 : t.val % 16 + 1 ≤ t.val / 16 % 16) (h2 : ¬t.val / 16 % 16 = t.val % 16) (x5 : Vec F S1x512x512 .f32) (y : S8x512x128.Idx) :
    ∃ pc ∈ (runC m c t h0 h1 h2 x5).2.2.1, y ∈ pc.1.set :=
  View.cover_of_wholeMem (runC m c t h0 h1 h2 x5).2.2.1 (by sl_whole_mem) y

/-- What case C leaves in the scratch. -/
def stC (c : Dev nD) (t : Fin cfg0.N) (h0 : t.val % 16 = 0) (h1 : t.val % 16 + 1 ≤ t.val / 16 % 16) (h2 : ¬t.val / 16 % 16 = t.val % 16) : St F :=
  (VS0_0.read (Elt F) (VS0_0.writes (Elt F) VS0_0.junk (runC m c t h0 h1 h2 (Pipeline.Dat.unnamed (cfg := cfg0) 3 t)).1),
    VS0_1.read (Elt F) (VS0_1.writes (Elt F) VS0_1.junk (runC m c t h0 h1 h2 (Pipeline.Dat.unnamed (cfg := cfg0) 3 t)).2.1),
    VS0_2.read (Elt F) (VS0_2.writes (Elt F) VS0_2.junk (runC m c t h0 h1 h2 (Pipeline.Dat.unnamed (cfg := cfg0) 3 t)).2.2.1))

/-- Case D's run at point `t`, on the point's own buffers and blocks. -/
abbrev runD (c : Dev nD) (t : Fin cfg0.N) (h0 : ¬t.val % 16 = 0) (h1 : ¬t.val % 16 + 1 ≤ t.val / 16 % 16) (h2 : t.val / 16 % 16 = t.val % 16) (s : St F) :=
  kernelRun0_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h2) (iblk m c 0 t) (iblk m c 1 t) (iblk m c 2 t) s.1 s.2.1 s.2.2

/-- Case D's stores into scratch 0 leave no element of it out. -/
theorem scoverD_0 (c : Dev nD) (t : Fin cfg0.N) (h0 : ¬t.val % 16 = 0) (h1 : ¬t.val % 16 + 1 ≤ t.val / 16 % 16) (h2 : t.val / 16 % 16 = t.val % 16) (s : St F) (y : S8x512x1.Idx) :
    ∃ pc ∈ (runD m c t h0 h1 h2 s).2.1, y ∈ pc.1.set :=
  View.cover_of_tiledL (runD m c t h0 h1 h2 s).2.1 S1x512x1.size (by sl_kernel_rfl) y

/-- Case D's stores into scratch 1 leave no element of it out. -/
theorem scoverD_1 (c : Dev nD) (t : Fin cfg0.N) (h0 : ¬t.val % 16 = 0) (h1 : ¬t.val % 16 + 1 ≤ t.val / 16 % 16) (h2 : t.val / 16 % 16 = t.val % 16) (s : St F) (y : S8x512x1.Idx) :
    ∃ pc ∈ (runD m c t h0 h1 h2 s).2.2.1, y ∈ pc.1.set :=
  View.cover_of_tiledL (runD m c t h0 h1 h2 s).2.2.1 S1x512x1.size (by sl_kernel_rfl) y

/-- Case D's stores into scratch 2 leave no element of it out. -/
theorem scoverD_2 (c : Dev nD) (t : Fin cfg0.N) (h0 : ¬t.val % 16 = 0) (h1 : ¬t.val % 16 + 1 ≤ t.val / 16 % 16) (h2 : t.val / 16 % 16 = t.val % 16) (s : St F) (y : S8x512x128.Idx) :
    ∃ pc ∈ (runD m c t h0 h1 h2 s).2.2.2.1, y ∈ pc.1.set :=
  View.cover_of_tiledL (runD m c t h0 h1 h2 s).2.2.2.1 S1x512x128.size (by sl_kernel_rfl) y

/-- Case D's stores into the output block leave no element of it out. -/
theorem ocoverD (c : Dev nD) (t : Fin cfg0.N) (h0 : ¬t.val % 16 = 0) (h1 : ¬t.val % 16 + 1 ≤ t.val / 16 % 16) (h2 : t.val / 16 % 16 = t.val % 16) (s : St F) (y : S1x512x512.Idx) :
    ∃ pc ∈ (runD m c t h0 h1 h2 s).1, y ∈ pc.1.set :=
  View.cover_of_tiledL (runD m c t h0 h1 h2 s).1 S1x512x64.size (by sl_kernel_rfl) y

/-- What case D leaves in the output block. -/
def outD (c : Dev nD) (t : Fin cfg0.N) (h0 : ¬t.val % 16 = 0) (h1 : ¬t.val % 16 + 1 ≤ t.val / 16 % 16) (h2 : t.val / 16 % 16 = t.val % 16) (s : St F) : Vec F S1x512x512 .f32 :=
  (ms0_3 t).view.read (Elt F) ((ms0_3 t).view.writes (Elt F) (ms0_3 t).view.junk (runD m c t h0 h1 h2 s).1)

/-- What case D leaves in the scratch. -/
def stD (c : Dev nD) (t : Fin cfg0.N) (h0 : ¬t.val % 16 = 0) (h1 : ¬t.val % 16 + 1 ≤ t.val / 16 % 16) (h2 : t.val / 16 % 16 = t.val % 16) (s : St F) : St F :=
  (VS0_0.read (Elt F) (VS0_0.writes (Elt F) VS0_0.junk (runD m c t h0 h1 h2 s).2.1),
    VS0_1.read (Elt F) (VS0_1.writes (Elt F) VS0_1.junk (runD m c t h0 h1 h2 s).2.2.1),
    VS0_2.read (Elt F) (VS0_2.writes (Elt F) VS0_2.junk (runD m c t h0 h1 h2 s).2.2.2.1))

/-- Case E's run at point `t`, on the point's own buffers and blocks. -/
abbrev runE (c : Dev nD) (t : Fin cfg0.N) (h0 : ¬t.val % 16 = 0) (h1 : t.val % 16 + 1 ≤ t.val / 16 % 16) (h2 : ¬t.val / 16 % 16 = t.val % 16) (x5 : Vec F S1x512x512 .f32) (s : St F) :=
  kernelRun0_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h2 ((hcond0_3 t).mp h)) (iblk m c 0 t) (iblk m c 1 t) (iblk m c 2 t) x5 s.1 s.2.1 s.2.2

/-- Case E's stores into scratch 0 leave no element of it out. -/
theorem scoverE_0 (c : Dev nD) (t : Fin cfg0.N) (h0 : ¬t.val % 16 = 0) (h1 : t.val % 16 + 1 ≤ t.val / 16 % 16) (h2 : ¬t.val / 16 % 16 = t.val % 16) (x5 : Vec F S1x512x512 .f32) (s : St F) (y : S8x512x1.Idx) :
    ∃ pc ∈ (runE m c t h0 h1 h2 x5 s).1, y ∈ pc.1.set :=
  View.cover_of_tiledL (runE m c t h0 h1 h2 x5 s).1 S1x512x1.size (by sl_kernel_rfl) y

/-- Case E's stores into scratch 1 leave no element of it out. -/
theorem scoverE_1 (c : Dev nD) (t : Fin cfg0.N) (h0 : ¬t.val % 16 = 0) (h1 : t.val % 16 + 1 ≤ t.val / 16 % 16) (h2 : ¬t.val / 16 % 16 = t.val % 16) (x5 : Vec F S1x512x512 .f32) (s : St F) (y : S8x512x1.Idx) :
    ∃ pc ∈ (runE m c t h0 h1 h2 x5 s).2.1, y ∈ pc.1.set :=
  View.cover_of_tiledL (runE m c t h0 h1 h2 x5 s).2.1 S1x512x1.size (by sl_kernel_rfl) y

/-- Case E's stores into scratch 2 leave no element of it out. -/
theorem scoverE_2 (c : Dev nD) (t : Fin cfg0.N) (h0 : ¬t.val % 16 = 0) (h1 : t.val % 16 + 1 ≤ t.val / 16 % 16) (h2 : ¬t.val / 16 % 16 = t.val % 16) (x5 : Vec F S1x512x512 .f32) (s : St F) (y : S8x512x128.Idx) :
    ∃ pc ∈ (runE m c t h0 h1 h2 x5 s).2.2.1, y ∈ pc.1.set :=
  View.cover_of_tiledL (runE m c t h0 h1 h2 x5 s).2.2.1 S1x512x128.size (by sl_kernel_rfl) y

/-- What case E leaves in the scratch. -/
def stE (c : Dev nD) (t : Fin cfg0.N) (h0 : ¬t.val % 16 = 0) (h1 : t.val % 16 + 1 ≤ t.val / 16 % 16) (h2 : ¬t.val / 16 % 16 = t.val % 16) (s : St F) : St F :=
  (VS0_0.read (Elt F) (VS0_0.writes (Elt F) VS0_0.junk (runE m c t h0 h1 h2 (Pipeline.Dat.unnamed (cfg := cfg0) 3 t) s).1),
    VS0_1.read (Elt F) (VS0_1.writes (Elt F) VS0_1.junk (runE m c t h0 h1 h2 (Pipeline.Dat.unnamed (cfg := cfg0) 3 t) s).2.1),
    VS0_2.read (Elt F) (VS0_2.writes (Elt F) VS0_2.junk (runE m c t h0 h1 h2 (Pipeline.Dat.unnamed (cfg := cfg0) 3 t) s).2.2.1))

/-- What the scratch holds after point `n`: at the first key block of a row the row starts afresh, at a later one up to the
    diagonal the block is folded in, past the diagonal nothing changes. -/
def stAt (c : Dev nD) : (n : ℕ) → n < cfg0.N → St F
  | 0, hn => stA m c ⟨0, hn⟩ (Nat.zero_mod 16) (by show ¬ 0 % 16 + 1 ≤ 0 / 16 % 16; omega) (by show 0 / 16 % 16 = 0 % 16; omega)
  | n + 1, hn =>
    if h0 : (n + 1) % 16 = 0 then
      if h1 : (n + 1) % 16 + 1 ≤ (n + 1) / 16 % 16 then stC m c ⟨n + 1, hn⟩ h0 h1 (by show ¬ (n + 1) / 16 % 16 = (n + 1) % 16; omega)
      else stA m c ⟨n + 1, hn⟩ h0 h1 (by show (n + 1) / 16 % 16 = (n + 1) % 16; omega)
    else
      if h1 : (n + 1) % 16 + 1 ≤ (n + 1) / 16 % 16 then
        stE m c ⟨n + 1, hn⟩ h0 h1 (by show ¬ (n + 1) / 16 % 16 = (n + 1) % 16; omega) (stAt c n (Nat.lt_of_succ_lt hn))
      else
        if h2 : (n + 1) / 16 % 16 = (n + 1) % 16 then stD m c ⟨n + 1, hn⟩ h0 h1 h2 (stAt c n (Nat.lt_of_succ_lt hn))
        else stAt c n (Nat.lt_of_succ_lt hn)

theorem stAt_succ (c : Dev nD) (n : ℕ) (hn : n + 1 < cfg0.N) : stAt m c (n + 1) hn =
    (if h0 : (n + 1) % 16 = 0 then
      if h1 : (n + 1) % 16 + 1 ≤ (n + 1) / 16 % 16 then stC m c ⟨n + 1, hn⟩ h0 h1 (by show ¬ (n + 1) / 16 % 16 = (n + 1) % 16; omega)
      else stA m c ⟨n + 1, hn⟩ h0 h1 (by show (n + 1) / 16 % 16 = (n + 1) % 16; omega)
    else
      if h1 : (n + 1) % 16 + 1 ≤ (n + 1) / 16 % 16 then
        stE m c ⟨n + 1, hn⟩ h0 h1 (by show ¬ (n + 1) / 16 % 16 = (n + 1) % 16; omega) (stAt m c n (Nat.lt_of_succ_lt hn))
      else
        if h2 : (n + 1) / 16 % 16 = (n + 1) % 16 then stD m c ⟨n + 1, hn⟩ h0 h1 h2 (stAt m c n (Nat.lt_of_succ_lt hn))
        else stAt m c n (Nat.lt_of_succ_lt hn)) := rfl

theorem stAt_A (c : Dev nD) (t : Fin cfg0.N) (h0 : t.val % 16 = 0) (h1 : ¬t.val % 16 + 1 ≤ t.val / 16 % 16) (h2 : t.val / 16 % 16 = t.val % 16) : stAt m c t.val t.isLt = stA m c t h0 h1 h2 := by
  obtain ⟨n, hn⟩ := t
  cases n with
  | zero => rfl
  | succ n => rw [stAt_succ]; exact (dif_pos h0).trans (dif_neg h1)

theorem stAt_C (c : Dev nD) (t : Fin cfg0.N) (h0 : t.val % 16 = 0) (h1 : t.val % 16 + 1 ≤ t.val / 16 % 16) (h2 : ¬t.val / 16 % 16 = t.val % 16) : stAt m c t.val t.isLt = stC m c t h0 h1 h2 := by
  obtain ⟨n, hn⟩ := t
  cases n with
  | zero => exfalso; simp at h1
  | succ n => rw [stAt_succ]; exact (dif_pos h0).trans (dif_pos h1)

theorem stAt_D (c : Dev nD) (t : Fin cfg0.N) (h0 : ¬t.val % 16 = 0) (h1 : ¬t.val % 16 + 1 ≤ t.val / 16 % 16) (h2 : t.val / 16 % 16 = t.val % 16) : stAt m c t.val t.isLt = stD m c t h0 h1 h2 (stAt m c (t.val - 1) (lt_of_le_of_lt (Nat.sub_le _ _) t.isLt)) := by
  obtain ⟨n, hn⟩ := t
  cases n with
  | zero => exact absurd rfl h0
  | succ n =>
    rw [stAt_succ]
    refine Eq.trans ((dif_neg h0).trans ((dif_neg h1).trans (dif_pos h2))) ?_
    rfl

theorem stAt_E (c : Dev nD) (t : Fin cfg0.N) (h0 : ¬t.val % 16 = 0) (h1 : t.val % 16 + 1 ≤ t.val / 16 % 16) (h2 : ¬t.val / 16 % 16 = t.val % 16) : stAt m c t.val t.isLt = stE m c t h0 h1 h2 (stAt m c (t.val - 1) (lt_of_le_of_lt (Nat.sub_le _ _) t.isLt)) := by
  obtain ⟨n, hn⟩ := t
  cases n with
  | zero => exact absurd rfl h0
  | succ n =>
    rw [stAt_succ]
    refine Eq.trans ((dif_neg h0).trans (dif_pos h1)) ?_
    rfl

theorem stAt_B (c : Dev nD) (t : Fin cfg0.N) (h0 : ¬t.val % 16 = 0) (h1 : ¬t.val % 16 + 1 ≤ t.val / 16 % 16) (h2 : ¬t.val / 16 % 16 = t.val % 16) : stAt m c t.val t.isLt = stAt m c (t.val - 1) (lt_of_le_of_lt (Nat.sub_le _ _) t.isLt) := by
  obtain ⟨n, hn⟩ := t
  cases n with
  | zero => exact absurd rfl h0
  | succ n =>
    rw [stAt_succ]
    refine Eq.trans ((dif_neg h0).trans ((dif_neg h1).trans (dif_neg h2))) ?_
    rfl

/-- The point on the diagonal of `t`'s row of points. -/
def diag (t : Fin cfg0.N) : Fin cfg0.N := ⟨t.val / 16 * 16 + t.val / 16 % 16, by
  have h : t.val < 1024 := lt_of_lt_of_eq t.isLt (show cfg0.N = 1024 from N_0)
  exact lt_of_lt_of_eq (show t.val / 16 * 16 + t.val / 16 % 16 < 1024 by omega) (show cfg0.N = 1024 from N_0).symm⟩

/-- What a point on the diagonal leaves in the output block (at another point, anything). -/
def outBlk (c : Dev nD) (t : Fin cfg0.N) : Vec F S1x512x512 .f32 :=
  if h2 : t.val / 16 % 16 = t.val % 16 then
    if h0 : t.val % 16 = 0 then outA m c t h0 (by omega) h2
    else outD m c t h0 (by omega) h2 (stAt m c (t.val - 1) (lt_of_le_of_lt (Nat.sub_le _ _) t.isLt))
  else Pipeline.Dat.unnamed (cfg := cfg0) 3 t

end Cert.Kernel4Ideal.Mla

end
-- ==== Proof.MlaStep.lean ====
/-
  One head's step of the online softmax as the kernel computes it on a block of keys, and its quotient at the end.
-/
module

public import proofs.«01_k».proof.Proof.MlaState

@[expose] public section

set_option maxRecDepth 16384

noncomputable section

namespace Cert.Kernel4Ideal.Mla

open Cert.Kernel4Ideal.Gen Cert.Kernel4Ideal.Facts
open Idealize.ShloMosaic Idealize.ShloMosaic.TcCoe

variable {F : FTy → Type} [FloatOps F] [Named F]

/-- The scores of a block of queries against a block of keys. -/
def scores (q k : Vec F S1x512x128 .bf16) : FVec F S512x512 .f32 :=
  matmul dot_S512x128_S512x128_S512x512_1_1_0_0_n_n none (shapeCast S512x128 q shapeCasts_S1x512x128_S512x128) (shapeCast S512x128 k shapeCasts_S1x512x128_S512x128) (constant S512x512 .f32 0x00000000#32)

/-- Keys not after the query, at query block `a` and key block `b`. -/
def causal (a b : BitVec 32) : IVec S512x512 1 :=
  cmpi .sge (subi (addi (broadcast S512x512 (Scalar.muli a 512#32)) (iota .tc S512x512 32 [0] iota_S512x512_d0_w32)) (addi (broadcast S512x512 (Scalar.muli b 512#32)) (iota .tc S512x512 32 [1] iota_S512x512_d1_w32))) (broadcast S512x512 0#32)

/-- The scores with the keys after the query masked out. -/
def masked (a b : BitVec 32) (s : FVec F S512x512 .f32) : FVec F S512x512 .f32 :=
  select (causal a b) s (broadcast S512x512 (Named.named κ "mask" 0xF149F2CA#32))

/-- The running maximum after the block. -/
def newMax (s : FVec F S512x512 .f32) (mp : Vec F S1x512x1 .f32) : FVec F S512x1 .f32 :=
  maximumf (shapeCast S512x1 mp shapeCasts_S1x512x1_S512x1) (shapeCast S512x1 (multiReduction .maximumf [1] S512 s 0xFF800000#32 reduces_S512x512_S512 (.inl rfl) rfl) shapeCasts_S512_S512x1)

/-- The factor the sums so far are rescaled by. -/
def rescale (s : FVec F S512x512 .f32) (mp : Vec F S1x512x1 .f32) : FVec F S512x1 .f32 :=
  exp (subf (shapeCast S512x1 mp shapeCasts_S1x512x1_S512x1) (newMax s mp))

/-- The block's weights. -/
def weights (s : FVec F S512x512 .f32) (mp : Vec F S1x512x1 .f32) : FVec F S512x512 .bf16 :=
  truncf .bf16 (exp (subf s (broadcastTo S512x512 (newMax s mp) broadcasts_S512x1_S512x512))) bitsLt_bf16_f32

/-- The running sum after the block. -/
def newSum (s : FVec F S512x512 .f32) (mp lp : Vec F S1x512x1 .f32) : FVec F S512x1 .f32 :=
  addf (mulf (rescale s mp) (shapeCast S512x1 lp shapeCasts_S1x512x1_S512x1))
    (extractStridedSlice S512x1 ![0, 0] (matmul dot_S512x512_S512x128_S512x128_1_0_0_1_n_n none (weights s mp) (broadcast S512x128 (Scalar.ofBits .bf16 0x3F80#16)) (constant S512x128 .f32 0x00000000#32)) slices_S512x128_o0_0_S512x1)

/-- The running weighted sum after the block. -/
def newAcc (s : FVec F S512x512 .f32) (mp : Vec F S1x512x1 .f32) (ap : Vec F S1x512x128 .f32) (v : Vec F S1x512x128 .bf16) : FVec F S512x128 .f32 :=
  addf (mulf (broadcastTo S512x128 (rescale s mp) broadcasts_S512x1_S512x128) (shapeCast S512x128 ap shapeCasts_S1x512x128_S512x128))
    (matmul dot_S512x512_S512x128_S512x128_1_0_0_1_n_n none (weights s mp) (shapeCast S512x128 v shapeCasts_S1x512x128_S512x128) (constant S512x128 .f32 0x00000000#32))

end Cert.Kernel4Ideal.Mla

end
-- ==== Proof.MlaRects.lean ====
/-
  The rectangles of the eight heads, and the lists of eight stores the body leaves.
-/
module

public import proofs.«01_k».proof.Proof.MlaStep

@[expose] public section

set_option maxRecDepth 16384

noncomputable section

namespace Cert.Kernel4Ideal.Mla

open Cert.Kernel4Ideal.Gen Cert.Kernel4Ideal.Facts
open Idealize.ShloMosaic Idealize.ShloMosaic.TcCoe

variable {F : FTy → Type} [FloatOps F] [Named F]

theorem inbM (n : ℕ) (h : n < 8) : ∀ a, (![n, 0, 0] : Fin 3 → ℕ) a + S1x512x1.size a ≤ S8x512x1.size a := by
  intro a; fin_cases a <;> simp [S8x512x1, S1x512x1] <;> omega

/-- Head `n`'s part. -/
abbrev rM (n : ℕ) (h : n < 8) : Rect S8x512x1 := Rect.unit ![n, 0, 0] S1x512x1.size (inbM n h)

theorem inbA (n : ℕ) (h : n < 8) : ∀ a, (![n, 0, 0] : Fin 3 → ℕ) a + S1x512x128.size a ≤ S8x512x128.size a := by
  intro a; fin_cases a <;> simp [S8x512x128, S1x512x128] <;> omega

/-- Head `n`'s part. -/
abbrev rA (n : ℕ) (h : n < 8) : Rect S8x512x128 := Rect.unit ![n, 0, 0] S1x512x128.size (inbA n h)

theorem inbQ (n : ℕ) (h : n < 8) : ∀ a, (![0, 0, 128 * n] : Fin 3 → ℕ) a + S1x512x128.size a ≤ S1x512x1024.size a := by
  intro a; fin_cases a <;> simp [S1x512x1024, S1x512x128] <;> omega

/-- Head `n`'s part. -/
abbrev rQ (n : ℕ) (h : n < 8) : Rect S1x512x1024 := Rect.unit ![0, 0, 128 * n] S1x512x128.size (inbQ n h)

theorem inbO (n : ℕ) (h : n < 8) : ∀ a, (![0, 0, 64 * n] : Fin 3 → ℕ) a + S1x512x64.size a ≤ S1x512x512.size a := by
  intro a; fin_cases a <;> simp [S1x512x512, S1x512x64] <;> omega

/-- Head `n`'s part. -/
abbrev rO (n : ℕ) (h : n < 8) : Rect S1x512x512 := Rect.unit ![0, 0, 64 * n] S1x512x64.size (inbO n h)

theorem inbV (n : ℕ) (h : n < 8) : ∀ a, (![0, 0, 128 * (n / 2)] : Fin 3 → ℕ) a + S1x512x128.size a ≤ S1x512x512.size a := by
  intro a; fin_cases a <;> simp [S1x512x512, S1x512x128] <;> omega

/-- The lanes of head `n`'s pair of heads in the values. -/
abbrev rV (n : ℕ) (h : n < 8) : Rect S1x512x512 := Rect.unit ![0, 0, 128 * (n / 2)] S1x512x128.size (inbV n h)

/-- Eight stores, one a head, last first, after the stores `L`. -/
def tilesM (P : (n : ℕ) → n < 8 → Vec F S1x512x1 .f32) (L : List (View.Piece (Elt F) S8x512x1 .f32)) : List (View.Piece (Elt F) S8x512x1 .f32) :=
  ⟨rM 7 (by decide), P 7 (by decide)⟩ :: ⟨rM 6 (by decide), P 6 (by decide)⟩ :: ⟨rM 5 (by decide), P 5 (by decide)⟩ :: ⟨rM 4 (by decide), P 4 (by decide)⟩ :: ⟨rM 3 (by decide), P 3 (by decide)⟩ :: ⟨rM 2 (by decide), P 2 (by decide)⟩ :: ⟨rM 1 (by decide), P 1 (by decide)⟩ :: ⟨rM 0 (by decide), P 0 (by decide)⟩ :: L

/-- Eight stores, one a head, last first, after the stores `L`. -/
def tilesA (P : (n : ℕ) → n < 8 → Vec F S1x512x128 .f32) (L : List (View.Piece (Elt F) S8x512x128 .f32)) : List (View.Piece (Elt F) S8x512x128 .f32) :=
  ⟨rA 7 (by decide), P 7 (by decide)⟩ :: ⟨rA 6 (by decide), P 6 (by decide)⟩ :: ⟨rA 5 (by decide), P 5 (by decide)⟩ :: ⟨rA 4 (by decide), P 4 (by decide)⟩ :: ⟨rA 3 (by decide), P 3 (by decide)⟩ :: ⟨rA 2 (by decide), P 2 (by decide)⟩ :: ⟨rA 1 (by decide), P 1 (by decide)⟩ :: ⟨rA 0 (by decide), P 0 (by decide)⟩ :: L

/-- Eight stores, one a head, last first, after the stores `L`. -/
def tilesO (P : (n : ℕ) → n < 8 → Vec F S1x512x64 .f32) (L : List (View.Piece (Elt F) S1x512x512 .f32)) : List (View.Piece (Elt F) S1x512x512 .f32) :=
  ⟨rO 7 (by decide), P 7 (by decide)⟩ :: ⟨rO 6 (by decide), P 6 (by decide)⟩ :: ⟨rO 5 (by decide), P 5 (by decide)⟩ :: ⟨rO 4 (by decide), P 4 (by decide)⟩ :: ⟨rO 3 (by decide), P 3 (by decide)⟩ :: ⟨rO 2 (by decide), P 2 (by decide)⟩ :: ⟨rO 1 (by decide), P 1 (by decide)⟩ :: ⟨rO 0 (by decide), P 0 (by decide)⟩ :: L

theorem sliceO (n : ℕ) (h : n < 8) : S512x128.Slices ![0, 64 * (n % 2)] S512x64 := by
  rcases (by omega : n % 2 = 0 ∨ n % 2 = 1) with e | e <;> rw [e]
  · exact slices_S512x128_o0_0_S512x64
  · exact slices_S512x128_o0_64_S512x64

end Cert.Kernel4Ideal.Mla

end
-- ==== Proof.MlaTiles.lean ====
/-
  Reading back eight stores, one a head.
-/
module

public import proofs.«01_k».proof.Proof.MlaRects
public import proofs.«01_k».proof.Proof.Online

@[expose] public section

set_option maxRecDepth 16384

noncomputable section

namespace Cert.Kernel4Ideal.Mla

open Cert.Kernel4Ideal.Gen Cert.Kernel4Ideal.Facts
open Idealize.ShloMosaic Idealize.ShloMosaic.TcCoe

variable {F : FTy → Type} [FloatOps F] [Named F]

theorem not_mem_rM (k : ℕ) (hk : k < 8) (n : Fin 8) (r : Fin 512) (h : n.val ≠ k) : (ix3 n r 0 : S8x512x1.Idx) ∉ (rM k hk).set := by
  rw [Rect.mem_set_unit]
  intro h'
  have := h' 0
  change k ≤ n.val ∧ n.val < k + 1 at this
  omega

theorem emb_rM (n : Fin 8) (r : Fin 512) : (rM n.val n.isLt).emb (ix3 0 r 0 : S1x512x1.Idx) = (ix3 n r 0 : S8x512x1.Idx) := by
  funext a; apply Fin.ext
  rw [Rect.emb_apply]
  fin_cases a <;> simp [Rect.unit]

theorem canon_rM (P : (n : ℕ) → n < 8 → Vec F S1x512x1 .f32) (k : ℕ) (hk : k < 8) (L : List (View.Piece (Elt F) S8x512x1 .f32)) (n : Fin 8) (r : Fin 512)
    (h : n.val ≠ k → View.canon L (ix3 n r 0) = P n.val n.isLt (ix3 0 r 0)) :
    View.canon (⟨rM k hk, P k hk⟩ :: L) (ix3 n r 0) = P n.val n.isLt (ix3 0 r 0) := by
  by_cases e : n.val = k
  · subst e
    rw [← emb_rM n r]
    exact View.canon_cons_emb (rM n.val n.isLt) (P n.val n.isLt) L (ix3 0 r 0)
  · exact (View.canon_cons_of_not_mem ⟨rM k hk, P k hk⟩ L (not_mem_rM k hk n r e)).trans (h e)

theorem canon_tilesM (P : (n : ℕ) → n < 8 → Vec F S1x512x1 .f32) (L : List (View.Piece (Elt F) S8x512x1 .f32)) (n : Fin 8) (r : Fin 512) :
    View.canon (tilesM P L) (ix3 n r 0) = P n.val n.isLt (ix3 0 r 0) :=
  canon_rM P 7 _ _ n r fun h7 =>
  canon_rM P 6 _ _ n r fun h6 =>
  canon_rM P 5 _ _ n r fun h5 =>
  canon_rM P 4 _ _ n r fun h4 =>
  canon_rM P 3 _ _ n r fun h3 =>
  canon_rM P 2 _ _ n r fun h2 =>
  canon_rM P 1 _ _ n r fun h1 =>
  canon_rM P 0 _ _ n r fun h0 =>
  absurd n.isLt (by omega)

theorem not_mem_rA (k : ℕ) (hk : k < 8) (n : Fin 8) (r : Fin 512) (d : Fin 128) (h : n.val ≠ k) : (ix3 n r d : S8x512x128.Idx) ∉ (rA k hk).set := by
  rw [Rect.mem_set_unit]
  intro h'
  have := h' 0
  change k ≤ n.val ∧ n.val < k + 1 at this
  omega

theorem emb_rA (n : Fin 8) (r : Fin 512) (d : Fin 128) : (rA n.val n.isLt).emb (ix3 0 r d : S1x512x128.Idx) = (ix3 n r d : S8x512x128.Idx) := by
  funext a; apply Fin.ext
  rw [Rect.emb_apply]
  fin_cases a <;> simp [Rect.unit]

theorem canon_rA (P : (n : ℕ) → n < 8 → Vec F S1x512x128 .f32) (k : ℕ) (hk : k < 8) (L : List (View.Piece (Elt F) S8x512x128 .f32)) (n : Fin 8) (r : Fin 512) (d : Fin 128)
    (h : n.val ≠ k → View.canon L (ix3 n r d) = P n.val n.isLt (ix3 0 r d)) :
    View.canon (⟨rA k hk, P k hk⟩ :: L) (ix3 n r d) = P n.val n.isLt (ix3 0 r d) := by
  by_cases e : n.val = k
  · subst e
    rw [← emb_rA n r d]
    exact View.canon_cons_emb (rA n.val n.isLt) (P n.val n.isLt) L (ix3 0 r d)
  · exact (View.canon_cons_of_not_mem ⟨rA k hk, P k hk⟩ L (not_mem_rA k hk n r d e)).trans (h e)

theorem canon_tilesA (P : (n : ℕ) → n < 8 → Vec F S1x512x128 .f32) (L : List (View.Piece (Elt F) S8x512x128 .f32)) (n : Fin 8) (r : Fin 512) (d : Fin 128) :
    View.canon (tilesA P L) (ix3 n r d) = P n.val n.isLt (ix3 0 r d) :=
  canon_rA P 7 _ _ n r d fun h7 =>
  canon_rA P 6 _ _ n r d fun h6 =>
  canon_rA P 5 _ _ n r d fun h5 =>
  canon_rA P 4 _ _ n r d fun h4 =>
  canon_rA P 3 _ _ n r d fun h3 =>
  canon_rA P 2 _ _ n r d fun h2 =>
  canon_rA P 1 _ _ n r d fun h1 =>
  canon_rA P 0 _ _ n r d fun h0 =>
  absurd n.isLt (by omega)

/-- Lane `d` of head `n` in the output block. -/
abbrev outLane (n : Fin 8) (d : Fin 64) : Fin 512 := ⟨64 * n.val + d.val, by have := n.isLt; have := d.isLt; omega⟩

theorem not_mem_rO (k : ℕ) (hk : k < 8) (n : Fin 8) (r : Fin 512) (d : Fin 64) (h : n.val ≠ k) : (ix3 0 r (outLane n d) : S1x512x512.Idx) ∉ (rO k hk).set := by
  rw [Rect.mem_set_unit]
  intro h'
  have := h' 2
  change 64 * k ≤ 64 * n.val + d.val ∧ 64 * n.val + d.val < 64 * k + 64 at this
  have := d.isLt
  omega

theorem emb_rO (n : Fin 8) (r : Fin 512) (d : Fin 64) : (rO n.val n.isLt).emb (ix3 0 r d : S1x512x64.Idx) = (ix3 0 r (outLane n d) : S1x512x512.Idx) := by
  funext a; apply Fin.ext
  rw [Rect.emb_apply]
  fin_cases a <;> simp [Rect.unit]

theorem canon_rO (P : (n : ℕ) → n < 8 → Vec F S1x512x64 .f32) (k : ℕ) (hk : k < 8) (L : List (View.Piece (Elt F) S1x512x512 .f32)) (n : Fin 8) (r : Fin 512) (d : Fin 64)
    (h : n.val ≠ k → View.canon L (ix3 0 r (outLane n d)) = P n.val n.isLt (ix3 0 r d)) :
    View.canon (⟨rO k hk, P k hk⟩ :: L) (ix3 0 r (outLane n d)) = P n.val n.isLt (ix3 0 r d) := by
  by_cases e : n.val = k
  · subst e
    rw [← emb_rO n r d]
    exact View.canon_cons_emb (rO n.val n.isLt) (P n.val n.isLt) L (ix3 0 r d)
  · exact (View.canon_cons_of_not_mem ⟨rO k hk, P k hk⟩ L (not_mem_rO k hk n r d e)).trans (h e)

theorem canon_tilesO (P : (n : ℕ) → n < 8 → Vec F S1x512x64 .f32) (L : List (View.Piece (Elt F) S1x512x512 .f32)) (n : Fin 8) (r : Fin 512) (d : Fin 64) :
    View.canon (tilesO P L) (ix3 0 r (outLane n d)) = P n.val n.isLt (ix3 0 r d) :=
  canon_rO P 7 _ _ n r d fun h7 =>
  canon_rO P 6 _ _ n r d fun h6 =>
  canon_rO P 5 _ _ n r d fun h5 =>
  canon_rO P 4 _ _ n r d fun h4 =>
  canon_rO P 3 _ _ n r d fun h3 =>
  canon_rO P 2 _ _ n r d fun h2 =>
  canon_rO P 1 _ _ n r d fun h1 =>
  canon_rO P 0 _ _ n r d fun h0 =>
  absurd n.isLt (by omega)

theorem idx_rQ (n : Fin 8) (r : Fin 512) (d : Fin 128) : (rQ n.val n.isLt).toLoadRect.idx (ix3 0 r d : S1x512x128.Idx) =
    (ix3 0 r ⟨128 * n.val + d.val, by have := n.isLt; have := d.isLt; omega⟩ : S1x512x1024.Idx) := by
  funext a; apply Fin.ext
  rw [LoadRect.idx_apply]
  fin_cases a <;> simp [Rect.unit]

theorem idx_rV (n : Fin 8) (r : Fin 512) (d : Fin 128) : (rV n.val n.isLt).toLoadRect.idx (ix3 0 r d : S1x512x128.Idx) =
    (ix3 0 r ⟨128 * (n.val / 2) + d.val, by have := n.isLt; have := d.isLt; omega⟩ : S1x512x512.Idx) := by
  funext a; apply Fin.ext
  rw [LoadRect.idx_apply]
  fin_cases a <;> simp [Rect.unit]

end Cert.Kernel4Ideal.Mla

end
-- ==== Proof.MlaAt.lean ====
/-
  One head's step at an element, at the extended reals.
-/
module

public import proofs.«01_k».proof.Proof.MlaStep
public import proofs.«01_k».proof.Proof.Online

@[expose] public section

set_option maxRecDepth 16384

noncomputable section

namespace Cert.Kernel4Ideal.Mla

open Cert.Kernel4Ideal.Gen Cert.Kernel4Ideal.Facts
open Idealize.ShloMosaic Idealize.ShloMosaic.TcCoe

theorem scores_at (q k : Vec Ideal S1x512x128 .bf16) (r j : Fin 512) :
    scores q k (ix2 r j) = ∑ d : Fin 128, q (ix3 0 r d) * k (ix3 0 j d) := by
  pointwise [scores]

theorem newMax_at (s : FVec Ideal S512x512 .f32) (mp : Vec Ideal S1x512x1 .f32) (r : Fin 512) :
    newMax s mp (ix2 r 0) = max (mp (ix3 0 r 0)) (Finset.univ.fold max ⊥ (fun x : Fin 512 => s (ix2 r x))) := by
  rw [← Attn.ofBits_neg_inf]
  pointwise [newMax]

theorem newSum_at (s : FVec Ideal S512x512 .f32) (mp lp : Vec Ideal S1x512x1 .f32) (r : Fin 512) :
    newSum s mp lp (ix2 r 0) = Ideal.exp (mp (ix3 0 r 0) - newMax s mp (ix2 r 0)) * lp (ix3 0 r 0)
      + ∑ x : Fin 512, Ideal.exp (s (ix2 r x) - newMax s mp (ix2 r 0)) := by
  pointwise [newSum, rescale, weights]

theorem newAcc_at (s : FVec Ideal S512x512 .f32) (mp : Vec Ideal S1x512x1 .f32) (ap : Vec Ideal S1x512x128 .f32) (v : Vec Ideal S1x512x128 .bf16) (r : Fin 512) (d : Fin 128) :
    newAcc s mp ap v (ix2 r d) = Ideal.exp (mp (ix3 0 r 0) - newMax s mp (ix2 r 0)) * ap (ix3 0 r d)
      + ∑ x : Fin 512, Ideal.exp (s (ix2 r x) - newMax s mp (ix2 r 0)) * v (ix3 0 x d) := by
  pointwise [newAcc, rescale, weights]

/-- The mask's number. -/
theorem mask_val : Named.named (F := Ideal) κ "mask" (φ := .f32) 0xF149F2CA#32 = ⊥ :=
  IdealRules.named_const.ideal_named_scalar _ _ _ _ rfl

theorem masked_at (i : Fin 16) (s : FVec Ideal S512x512 .f32) (r j : Fin 512) :
    masked (BitVec.ofNat 32 i.val) (BitVec.ofNat 32 i.val) s (ix2 r j) = if j.val ≤ r.val then s (ix2 r j) else ⊥ := by
  rw [← mask_val]
  pointwise [masked, causal]
  rw [Attn.sge_word i.val r.val j.val i.isLt r.isLt j.isLt]
  by_cases h : j.val ≤ r.val
  · rw [if_pos h, decide_eq_true h]; rfl
  · rw [if_neg h, decide_eq_false h]; rfl

end Cert.Kernel4Ideal.Mla

end
-- ==== Proof.MlaElem.lean ====
/-
  What one head of one row is made into at a grid point, in terms of what it was and of the blocks.
-/
module

public import proofs.«01_k».proof.Proof.MlaTiles
public import proofs.«01_k».proof.Proof.MlaAt
public import Idealize.ShloMosaic.Lib.WholeRead

@[expose] public section

set_option maxRecDepth 16384

noncomputable section

namespace Cert.Kernel4Ideal.Mla

open Cert.Kernel4Ideal.Gen Cert.Kernel4Ideal.Facts
open Idealize.ShloMosaic Idealize.ShloMosaic.TcCoe

/-- One block's step of a row: `mp, lp, ap` become `M, L, A` under the block's scores `sb` and values `vb`. -/
def Upd (mp lp : EReal) (ap : Fin 128 → EReal) (sb : Fin 512 → EReal) (vb : Fin 512 → Fin 128 → EReal) (M L : EReal) (A : Fin 128 → EReal) : Prop :=
  M = max mp (Finset.univ.fold max ⊥ sb) ∧ L = Ideal.exp (mp - M) * lp + ∑ x, Ideal.exp (sb x - M) ∧
    ∀ d, A d = Ideal.exp (mp - M) * ap d + ∑ x, Ideal.exp (sb x - M) * vb x d

theorem upd_at (s : FVec Ideal S512x512 .f32) (mp lp : Vec Ideal S1x512x1 .f32) (ap : Vec Ideal S1x512x128 .f32) (v : Vec Ideal S1x512x128 .bf16) (r : Fin 512) :
    Upd (mp (ix3 0 r 0)) (lp (ix3 0 r 0)) (fun d => ap (ix3 0 r d)) (fun x => s (ix2 r x)) (fun x d => v (ix3 0 x d))
      (newMax s mp (ix2 r 0)) (newSum s mp lp (ix2 r 0)) (fun d => newAcc s mp ap v (ix2 r d)) :=
  ⟨newMax_at s mp r, newSum_at s mp lp r, fun d => newAcc_at s mp ap v r d⟩

theorem cast_col (X : FVec Ideal S512x1 .f32) (r : Fin 512) : shapeCast S1x512x1 X shapeCasts_S512x1_S1x512x1 (ix3 0 r 0) = X (ix2 r 0) := by
  pointwise

theorem cast_acc (X : FVec Ideal S512x128 .f32) (r : Fin 512) (d : Fin 128) : shapeCast S1x512x128 X shapeCasts_S512x128_S1x512x128 (ix3 0 r d) = X (ix2 r d) := by
  pointwise

theorem pay1_at (y : S8x512x1.Idx) : k0_pay1 (F := Ideal) y = ⊥ := mask_val
theorem pay2_at (y : S8x512x1.Idx) : k0_pay2 (F := Ideal) y = 0 := Ideal.ofBits_zero_f32
theorem pay3_at (y : S8x512x128.Idx) : k0_pay3 (F := Ideal) y = 0 := Ideal.ofBits_zero_f32

theorem wholeM (y : S8x512x1.Idx) : (Rect.unit ![0, 0, 0] S8x512x1.size inb_S8x512x1_S8x512x1_0_0_0).emb y = y := by
  funext a; apply Fin.ext
  rw [Rect.emb_apply]
  fin_cases a <;> simp [Rect.unit]

theorem wholeA (y : S8x512x128.Idx) : (Rect.unit ![0, 0, 0] S8x512x128.size inb_S8x512x128_S8x512x128_0_0_0).emb y = y := by
  funext a; apply Fin.ext
  rw [Rect.emb_apply]
  fin_cases a <;> simp [Rect.unit]

/-- A store of the whole of a scratch buffer, read back. -/
theorem canon_wholeM (w : Vec Ideal S8x512x1 .f32) (y : S8x512x1.Idx) :
    View.canon (Val := Elt Ideal) [⟨Rect.unit ![0, 0, 0] S8x512x1.size inb_S8x512x1_S8x512x1_0_0_0, w⟩] y = w y := by
  have h := View.canon_cons_emb (Val := Elt Ideal) (Rect.unit ![0, 0, 0] S8x512x1.size inb_S8x512x1_S8x512x1_0_0_0) w [] y
  rw [wholeM] at h
  exact h

theorem canon_wholeA (w : Vec Ideal S8x512x128 .f32) (y : S8x512x128.Idx) :
    View.canon (Val := Elt Ideal) [⟨Rect.unit ![0, 0, 0] S8x512x128.size inb_S8x512x128_S8x512x128_0_0_0, w⟩] y = w y := by
  have h := View.canon_cons_emb (Val := Elt Ideal) (Rect.unit ![0, 0, 0] S8x512x128.size inb_S8x512x128_S8x512x128_0_0_0) w [] y
  rw [wholeA] at h
  exact h

theorem idx_rM (n : Fin 8) (r : Fin 512) : (rM n.val n.isLt).toLoadRect.idx (ix3 0 r 0 : S1x512x1.Idx) = (ix3 n r 0 : S8x512x1.Idx) := emb_rM n r
theorem idx_rA (n : Fin 8) (r : Fin 512) (d : Fin 128) : (rA n.val n.isLt).toLoadRect.idx (ix3 0 r d : S1x512x128.Idx) = (ix3 n r d : S8x512x128.Idx) := emb_rA n r d

theorem readCov_rM (v : View sig .tc .vmem S8x512x1 .f32) (L : List (View.Piece (Elt Ideal) S8x512x1 .f32)) (n : Fin 8) (r : Fin 512) :
    v.readCov L (rM n.val n.isLt).toLoadRect (ix3 0 r 0) = View.canon L (ix3 n r 0) := by
  rw [View.readCov_eq_canon']
  exact congrArg (View.canon L) (idx_rM n r)

theorem readCov_rA (v : View sig .tc .vmem S8x512x128 .f32) (L : List (View.Piece (Elt Ideal) S8x512x128 .f32)) (n : Fin 8) (r : Fin 512) (d : Fin 128) :
    v.readCov L (rA n.val n.isLt).toLoadRect (ix3 0 r d) = View.canon L (ix3 n r d) := by
  rw [View.readCov_eq_canon']
  exact congrArg (View.canon L) (idx_rA n r d)

section
variable (m : (ℓ : Loc nD τ sig) → Buf (Elt Ideal) ℓ)

/-- The blocks of queries, keys and values at point `t`. -/
abbrev bq (c : Dev nD) (t : Fin cfg0.N) : Vec Ideal S1x512x1024 .bf16 := iblk m c 0 t
@[inherit_doc bq] abbrev bk (c : Dev nD) (t : Fin cfg0.N) : Vec Ideal S1x512x1024 .bf16 := iblk m c 1 t
@[inherit_doc bq] abbrev bv (c : Dev nD) (t : Fin cfg0.N) : Vec Ideal S1x512x512 .bf16 := iblk m c 2 t
/-- The score of row `r` of head `n` against key `j` of the block of point `t`. -/
def scoreE (c : Dev nD) (t : Fin cfg0.N) (n : Fin 8) (r j : Fin 512) : EReal :=
  ∑ d : Fin 128, (bq m c t (ix3 0 r ⟨128 * n.val + d.val, by have := n.isLt; have := d.isLt; omega⟩) : EReal) * bk m c t (ix3 0 j ⟨128 * n.val + d.val, by have := n.isLt; have := d.isLt; omega⟩)

/-- The values of head `n`'s pair of heads in the block of point `t`. -/
def valE (c : Dev nD) (t : Fin cfg0.N) (n : Fin 8) (x : Fin 512) (d : Fin 128) : EReal := bv m c t (ix3 0 x ⟨128 * (n.val / 2) + d.val, by have := n.isLt; have := d.isLt; omega⟩)

/-- Head `n`'s scores at point `t`, from the loaded blocks. -/
abbrev scv (c : Dev nD) (t : Fin cfg0.N) (n : Fin 8) : FVec Ideal S512x512 .f32 :=
  scores (View.readAt (Elt Ideal) (ms0_0 t).view (rQ n.val n.isLt).toLoadRect ((hs0_0 t).unread (bq m c t))) (View.readAt (Elt Ideal) (ms0_1 t).view (rQ n.val n.isLt).toLoadRect ((hs0_1 t).unread (bk m c t)))

theorem scv_at (c : Dev nD) (t : Fin cfg0.N) (n : Fin 8) (r j : Fin 512) : scv m c t n (ix2 r j) = scoreE m c t n r j := by
  unfold scv
  refine (scores_at _ _ r j).trans ?_
  unfold scoreE
  exact Finset.sum_congr rfl fun d _ => congrArg₂ (fun a b : EReal => a * b)
    (((hs0_0 t).readAt_unread (bq m c t) _ _).trans (congrArg (bq m c t) (idx_rQ n r d)))
    (((hs0_1 t).readAt_unread (bk m c t) _ _).trans (congrArg (bk m c t) (idx_rQ n j d)))

/-- The block of values as loaded. -/
abbrev vlv (c : Dev nD) (t : Fin cfg0.N) (n : Fin 8) : Vec Ideal S1x512x128 .bf16 := View.readAt (Elt Ideal) (ms0_2 t).view (rV n.val n.isLt).toLoadRect ((hs0_2 t).unread (bv m c t))

theorem vlv_at (c : Dev nD) (t : Fin cfg0.N) (n : Fin 8) (x : Fin 512) (d : Fin 128) : vlv m c t n (ix3 0 x d) = valE m c t n x d := by
  exact ((hs0_2 t).readAt_unread (bv m c t) _ _).trans (congrArg (bv m c t) (idx_rV n x d))

/-- On the diagonal the scores are masked past the row. -/
theorem mscv_at (c : Dev nD) (t : Fin cfg0.N) (h2 : t.val / 16 % 16 = t.val % 16) (s : FVec Ideal S512x512 .f32) (r j : Fin 512) :
    masked (BitVec.ofNat 32 (grid0.coords t 1).val) (BitVec.ofNat 32 (grid0.coords t 2).val) s (ix2 r j) = if j.val ≤ r.val then s (ix2 r j) else ⊥ := by
  have e1 : (grid0.coords t 1).val = t.val % 16 := (Pipeline.Grid.coords_val (G := grid0) t 1 (S := 16) (B := 16) (by decide) rfl).trans h2
  have e2 : (grid0.coords t 2).val = t.val % 16 := (Pipeline.Grid.coords_val (G := grid0) t 2 (S := 1) (B := 16) (by decide) rfl).trans (by rw [Nat.div_one])
  rw [e1, e2]
  exact masked_at ⟨t.val % 16, Nat.mod_lt _ (by decide)⟩ s r j
end

theorem out_at (A : Vec Ideal S1x512x128 .f32) (L : Vec Ideal S1x512x1 .f32) (n : Fin 8) (r : Fin 512) (d : Fin 64) :
    (shapeCast S1x512x64 (extractStridedSlice S512x64 ![0, 64 * (n.val % 2)] (divf (shapeCast S512x128 A shapeCasts_S1x512x128_S512x128)
        (broadcastTo S512x128 (shapeCast S512x1 L shapeCasts_S1x512x1_S512x1) broadcasts_S512x1_S512x128)) (sliceO n.val n.isLt)) shapeCasts_S512x64_S1x512x64 : FVec Ideal S1x512x64 .f32) (ix3 0 r d)
      = Ideal.div (A (ix3 0 r ⟨64 * (n.val % 2) + d.val, by have := n.isLt; have := d.isLt; omega⟩)) (L (ix3 0 r 0)) := by
  pointwise

end Cert.Kernel4Ideal.Mla

end
-- ==== Proof.MlaReal.lean ====
/-
  The multi-latent attention on real numbers: its scores, and the root of the heads' width.
-/
module

public import proofs.«01_k».proof.Proof.FoxReal

@[expose] public section

noncomputable section

namespace Cert.Attn.Mla

open Idealize.ShloMosaic

variable (q k : (⟨4, ![4, 8192, 8, 96]⟩ : Shape).Idx → EReal)

/-- The query, or the key, of a batch, position, head and lane. -/
def wR (b r h d : ℕ) : ℝ := (q (ix4 (Fin.ofNat 4 b) (Fin.ofNat 8192 r) (Fin.ofNat 8 h) (Fin.ofNat 96 d))).toReal

/-- The score of a query and a key. -/
def score (b r h j : ℕ) : ℝ := (∑ d : Fin 96, wR k b j h d * wR q b r h d) / Real.sqrt 96

variable {q}

theorem w_eq (hq : Fox.Real q) (b : Fin 4) (r : Fin 8192) (h : Fin 8) (d : Fin 96) :
    q (ix4 b r h d) = ((wR q b r h d : ℝ) : EReal) := by
  rw [hq]; unfold wR; simp

theorem root_ne : Real.sqrt 96 ≠ 0 := (Real.sqrt_pos.mpr (by norm_num)).ne'

/-- The root of the width. -/
theorem root : Ideal.sqrt (Ideal.ofBits FTy.f32 0x42C00000#32) = ((Real.sqrt 96 : ℝ) : EReal) := by
  have e : Ideal.ofBits FTy.f32 0x42C00000#32 = ((96 : ℝ) : EReal) := by
    simp [Ideal.ofBits, Ideal.ieee, -EReal.coe_mul]; norm_num
  rw [e, Ideal.sqrt_coe, if_neg (by norm_num)]

/-- A real over the root. -/
theorem div_root (x : ℝ) : Ideal.div (x : EReal) (Ideal.sqrt (Ideal.ofBits FTy.f32 0x42C00000#32)) = ((x / Real.sqrt 96 : ℝ) : EReal) := by
  rw [root, Ideal.div_coe root_ne, ← EReal.coe_mul, mul_one_div]

end Cert.Attn.Mla

end
-- ==== Proof.MlaHost.lean ====
/-
  What the host operations before the launch leave in the kernel's operands: padded scaled queries, padded keys, values.
-/
module

public import proofs.«01_k».proof.Proof.MlaElem
public import proofs.«01_k».proof.Proof.MlaReal
public import Idealize.ShloMosaic.Lib.StableHlo.ReadAt

@[expose] public section

set_option maxRecDepth 16384

noncomputable section

namespace Cert.Kernel4Ideal.Mla

open Cert.Kernel4Ideal.Gen Cert.Kernel4Ideal.Facts
open Idealize.ShloMosaic Idealize.ShloMosaic.TcCoe

variable (m : (ℓ : Loc nD τ sig) → Buf (Elt Ideal) ℓ) (c : Dev nD)

/-- The queries, the keys, the values, as launched. -/
abbrev argQ : FVec Ideal S4x8192x8x96 .f32 := m ((c.tc : Thread nD τ).loc main_arg0)
@[inherit_doc argQ] abbrev argK : FVec Ideal S4x8192x8x96 .f32 := m ((c.tc : Thread nD τ).loc main_arg1)
@[inherit_doc argQ] abbrev argV : FVec Ideal S4x8192x8x64 .f32 := m ((c.tc : Thread nD τ).loc main_arg2)

/-- The padding's number. -/
theorem pad_zero : (FloatOps.sitofp (F := Ideal) FTy.f32 (0#32) : EReal) = 0 := by
  simp [FloatOps.sitofp]

/-- The scaled queries, padded to 128 lanes a head. -/
theorem V5_at (b : Fin 4) (r : Fin 8192) (h : Fin 8) (e : Fin 128) (l : Fin 1024) (hl : l.val = 128 * h.val + e.val) :
    V m c main_v5 (ix3 b r l) = if he : e.val < 96 then
      Ideal.div (argQ m c (ix4 b r h ⟨e.val, he⟩)) (Ideal.sqrt (Ideal.ofBits FTy.f32 0x42C00000#32)) else (0 : EReal) := by
  unfold V
  after_reads_at
  have e1 : (⟨l.val / 128, by omega⟩ : Fin 8) = h := Fin.ext (by show l.val / 128 = h.val; omega)
  have e2 : l.val % 128 = e.val := by omega
  have e3 : l.val / 128 < 8 := by omega
  simp only [e1, e2, e3, true_and, pad_zero]

/-- The keys, padded to 128 lanes a head. -/
theorem V8_at (b : Fin 4) (r : Fin 8192) (h : Fin 8) (e : Fin 128) (l : Fin 1024) (hl : l.val = 128 * h.val + e.val) :
    V m c main_v8 (ix3 b r l) = if he : e.val < 96 then (argK m c (ix4 b r h ⟨e.val, he⟩) : EReal) else (0 : EReal) := by
  unfold V
  after_reads_at
  have e1 : (⟨l.val / 128, by omega⟩ : Fin 8) = h := Fin.ext (by show l.val / 128 = h.val; omega)
  have e2 : l.val % 128 = e.val := by omega
  have e3 : l.val / 128 < 8 := by omega
  simp only [e1, e2, e3, true_and, pad_zero]

/-- The values, heads side by side. -/
theorem V10_at (b : Fin 4) (r : Fin 8192) (l : Fin 512) :
    V m c main_v10 (ix3 b r l) = argV m c (ix4 b r ⟨l.val / 64, by omega⟩ ⟨l.val % 64, by omega⟩) := by
  unfold V
  after_reads_at

end Cert.Kernel4Ideal.Mla

end
-- ==== Proof.MlaBlocks.lean ====
/-
  The blocks the launch reads, at an element.
-/
module

public import proofs.«01_k».proof.Proof.MlaHost
public import proofs.«01_k».proof.Proof.MlaReal
public import Idealize.ShloMosaic.Lib.StableHlo.ReadAt

@[expose] public section

set_option maxRecDepth 16384

noncomputable section

namespace Cert.Kernel4Ideal.Mla

open Cert.Kernel4Ideal.Gen Cert.Kernel4Ideal.Facts
open Idealize.ShloMosaic Idealize.ShloMosaic.TcCoe

variable (m : (ℓ : Loc nD τ sig) → Buf (Elt Ideal) ℓ) (c : Dev nD)

/-- Where each window's block lies, in blocks. -/
theorem places : ∀ t : Fin cfg0.N, win0_0.index t = ![t.val / 256, t.val / 16 % 16, 0]
    ∧ win0_1.index t = ![t.val / 256, min (t.val % 16) (t.val / 16 % 16), 0]
    ∧ win0_2.index t = ![t.val / 256, min (t.val % 16) (t.val / 16 % 16), 0]
    ∧ win0_3.index t = ![t.val / 256, t.val / 16 % 16, 0] :=
  (by decide +kernel : ∀ t : Fin grid0.N, _)

variable (t : Fin cfg0.N) (b : Fin 4) (hb : b.val = t.val / 256) (R K : Fin 8192) (r : Fin 512)

include hb

theorem blk0_at (X : ∀ b : Ref sig .tc, Buf (Elt Ideal) ((c.tc : Thread nD τ).loc b)) (hR : R.val = 512 * (t.val / 16 % 16) + r.val) (l : Fin 1024) :
    ((cfg0.win 0).blk t).view.read (Elt Ideal) (X (Pipeline.arrRef spec0 0)) (ix3 0 r l) = X main_v5 (ix3 b R l) := by
  blk_simp
  refine congrArg (X main_v5) ?_
  blk_ext [places t]

theorem bq_at (hR : R.val = 512 * (t.val / 16 % 16) + r.val) (l : Fin 1024) :
    bq m c t (ix3 0 r l) = V m c main_v5 (ix3 b R l) :=
  blk0_at c t b hb R r (V m c) hR l

theorem blk1_at (X : ∀ b : Ref sig .tc, Buf (Elt Ideal) ((c.tc : Thread nD τ).loc b)) (h : t.val % 16 ≤ t.val / 16 % 16) (hK : K.val = 512 * (t.val % 16) + r.val) (l : Fin 1024) :
    ((cfg0.win 1).blk t).view.read (Elt Ideal) (X (Pipeline.arrRef spec0 1)) (ix3 0 r l) = X main_v8 (ix3 b K l) := by
  blk_simp
  refine congrArg (X main_v8) ?_
  blk_ext [places t]

theorem bk_at (h : t.val % 16 ≤ t.val / 16 % 16) (hK : K.val = 512 * (t.val % 16) + r.val) (l : Fin 1024) :
    bk m c t (ix3 0 r l) = V m c main_v8 (ix3 b K l) :=
  blk1_at c t b hb K r (V m c) h hK l

theorem bv_at (h : t.val % 16 ≤ t.val / 16 % 16) (hK : K.val = 512 * (t.val % 16) + r.val) (l : Fin 512) :
    bv m c t (ix3 0 r l) = V m c main_v10 (ix3 b K l) := by
  unfold bv
  blk_simp [iblk]
  refine congrArg (V m c main_v10) ?_
  blk_ext [places t]

end Cert.Kernel4Ideal.Mla

end
-- ==== Proof.MlaPiecesA.lean ====
/-
  The MLA flash body at a point of case A: what it stores, head by head.
-/
module

public import proofs.«01_k».proof.Proof.MlaRects
public import proofs.«01_k».proof.Proof.MlaRunA

@[expose] public section

set_option maxRecDepth 65536

noncomputable section

namespace Cert.Kernel4Ideal.Mla

open Cert.Kernel4Ideal.Gen Cert.Kernel4Ideal.Facts
open Idealize.ShloMosaic Idealize.ShloMosaic.TcCoe

variable {F : FTy → Type} [FloatOps F] [Named F]

theorem runA_max (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond0_0 i) (hc1 : ¬cond0_1 i) (hc2 : cond0_2 i) (hc3 : cond0_3 i)
    (x0 : Vec F S1x512x1024 .bf16) (x1 : Vec F S1x512x1024 .bf16) (x2 : Vec F S1x512x512 .bf16) :
    (kernelRun0_A c i arg3 harg3 arg4 harg4 arg5 harg5 arg6 harg6 arg7 harg7 arg8 harg8 arg9 harg9 hc0 hc1 hc2 hc3 x0 x1 x2).2.1 =
      tilesM (fun n h => shapeCast S1x512x1 (newMax (masked (BitVec.ofNat 32 (i 1).val) (BitVec.ofNat 32 (i 2).val) (scores (View.readAt (Elt F) arg3.view (rQ n h).toLoadRect (harg3.unread x0)) (View.readAt (Elt F) arg4.view (rQ n h).toLoadRect (harg4.unread x1)))) (arg7.view.readCov [⟨Rect.unit ![0, 0, 0] S8x512x1.size inb_S8x512x1_S8x512x1_0_0_0, k0_pay1⟩] (rM n h).toLoadRect)) shapeCasts_S512x1_S1x512x1) [⟨Rect.unit ![0, 0, 0] S8x512x1.size inb_S8x512x1_S8x512x1_0_0_0, k0_pay1⟩] := rfl

theorem runA_sum (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond0_0 i) (hc1 : ¬cond0_1 i) (hc2 : cond0_2 i) (hc3 : cond0_3 i)
    (x0 : Vec F S1x512x1024 .bf16) (x1 : Vec F S1x512x1024 .bf16) (x2 : Vec F S1x512x512 .bf16) :
    (kernelRun0_A c i arg3 harg3 arg4 harg4 arg5 harg5 arg6 harg6 arg7 harg7 arg8 harg8 arg9 harg9 hc0 hc1 hc2 hc3 x0 x1 x2).2.2.1 =
      tilesM (fun n h => shapeCast S1x512x1 (newSum (masked (BitVec.ofNat 32 (i 1).val) (BitVec.ofNat 32 (i 2).val) (scores (View.readAt (Elt F) arg3.view (rQ n h).toLoadRect (harg3.unread x0)) (View.readAt (Elt F) arg4.view (rQ n h).toLoadRect (harg4.unread x1)))) (arg7.view.readCov [⟨Rect.unit ![0, 0, 0] S8x512x1.size inb_S8x512x1_S8x512x1_0_0_0, k0_pay1⟩] (rM n h).toLoadRect) (arg8.view.readCov [⟨Rect.unit ![0, 0, 0] S8x512x1.size inb_S8x512x1_S8x512x1_0_0_0, k0_pay2⟩] (rM n h).toLoadRect)) shapeCasts_S512x1_S1x512x1) [⟨Rect.unit ![0, 0, 0] S8x512x1.size inb_S8x512x1_S8x512x1_0_0_0, k0_pay2⟩] := rfl

theorem runA_acc (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond0_0 i) (hc1 : ¬cond0_1 i) (hc2 : cond0_2 i) (hc3 : cond0_3 i)
    (x0 : Vec F S1x512x1024 .bf16) (x1 : Vec F S1x512x1024 .bf16) (x2 : Vec F S1x512x512 .bf16) :
    (kernelRun0_A c i arg3 harg3 arg4 harg4 arg5 harg5 arg6 harg6 arg7 harg7 arg8 harg8 arg9 harg9 hc0 hc1 hc2 hc3 x0 x1 x2).2.2.2.1 =
      tilesA (fun n h => shapeCast S1x512x128 (newAcc (masked (BitVec.ofNat 32 (i 1).val) (BitVec.ofNat 32 (i 2).val) (scores (View.readAt (Elt F) arg3.view (rQ n h).toLoadRect (harg3.unread x0)) (View.readAt (Elt F) arg4.view (rQ n h).toLoadRect (harg4.unread x1)))) (arg7.view.readCov [⟨Rect.unit ![0, 0, 0] S8x512x1.size inb_S8x512x1_S8x512x1_0_0_0, k0_pay1⟩] (rM n h).toLoadRect) (arg9.view.readCov [⟨Rect.unit ![0, 0, 0] S8x512x128.size inb_S8x512x128_S8x512x128_0_0_0, k0_pay3⟩] (rA n h).toLoadRect) (View.readAt (Elt F) arg5.view (rV n h).toLoadRect (harg5.unread x2))) shapeCasts_S512x128_S1x512x128) [⟨Rect.unit ![0, 0, 0] S8x512x128.size inb_S8x512x128_S8x512x128_0_0_0, k0_pay3⟩] := rfl

theorem runA_out (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond0_0 i) (hc1 : ¬cond0_1 i) (hc2 : cond0_2 i) (hc3 : cond0_3 i)
    (x0 : Vec F S1x512x1024 .bf16) (x1 : Vec F S1x512x1024 .bf16) (x2 : Vec F S1x512x512 .bf16) :
    (kernelRun0_A c i arg3 harg3 arg4 harg4 arg5 harg5 arg6 harg6 arg7 harg7 arg8 harg8 arg9 harg9 hc0 hc1 hc2 hc3 x0 x1 x2).1 =
      tilesO (fun n h => shapeCast S1x512x64 (extractStridedSlice S512x64 ![0, 64 * (n % 2)] (divf (shapeCast S512x128 (arg9.view.readCov (kernelRun0_A c i arg3 harg3 arg4 harg4 arg5 harg5 arg6 harg6 arg7 harg7 arg8 harg8 arg9 harg9 hc0 hc1 hc2 hc3 x0 x1 x2).2.2.2.1 (rA n h).toLoadRect) shapeCasts_S1x512x128_S512x128)
        (broadcastTo S512x128 (shapeCast S512x1 (arg8.view.readCov (kernelRun0_A c i arg3 harg3 arg4 harg4 arg5 harg5 arg6 harg6 arg7 harg7 arg8 harg8 arg9 harg9 hc0 hc1 hc2 hc3 x0 x1 x2).2.2.1 (rM n h).toLoadRect) shapeCasts_S1x512x1_S512x1) broadcasts_S512x1_S512x128)) (sliceO n h)) shapeCasts_S512x64_S1x512x64) [] := rfl

end Cert.Kernel4Ideal.Mla

end
-- ==== Proof.MlaUpdA.lean ====
/-
  Case A: what one head of one row is made into.
-/
module

public import proofs.«01_k».proof.Proof.MlaTiles
public import proofs.«01_k».proof.Proof.MlaAt
public import Idealize.ShloMosaic.Lib.WholeRead
public import proofs.«01_k».proof.Proof.MlaElem
public import proofs.«01_k».proof.Proof.MlaPiecesA

@[expose] public section

set_option maxRecDepth 16384

noncomputable section

namespace Cert.Kernel4Ideal.Mla

open Cert.Kernel4Ideal.Gen Cert.Kernel4Ideal.Facts
open Idealize.ShloMosaic Idealize.ShloMosaic.TcCoe

variable (m : (ℓ : Loc nD τ sig) → Buf (Elt Ideal) ℓ)

theorem stA_max (c : Dev nD) (t : Fin cfg0.N) (h0 : t.val % 16 = 0) (h1 : ¬t.val % 16 + 1 ≤ t.val / 16 % 16) (h2 : t.val / 16 % 16 = t.val % 16) (n : Fin 8) (r : Fin 512) :
    (stA m c t h0 h1 h2).1 (ix3 n r 0) = newMax (masked (BitVec.ofNat 32 (grid0.coords t 1).val) (BitVec.ofNat 32 (grid0.coords t 2).val) (scv m c t n)) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (ix2 r 0) := by
  have e : (stA m c t h0 h1 h2).1 = View.canon (Val := Elt Ideal) (runA m c t h0 h1 h2).2.1 := by
    unfold stA; dsimp only; rw [View.read_writes_junk_eq_canon]
  rw [e]
  rw [runA_max, canon_tilesM]
  exact cast_col _ r

theorem stA_sum (c : Dev nD) (t : Fin cfg0.N) (h0 : t.val % 16 = 0) (h1 : ¬t.val % 16 + 1 ≤ t.val / 16 % 16) (h2 : t.val / 16 % 16 = t.val % 16) (n : Fin 8) (r : Fin 512) :
    (stA m c t h0 h1 h2).2.1 (ix3 n r 0) = newSum (masked (BitVec.ofNat 32 (grid0.coords t 1).val) (BitVec.ofNat 32 (grid0.coords t 2).val) (scv m c t n)) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (scM0_1.view.readCov [(⟨Rect.unit ![0, 0, 0] S8x512x1.size inb_S8x512x1_S8x512x1_0_0_0, k0_pay2 (F := Ideal)⟩ : View.Piece (Elt Ideal) S8x512x1 .f32)] (rM n.val n.isLt).toLoadRect) (ix2 r 0) := by
  have e : (stA m c t h0 h1 h2).2.1 = View.canon (Val := Elt Ideal) (runA m c t h0 h1 h2).2.2.1 := by
    unfold stA; dsimp only; rw [View.read_writes_junk_eq_canon]
  rw [e]
  rw [runA_sum, canon_tilesM]
  exact cast_col _ r

theorem stA_acc (c : Dev nD) (t : Fin cfg0.N) (h0 : t.val % 16 = 0) (h1 : ¬t.val % 16 + 1 ≤ t.val / 16 % 16) (h2 : t.val / 16 % 16 = t.val % 16) (n : Fin 8) (r : Fin 512) (d : Fin 128) :
    (stA m c t h0 h1 h2).2.2 (ix3 n r d) = newAcc (masked (BitVec.ofNat 32 (grid0.coords t 1).val) (BitVec.ofNat 32 (grid0.coords t 2).val) (scv m c t n)) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (scM0_2.view.readCov [(⟨Rect.unit ![0, 0, 0] S8x512x128.size inb_S8x512x128_S8x512x128_0_0_0, k0_pay3 (F := Ideal)⟩ : View.Piece (Elt Ideal) S8x512x128 .f32)] (rA n.val n.isLt).toLoadRect) (vlv m c t n) (ix2 r d) := by
  have e : (stA m c t h0 h1 h2).2.2 = View.canon (Val := Elt Ideal) (runA m c t h0 h1 h2).2.2.2.1 := by
    unfold stA; dsimp only; rw [View.read_writes_junk_eq_canon]
  rw [e]
  rw [runA_acc, canon_tilesA]
  exact cast_acc _ r d

theorem stA_upd (c : Dev nD) (t : Fin cfg0.N) (h0 : t.val % 16 = 0) (h1 : ¬t.val % 16 + 1 ≤ t.val / 16 % 16) (h2 : t.val / 16 % 16 = t.val % 16) (n : Fin 8) (r : Fin 512) :
    Upd ⊥ 0 (fun _ => 0) (fun x => if x.val ≤ r.val then scoreE m c t n r x else ⊥) (valE m c t n)
      ((stA m c t h0 h1 h2).1 (ix3 n r 0)) ((stA m c t h0 h1 h2).2.1 (ix3 n r 0)) (fun d => (stA m c t h0 h1 h2).2.2 (ix3 n r d)) := by
  have h := upd_at (masked (BitVec.ofNat 32 (grid0.coords t 1).val) (BitVec.ofNat 32 (grid0.coords t 2).val) (scv m c t n)) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (scM0_1.view.readCov [(⟨Rect.unit ![0, 0, 0] S8x512x1.size inb_S8x512x1_S8x512x1_0_0_0, k0_pay2 (F := Ideal)⟩ : View.Piece (Elt Ideal) S8x512x1 .f32)] (rM n.val n.isLt).toLoadRect) (scM0_2.view.readCov [(⟨Rect.unit ![0, 0, 0] S8x512x128.size inb_S8x512x128_S8x512x128_0_0_0, k0_pay3 (F := Ideal)⟩ : View.Piece (Elt Ideal) S8x512x128 .f32)] (rA n.val n.isLt).toLoadRect) (vlv m c t n) r
  have es : (fun x => (masked (BitVec.ofNat 32 (grid0.coords t 1).val) (BitVec.ofNat 32 (grid0.coords t 2).val) (scv m c t n)) (ix2 r x)) = (fun x => if x.val ≤ r.val then scoreE m c t n r x else ⊥) := funext fun x => (mscv_at c t h2 _ r x).trans (by rw [scv_at])
  have em : (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (ix3 0 r 0) = ⊥ := by rw [View.readCov_eq_canon']; exact (canon_wholeM _ _).trans (pay1_at _)
  have el : (scM0_1.view.readCov [(⟨Rect.unit ![0, 0, 0] S8x512x1.size inb_S8x512x1_S8x512x1_0_0_0, k0_pay2 (F := Ideal)⟩ : View.Piece (Elt Ideal) S8x512x1 .f32)] (rM n.val n.isLt).toLoadRect) (ix3 0 r 0) = 0 := by rw [View.readCov_eq_canon']; exact (canon_wholeM _ _).trans (pay2_at _)
  have ea : (fun d => (scM0_2.view.readCov [(⟨Rect.unit ![0, 0, 0] S8x512x128.size inb_S8x512x128_S8x512x128_0_0_0, k0_pay3 (F := Ideal)⟩ : View.Piece (Elt Ideal) S8x512x128 .f32)] (rA n.val n.isLt).toLoadRect) (ix3 0 r d)) = (fun _ => 0) := funext fun d => by rw [View.readCov_eq_canon']; exact (canon_wholeA _ _).trans (pay3_at _)
  have ev : (fun x d => vlv m c t n (ix3 0 x d)) = valE m c t n := funext fun x => funext fun d => vlv_at m c t n x d
  rw [es, em, el, ea, ev] at h
  rw [stA_max, stA_sum, funext fun d => stA_acc m c t h0 h1 h2 n r d]
  exact h

theorem outA_at (c : Dev nD) (t : Fin cfg0.N) (h0 : t.val % 16 = 0) (h1 : ¬t.val % 16 + 1 ≤ t.val / 16 % 16) (h2 : t.val / 16 % 16 = t.val % 16) (n : Fin 8) (r : Fin 512) (d : Fin 64) :
    outA m c t h0 h1 h2 (ix3 0 r (outLane n d)) =
      Ideal.div ((stA m c t h0 h1 h2).2.2 (ix3 n r ⟨64 * (n.val % 2) + d.val, by have := n.isLt; have := d.isLt; omega⟩)) ((stA m c t h0 h1 h2).2.1 (ix3 n r 0)) := by
  have e : outA m c t h0 h1 h2 = View.canon (Val := Elt Ideal) (runA m c t h0 h1 h2).1 := by
    unfold outA; rw [View.read_writes_junk_eq_canon]
  have e1 : (stA m c t h0 h1 h2).2.1 = View.canon (Val := Elt Ideal) (runA m c t h0 h1 h2).2.2.1 := by
    unfold stA; dsimp only; rw [View.read_writes_junk_eq_canon]
  have e2 : (stA m c t h0 h1 h2).2.2 = View.canon (Val := Elt Ideal) (runA m c t h0 h1 h2).2.2.2.1 := by
    unfold stA; dsimp only; rw [View.read_writes_junk_eq_canon]
  rw [e, runA_out, canon_tilesO]
  refine (out_at _ _ n r d).trans ?_
  rw [readCov_rA, readCov_rM]
  exact congrArg₂ Ideal.div (congrFun e2.symm _) (congrFun e1.symm _)

end Cert.Kernel4Ideal.Mla

end
-- ==== Proof.MlaPiecesC.lean ====
/-
  The MLA flash body at a point of case C: what it stores, head by head.
-/
module

public import proofs.«01_k».proof.Proof.MlaRects
public import proofs.«01_k».proof.Proof.MlaRunC

@[expose] public section

set_option maxRecDepth 65536

noncomputable section

namespace Cert.Kernel4Ideal.Mla

open Cert.Kernel4Ideal.Gen Cert.Kernel4Ideal.Facts
open Idealize.ShloMosaic Idealize.ShloMosaic.TcCoe

variable {F : FTy → Type} [FloatOps F] [Named F]

theorem runC_max (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond0_0 i) (hc1 : cond0_1 i) (hc2 : ¬cond0_2 i) (hc3 : ¬cond0_3 i)
    (x0 : Vec F S1x512x1024 .bf16) (x1 : Vec F S1x512x1024 .bf16) (x2 : Vec F S1x512x512 .bf16) (x5 : Vec F S1x512x512 .f32) :
    (kernelRun0_C c i arg3 harg3 arg4 harg4 arg5 harg5 arg6 harg6 arg7 harg7 arg8 harg8 arg9 harg9 hc0 hc1 hc2 hc3 x0 x1 x2 x5).1 =
      tilesM (fun n h => shapeCast S1x512x1 (newMax (scores (View.readAt (Elt F) arg3.view (rQ n h).toLoadRect (harg3.unread x0)) (View.readAt (Elt F) arg4.view (rQ n h).toLoadRect (harg4.unread x1))) (arg7.view.readCov [⟨Rect.unit ![0, 0, 0] S8x512x1.size inb_S8x512x1_S8x512x1_0_0_0, k0_pay1⟩] (rM n h).toLoadRect)) shapeCasts_S512x1_S1x512x1) [⟨Rect.unit ![0, 0, 0] S8x512x1.size inb_S8x512x1_S8x512x1_0_0_0, k0_pay1⟩] := rfl

theorem runC_sum (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond0_0 i) (hc1 : cond0_1 i) (hc2 : ¬cond0_2 i) (hc3 : ¬cond0_3 i)
    (x0 : Vec F S1x512x1024 .bf16) (x1 : Vec F S1x512x1024 .bf16) (x2 : Vec F S1x512x512 .bf16) (x5 : Vec F S1x512x512 .f32) :
    (kernelRun0_C c i arg3 harg3 arg4 harg4 arg5 harg5 arg6 harg6 arg7 harg7 arg8 harg8 arg9 harg9 hc0 hc1 hc2 hc3 x0 x1 x2 x5).2.1 =
      tilesM (fun n h => shapeCast S1x512x1 (newSum (scores (View.readAt (Elt F) arg3.view (rQ n h).toLoadRect (harg3.unread x0)) (View.readAt (Elt F) arg4.view (rQ n h).toLoadRect (harg4.unread x1))) (arg7.view.readCov [⟨Rect.unit ![0, 0, 0] S8x512x1.size inb_S8x512x1_S8x512x1_0_0_0, k0_pay1⟩] (rM n h).toLoadRect) (arg8.view.readCov [⟨Rect.unit ![0, 0, 0] S8x512x1.size inb_S8x512x1_S8x512x1_0_0_0, k0_pay2⟩] (rM n h).toLoadRect)) shapeCasts_S512x1_S1x512x1) [⟨Rect.unit ![0, 0, 0] S8x512x1.size inb_S8x512x1_S8x512x1_0_0_0, k0_pay2⟩] := rfl

theorem runC_acc (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : cond0_0 i) (hc1 : cond0_1 i) (hc2 : ¬cond0_2 i) (hc3 : ¬cond0_3 i)
    (x0 : Vec F S1x512x1024 .bf16) (x1 : Vec F S1x512x1024 .bf16) (x2 : Vec F S1x512x512 .bf16) (x5 : Vec F S1x512x512 .f32) :
    (kernelRun0_C c i arg3 harg3 arg4 harg4 arg5 harg5 arg6 harg6 arg7 harg7 arg8 harg8 arg9 harg9 hc0 hc1 hc2 hc3 x0 x1 x2 x5).2.2.1 =
      tilesA (fun n h => shapeCast S1x512x128 (newAcc (scores (View.readAt (Elt F) arg3.view (rQ n h).toLoadRect (harg3.unread x0)) (View.readAt (Elt F) arg4.view (rQ n h).toLoadRect (harg4.unread x1))) (arg7.view.readCov [⟨Rect.unit ![0, 0, 0] S8x512x1.size inb_S8x512x1_S8x512x1_0_0_0, k0_pay1⟩] (rM n h).toLoadRect) (arg9.view.readCov [⟨Rect.unit ![0, 0, 0] S8x512x128.size inb_S8x512x128_S8x512x128_0_0_0, k0_pay3⟩] (rA n h).toLoadRect) (View.readAt (Elt F) arg5.view (rV n h).toLoadRect (harg5.unread x2))) shapeCasts_S512x128_S1x512x128) [⟨Rect.unit ![0, 0, 0] S8x512x128.size inb_S8x512x128_S8x512x128_0_0_0, k0_pay3⟩] := rfl

end Cert.Kernel4Ideal.Mla

end
-- ==== Proof.MlaUpdC.lean ====
/-
  Case C: what one head of one row is made into.
-/
module

public import proofs.«01_k».proof.Proof.MlaTiles
public import proofs.«01_k».proof.Proof.MlaAt
public import Idealize.ShloMosaic.Lib.WholeRead
public import proofs.«01_k».proof.Proof.MlaElem
public import proofs.«01_k».proof.Proof.MlaPiecesC

@[expose] public section

set_option maxRecDepth 16384

noncomputable section

namespace Cert.Kernel4Ideal.Mla

open Cert.Kernel4Ideal.Gen Cert.Kernel4Ideal.Facts
open Idealize.ShloMosaic Idealize.ShloMosaic.TcCoe

variable (m : (ℓ : Loc nD τ sig) → Buf (Elt Ideal) ℓ)

theorem stC_max (c : Dev nD) (t : Fin cfg0.N) (h0 : t.val % 16 = 0) (h1 : t.val % 16 + 1 ≤ t.val / 16 % 16) (h2 : ¬t.val / 16 % 16 = t.val % 16) (n : Fin 8) (r : Fin 512) :
    (stC m c t h0 h1 h2).1 (ix3 n r 0) = newMax (scv m c t n) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (ix2 r 0) := by
  have e : (stC m c t h0 h1 h2).1 = View.canon (Val := Elt Ideal) (runC m c t h0 h1 h2 (Pipeline.Dat.unnamed (cfg := cfg0) 3 t)).1 := by
    unfold stC; dsimp only; rw [View.read_writes_junk_eq_canon]
  rw [e]
  rw [runC_max, canon_tilesM]
  exact cast_col _ r

theorem stC_sum (c : Dev nD) (t : Fin cfg0.N) (h0 : t.val % 16 = 0) (h1 : t.val % 16 + 1 ≤ t.val / 16 % 16) (h2 : ¬t.val / 16 % 16 = t.val % 16) (n : Fin 8) (r : Fin 512) :
    (stC m c t h0 h1 h2).2.1 (ix3 n r 0) = newSum (scv m c t n) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (scM0_1.view.readCov [(⟨Rect.unit ![0, 0, 0] S8x512x1.size inb_S8x512x1_S8x512x1_0_0_0, k0_pay2 (F := Ideal)⟩ : View.Piece (Elt Ideal) S8x512x1 .f32)] (rM n.val n.isLt).toLoadRect) (ix2 r 0) := by
  have e : (stC m c t h0 h1 h2).2.1 = View.canon (Val := Elt Ideal) (runC m c t h0 h1 h2 (Pipeline.Dat.unnamed (cfg := cfg0) 3 t)).2.1 := by
    unfold stC; dsimp only; rw [View.read_writes_junk_eq_canon]
  rw [e]
  rw [runC_sum, canon_tilesM]
  exact cast_col _ r

theorem stC_acc (c : Dev nD) (t : Fin cfg0.N) (h0 : t.val % 16 = 0) (h1 : t.val % 16 + 1 ≤ t.val / 16 % 16) (h2 : ¬t.val / 16 % 16 = t.val % 16) (n : Fin 8) (r : Fin 512) (d : Fin 128) :
    (stC m c t h0 h1 h2).2.2 (ix3 n r d) = newAcc (scv m c t n) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (scM0_2.view.readCov [(⟨Rect.unit ![0, 0, 0] S8x512x128.size inb_S8x512x128_S8x512x128_0_0_0, k0_pay3 (F := Ideal)⟩ : View.Piece (Elt Ideal) S8x512x128 .f32)] (rA n.val n.isLt).toLoadRect) (vlv m c t n) (ix2 r d) := by
  have e : (stC m c t h0 h1 h2).2.2 = View.canon (Val := Elt Ideal) (runC m c t h0 h1 h2 (Pipeline.Dat.unnamed (cfg := cfg0) 3 t)).2.2.1 := by
    unfold stC; dsimp only; rw [View.read_writes_junk_eq_canon]
  rw [e]
  rw [runC_acc, canon_tilesA]
  exact cast_acc _ r d

theorem stC_upd (c : Dev nD) (t : Fin cfg0.N) (h0 : t.val % 16 = 0) (h1 : t.val % 16 + 1 ≤ t.val / 16 % 16) (h2 : ¬t.val / 16 % 16 = t.val % 16) (n : Fin 8) (r : Fin 512) :
    Upd ⊥ 0 (fun _ => 0) (fun x => scoreE m c t n r x) (valE m c t n)
      ((stC m c t h0 h1 h2).1 (ix3 n r 0)) ((stC m c t h0 h1 h2).2.1 (ix3 n r 0)) (fun d => (stC m c t h0 h1 h2).2.2 (ix3 n r d)) := by
  have h := upd_at (scv m c t n) (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (scM0_1.view.readCov [(⟨Rect.unit ![0, 0, 0] S8x512x1.size inb_S8x512x1_S8x512x1_0_0_0, k0_pay2 (F := Ideal)⟩ : View.Piece (Elt Ideal) S8x512x1 .f32)] (rM n.val n.isLt).toLoadRect) (scM0_2.view.readCov [(⟨Rect.unit ![0, 0, 0] S8x512x128.size inb_S8x512x128_S8x512x128_0_0_0, k0_pay3 (F := Ideal)⟩ : View.Piece (Elt Ideal) S8x512x128 .f32)] (rA n.val n.isLt).toLoadRect) (vlv m c t n) r
  have es : (fun x => (scv m c t n) (ix2 r x)) = (fun x => scoreE m c t n r x) := funext fun x => scv_at m c t n r x
  have em : (scM0_0.view.readCov [(⟨Rect.unit ![0, 0, 0] S8x512x1.size inb_S8x512x1_S8x512x1_0_0_0, k0_pay1 (F := Ideal)⟩ : View.Piece (Elt Ideal) S8x512x1 .f32)] (rM n.val n.isLt).toLoadRect) (ix3 0 r 0) = ⊥ := by rw [View.readCov_eq_canon']; exact (canon_wholeM _ _).trans (pay1_at _)
  have el : (scM0_1.view.readCov [(⟨Rect.unit ![0, 0, 0] S8x512x1.size inb_S8x512x1_S8x512x1_0_0_0, k0_pay2 (F := Ideal)⟩ : View.Piece (Elt Ideal) S8x512x1 .f32)] (rM n.val n.isLt).toLoadRect) (ix3 0 r 0) = 0 := by rw [View.readCov_eq_canon']; exact (canon_wholeM _ _).trans (pay2_at _)
  have ea : (fun d => (scM0_2.view.readCov [(⟨Rect.unit ![0, 0, 0] S8x512x128.size inb_S8x512x128_S8x512x128_0_0_0, k0_pay3 (F := Ideal)⟩ : View.Piece (Elt Ideal) S8x512x128 .f32)] (rA n.val n.isLt).toLoadRect) (ix3 0 r d)) = (fun _ => 0) := funext fun d => by rw [View.readCov_eq_canon']; exact (canon_wholeA _ _).trans (pay3_at _)
  have ev : (fun x d => vlv m c t n (ix3 0 x d)) = valE m c t n := funext fun x => funext fun d => vlv_at m c t n x d
  rw [es, em, el, ea, ev] at h
  rw [stC_max, stC_sum, funext fun d => stC_acc m c t h0 h1 h2 n r d]
  exact h

end Cert.Kernel4Ideal.Mla

end
-- ==== Proof.MlaPiecesD.lean ====
/-
  The MLA flash body at a point of case D: what it stores, head by head.
-/
module

public import proofs.«01_k».proof.Proof.MlaRects
public import proofs.«01_k».proof.Proof.MlaRunD

@[expose] public section

set_option maxRecDepth 65536

noncomputable section

namespace Cert.Kernel4Ideal.Mla

open Cert.Kernel4Ideal.Gen Cert.Kernel4Ideal.Facts
open Idealize.ShloMosaic Idealize.ShloMosaic.TcCoe

variable {F : FTy → Type} [FloatOps F] [Named F]

theorem runD_max (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond0_0 i) (hc1 : ¬cond0_1 i) (hc2 : cond0_2 i) (hc3 : cond0_3 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x128 .f32) :
    (kernelRun0_D c i arg3 harg3 arg4 harg4 arg5 harg5 arg6 harg6 arg7 harg7 arg8 harg8 arg9 harg9 hc0 hc1 hc2 hc3 x0 x1 x2 xs0 xs1 xs2).2.1 =
      tilesM (fun n h => shapeCast S1x512x1 (newMax (masked (BitVec.ofNat 32 (i 1).val) (BitVec.ofNat 32 (i 2).val) (scores (View.readAt (Elt F) arg3.view (rQ n h).toLoadRect (harg3.unread x0)) (View.readAt (Elt F) arg4.view (rQ n h).toLoadRect (harg4.unread x1)))) (View.readAt (Elt F) arg7.view (rM n h).toLoadRect (harg7.unread xs0))) shapeCasts_S512x1_S1x512x1) [] := rfl

theorem runD_sum (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond0_0 i) (hc1 : ¬cond0_1 i) (hc2 : cond0_2 i) (hc3 : cond0_3 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x128 .f32) :
    (kernelRun0_D c i arg3 harg3 arg4 harg4 arg5 harg5 arg6 harg6 arg7 harg7 arg8 harg8 arg9 harg9 hc0 hc1 hc2 hc3 x0 x1 x2 xs0 xs1 xs2).2.2.1 =
      tilesM (fun n h => shapeCast S1x512x1 (newSum (masked (BitVec.ofNat 32 (i 1).val) (BitVec.ofNat 32 (i 2).val) (scores (View.readAt (Elt F) arg3.view (rQ n h).toLoadRect (harg3.unread x0)) (View.readAt (Elt F) arg4.view (rQ n h).toLoadRect (harg4.unread x1)))) (View.readAt (Elt F) arg7.view (rM n h).toLoadRect (harg7.unread xs0)) (View.readAt (Elt F) arg8.view (rM n h).toLoadRect (harg8.unread xs1))) shapeCasts_S512x1_S1x512x1) [] := rfl

theorem runD_acc (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond0_0 i) (hc1 : ¬cond0_1 i) (hc2 : cond0_2 i) (hc3 : cond0_3 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x128 .f32) :
    (kernelRun0_D c i arg3 harg3 arg4 harg4 arg5 harg5 arg6 harg6 arg7 harg7 arg8 harg8 arg9 harg9 hc0 hc1 hc2 hc3 x0 x1 x2 xs0 xs1 xs2).2.2.2.1 =
      tilesA (fun n h => shapeCast S1x512x128 (newAcc (masked (BitVec.ofNat 32 (i 1).val) (BitVec.ofNat 32 (i 2).val) (scores (View.readAt (Elt F) arg3.view (rQ n h).toLoadRect (harg3.unread x0)) (View.readAt (Elt F) arg4.view (rQ n h).toLoadRect (harg4.unread x1)))) (View.readAt (Elt F) arg7.view (rM n h).toLoadRect (harg7.unread xs0)) (View.readAt (Elt F) arg9.view (rA n h).toLoadRect (harg9.unread xs2)) (View.readAt (Elt F) arg5.view (rV n h).toLoadRect (harg5.unread x2))) shapeCasts_S512x128_S1x512x128) [] := rfl

theorem runD_out (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond0_0 i) (hc1 : ¬cond0_1 i) (hc2 : cond0_2 i) (hc3 : cond0_3 i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x128 .f32) :
    (kernelRun0_D c i arg3 harg3 arg4 harg4 arg5 harg5 arg6 harg6 arg7 harg7 arg8 harg8 arg9 harg9 hc0 hc1 hc2 hc3 x0 x1 x2 xs0 xs1 xs2).1 =
      tilesO (fun n h => shapeCast S1x512x64 (extractStridedSlice S512x64 ![0, 64 * (n % 2)] (divf (shapeCast S512x128 (arg9.view.readCov (kernelRun0_D c i arg3 harg3 arg4 harg4 arg5 harg5 arg6 harg6 arg7 harg7 arg8 harg8 arg9 harg9 hc0 hc1 hc2 hc3 x0 x1 x2 xs0 xs1 xs2).2.2.2.1 (rA n h).toLoadRect) shapeCasts_S1x512x128_S512x128)
        (broadcastTo S512x128 (shapeCast S512x1 (arg8.view.readCov (kernelRun0_D c i arg3 harg3 arg4 harg4 arg5 harg5 arg6 harg6 arg7 harg7 arg8 harg8 arg9 harg9 hc0 hc1 hc2 hc3 x0 x1 x2 xs0 xs1 xs2).2.2.1 (rM n h).toLoadRect) shapeCasts_S1x512x1_S512x1) broadcasts_S512x1_S512x128)) (sliceO n h)) shapeCasts_S512x64_S1x512x64) [] := rfl

end Cert.Kernel4Ideal.Mla

end
-- ==== Proof.MlaUpdD.lean ====
/-
  Case D: what one head of one row is made into.
-/
module

public import proofs.«01_k».proof.Proof.MlaTiles
public import proofs.«01_k».proof.Proof.MlaAt
public import Idealize.ShloMosaic.Lib.WholeRead
public import proofs.«01_k».proof.Proof.MlaElem
public import proofs.«01_k».proof.Proof.MlaPiecesD

@[expose] public section

set_option maxRecDepth 16384

noncomputable section

namespace Cert.Kernel4Ideal.Mla

open Cert.Kernel4Ideal.Gen Cert.Kernel4Ideal.Facts
open Idealize.ShloMosaic Idealize.ShloMosaic.TcCoe

variable (m : (ℓ : Loc nD τ sig) → Buf (Elt Ideal) ℓ)

theorem stD_max (c : Dev nD) (t : Fin cfg0.N) (h0 : ¬t.val % 16 = 0) (h1 : ¬t.val % 16 + 1 ≤ t.val / 16 % 16) (h2 : t.val / 16 % 16 = t.val % 16) (s : St Ideal) (n : Fin 8) (r : Fin 512) :
    (stD m c t h0 h1 h2 s).1 (ix3 n r 0) = newMax (masked (BitVec.ofNat 32 (grid0.coords t 1).val) (BitVec.ofNat 32 (grid0.coords t 2).val) (scv m c t n)) (View.readAt (Elt Ideal) scM0_0.view (rM n.val n.isLt).toLoadRect ((Memref.isWhole_whole _ : scM0_0.IsWhole).unread s.1)) (ix2 r 0) := by
  have e : (stD m c t h0 h1 h2 s).1 = View.canon (Val := Elt Ideal) (runD m c t h0 h1 h2 s).2.1 := by
    unfold stD; dsimp only; rw [View.read_writes_junk_eq_canon]
  rw [e]
  rw [runD_max, canon_tilesM]
  exact cast_col _ r

theorem stD_sum (c : Dev nD) (t : Fin cfg0.N) (h0 : ¬t.val % 16 = 0) (h1 : ¬t.val % 16 + 1 ≤ t.val / 16 % 16) (h2 : t.val / 16 % 16 = t.val % 16) (s : St Ideal) (n : Fin 8) (r : Fin 512) :
    (stD m c t h0 h1 h2 s).2.1 (ix3 n r 0) = newSum (masked (BitVec.ofNat 32 (grid0.coords t 1).val) (BitVec.ofNat 32 (grid0.coords t 2).val) (scv m c t n)) (View.readAt (Elt Ideal) scM0_0.view (rM n.val n.isLt).toLoadRect ((Memref.isWhole_whole _ : scM0_0.IsWhole).unread s.1)) (View.readAt (Elt Ideal) scM0_1.view (rM n.val n.isLt).toLoadRect ((Memref.isWhole_whole _ : scM0_1.IsWhole).unread s.2.1)) (ix2 r 0) := by
  have e : (stD m c t h0 h1 h2 s).2.1 = View.canon (Val := Elt Ideal) (runD m c t h0 h1 h2 s).2.2.1 := by
    unfold stD; dsimp only; rw [View.read_writes_junk_eq_canon]
  rw [e]
  rw [runD_sum, canon_tilesM]
  exact cast_col _ r

theorem stD_acc (c : Dev nD) (t : Fin cfg0.N) (h0 : ¬t.val % 16 = 0) (h1 : ¬t.val % 16 + 1 ≤ t.val / 16 % 16) (h2 : t.val / 16 % 16 = t.val % 16) (s : St Ideal) (n : Fin 8) (r : Fin 512) (d : Fin 128) :
    (stD m c t h0 h1 h2 s).2.2 (ix3 n r d) = newAcc (masked (BitVec.ofNat 32 (grid0.coords t 1).val) (BitVec.ofNat 32 (grid0.coords t 2).val) (scv m c t n)) (View.readAt (Elt Ideal) scM0_0.view (rM n.val n.isLt).toLoadRect ((Memref.isWhole_whole _ : scM0_0.IsWhole).unread s.1)) (View.readAt (Elt Ideal) scM0_2.view (rA n.val n.isLt).toLoadRect ((Memref.isWhole_whole _ : scM0_2.IsWhole).unread s.2.2)) (vlv m c t n) (ix2 r d) := by
  have e : (stD m c t h0 h1 h2 s).2.2 = View.canon (Val := Elt Ideal) (runD m c t h0 h1 h2 s).2.2.2.1 := by
    unfold stD; dsimp only; rw [View.read_writes_junk_eq_canon]
  rw [e]
  rw [runD_acc, canon_tilesA]
  exact cast_acc _ r d

theorem stD_upd (c : Dev nD) (t : Fin cfg0.N) (h0 : ¬t.val % 16 = 0) (h1 : ¬t.val % 16 + 1 ≤ t.val / 16 % 16) (h2 : t.val / 16 % 16 = t.val % 16) (s : St Ideal) (n : Fin 8) (r : Fin 512) :
    Upd (s.1 (ix3 n r 0)) (s.2.1 (ix3 n r 0)) (fun d => s.2.2 (ix3 n r d)) (fun x => if x.val ≤ r.val then scoreE m c t n r x else ⊥) (valE m c t n)
      ((stD m c t h0 h1 h2 s).1 (ix3 n r 0)) ((stD m c t h0 h1 h2 s).2.1 (ix3 n r 0)) (fun d => (stD m c t h0 h1 h2 s).2.2 (ix3 n r d)) := by
  have h := upd_at (masked (BitVec.ofNat 32 (grid0.coords t 1).val) (BitVec.ofNat 32 (grid0.coords t 2).val) (scv m c t n)) (View.readAt (Elt Ideal) scM0_0.view (rM n.val n.isLt).toLoadRect ((Memref.isWhole_whole _ : scM0_0.IsWhole).unread s.1)) (View.readAt (Elt Ideal) scM0_1.view (rM n.val n.isLt).toLoadRect ((Memref.isWhole_whole _ : scM0_1.IsWhole).unread s.2.1)) (View.readAt (Elt Ideal) scM0_2.view (rA n.val n.isLt).toLoadRect ((Memref.isWhole_whole _ : scM0_2.IsWhole).unread s.2.2)) (vlv m c t n) r
  have es : (fun x => (masked (BitVec.ofNat 32 (grid0.coords t 1).val) (BitVec.ofNat 32 (grid0.coords t 2).val) (scv m c t n)) (ix2 r x)) = (fun x => if x.val ≤ r.val then scoreE m c t n r x else ⊥) := funext fun x => (mscv_at c t h2 _ r x).trans (by rw [scv_at])
  have em : (View.readAt (Elt Ideal) scM0_0.view (rM n.val n.isLt).toLoadRect ((Memref.isWhole_whole _ : scM0_0.IsWhole).unread s.1)) (ix3 0 r 0) = (s.1 (ix3 n r 0)) := by rw [Memref.IsWhole.readAt_unread, idx_rM]
  have el : (View.readAt (Elt Ideal) scM0_1.view (rM n.val n.isLt).toLoadRect ((Memref.isWhole_whole _ : scM0_1.IsWhole).unread s.2.1)) (ix3 0 r 0) = (s.2.1 (ix3 n r 0)) := by rw [Memref.IsWhole.readAt_unread, idx_rM]
  have ea : (fun d => (View.readAt (Elt Ideal) scM0_2.view (rA n.val n.isLt).toLoadRect ((Memref.isWhole_whole _ : scM0_2.IsWhole).unread s.2.2)) (ix3 0 r d)) = (fun d => s.2.2 (ix3 n r d)) := funext fun d => by rw [Memref.IsWhole.readAt_unread, idx_rA]
  have ev : (fun x d => vlv m c t n (ix3 0 x d)) = valE m c t n := funext fun x => funext fun d => vlv_at m c t n x d
  rw [es, em, el, ea, ev] at h
  rw [stD_max, stD_sum, funext fun d => stD_acc m c t h0 h1 h2 s n r d]
  exact h

theorem outD_at (c : Dev nD) (t : Fin cfg0.N) (h0 : ¬t.val % 16 = 0) (h1 : ¬t.val % 16 + 1 ≤ t.val / 16 % 16) (h2 : t.val / 16 % 16 = t.val % 16) (s : St Ideal) (n : Fin 8) (r : Fin 512) (d : Fin 64) :
    outD m c t h0 h1 h2 s (ix3 0 r (outLane n d)) =
      Ideal.div ((stD m c t h0 h1 h2 s).2.2 (ix3 n r ⟨64 * (n.val % 2) + d.val, by have := n.isLt; have := d.isLt; omega⟩)) ((stD m c t h0 h1 h2 s).2.1 (ix3 n r 0)) := by
  have e : outD m c t h0 h1 h2 s = View.canon (Val := Elt Ideal) (runD m c t h0 h1 h2 s).1 := by
    unfold outD; rw [View.read_writes_junk_eq_canon]
  have e1 : (stD m c t h0 h1 h2 s).2.1 = View.canon (Val := Elt Ideal) (runD m c t h0 h1 h2 s).2.2.1 := by
    unfold stD; dsimp only; rw [View.read_writes_junk_eq_canon]
  have e2 : (stD m c t h0 h1 h2 s).2.2 = View.canon (Val := Elt Ideal) (runD m c t h0 h1 h2 s).2.2.2.1 := by
    unfold stD; dsimp only; rw [View.read_writes_junk_eq_canon]
  rw [e, runD_out, canon_tilesO]
  refine (out_at _ _ n r d).trans ?_
  rw [readCov_rA, readCov_rM]
  exact congrArg₂ Ideal.div (congrFun e2.symm _) (congrFun e1.symm _)

end Cert.Kernel4Ideal.Mla

end
-- ==== Proof.MlaPiecesE.lean ====
/-
  The MLA flash body at a point of case E: what it stores, head by head.
-/
module

public import proofs.«01_k».proof.Proof.MlaRects
public import proofs.«01_k».proof.Proof.MlaRunE

@[expose] public section

set_option maxRecDepth 65536

noncomputable section

namespace Cert.Kernel4Ideal.Mla

open Cert.Kernel4Ideal.Gen Cert.Kernel4Ideal.Facts
open Idealize.ShloMosaic Idealize.ShloMosaic.TcCoe

variable {F : FTy → Type} [FloatOps F] [Named F]

theorem runE_max (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond0_0 i) (hc1 : cond0_1 i) (hc2 : ¬cond0_2 i) (hc3 : ¬cond0_3 i)
    (x0 : Vec F S1x512x1024 .bf16) (x1 : Vec F S1x512x1024 .bf16) (x2 : Vec F S1x512x512 .bf16) (x5 : Vec F S1x512x512 .f32) (xs0 : Vec F S8x512x1 .f32) (xs1 : Vec F S8x512x1 .f32) (xs2 : Vec F S8x512x128 .f32) :
    (kernelRun0_E c i arg3 harg3 arg4 harg4 arg5 harg5 arg6 harg6 arg7 harg7 arg8 harg8 arg9 harg9 hc0 hc1 hc2 hc3 x0 x1 x2 x5 xs0 xs1 xs2).1 =
      tilesM (fun n h => shapeCast S1x512x1 (newMax (scores (View.readAt (Elt F) arg3.view (rQ n h).toLoadRect (harg3.unread x0)) (View.readAt (Elt F) arg4.view (rQ n h).toLoadRect (harg4.unread x1))) (View.readAt (Elt F) arg7.view (rM n h).toLoadRect (harg7.unread xs0))) shapeCasts_S512x1_S1x512x1) [] := rfl

theorem runE_sum (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond0_0 i) (hc1 : cond0_1 i) (hc2 : ¬cond0_2 i) (hc3 : ¬cond0_3 i)
    (x0 : Vec F S1x512x1024 .bf16) (x1 : Vec F S1x512x1024 .bf16) (x2 : Vec F S1x512x512 .bf16) (x5 : Vec F S1x512x512 .f32) (xs0 : Vec F S8x512x1 .f32) (xs1 : Vec F S8x512x1 .f32) (xs2 : Vec F S8x512x128 .f32) :
    (kernelRun0_E c i arg3 harg3 arg4 harg4 arg5 harg5 arg6 harg6 arg7 harg7 arg8 harg8 arg9 harg9 hc0 hc1 hc2 hc3 x0 x1 x2 x5 xs0 xs1 xs2).2.1 =
      tilesM (fun n h => shapeCast S1x512x1 (newSum (scores (View.readAt (Elt F) arg3.view (rQ n h).toLoadRect (harg3.unread x0)) (View.readAt (Elt F) arg4.view (rQ n h).toLoadRect (harg4.unread x1))) (View.readAt (Elt F) arg7.view (rM n h).toLoadRect (harg7.unread xs0)) (View.readAt (Elt F) arg8.view (rM n h).toLoadRect (harg8.unread xs1))) shapeCasts_S512x1_S1x512x1) [] := rfl

theorem runE_acc (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬cond0_0 i) (hc1 : cond0_1 i) (hc2 : ¬cond0_2 i) (hc3 : ¬cond0_3 i)
    (x0 : Vec F S1x512x1024 .bf16) (x1 : Vec F S1x512x1024 .bf16) (x2 : Vec F S1x512x512 .bf16) (x5 : Vec F S1x512x512 .f32) (xs0 : Vec F S8x512x1 .f32) (xs1 : Vec F S8x512x1 .f32) (xs2 : Vec F S8x512x128 .f32) :
    (kernelRun0_E c i arg3 harg3 arg4 harg4 arg5 harg5 arg6 harg6 arg7 harg7 arg8 harg8 arg9 harg9 hc0 hc1 hc2 hc3 x0 x1 x2 x5 xs0 xs1 xs2).2.2.1 =
      tilesA (fun n h => shapeCast S1x512x128 (newAcc (scores (View.readAt (Elt F) arg3.view (rQ n h).toLoadRect (harg3.unread x0)) (View.readAt (Elt F) arg4.view (rQ n h).toLoadRect (harg4.unread x1))) (View.readAt (Elt F) arg7.view (rM n h).toLoadRect (harg7.unread xs0)) (View.readAt (Elt F) arg9.view (rA n h).toLoadRect (harg9.unread xs2)) (View.readAt (Elt F) arg5.view (rV n h).toLoadRect (harg5.unread x2))) shapeCasts_S512x128_S1x512x128) [] := rfl

end Cert.Kernel4Ideal.Mla

end
-- ==== Proof.MlaUpdE.lean ====
/-
  Case E: what one head of one row is made into.
-/
module

public import proofs.«01_k».proof.Proof.MlaTiles
public import proofs.«01_k».proof.Proof.MlaAt
public import Idealize.ShloMosaic.Lib.WholeRead
public import proofs.«01_k».proof.Proof.MlaElem
public import proofs.«01_k».proof.Proof.MlaPiecesE

@[expose] public section

set_option maxRecDepth 16384

noncomputable section

namespace Cert.Kernel4Ideal.Mla

open Cert.Kernel4Ideal.Gen Cert.Kernel4Ideal.Facts
open Idealize.ShloMosaic Idealize.ShloMosaic.TcCoe

variable (m : (ℓ : Loc nD τ sig) → Buf (Elt Ideal) ℓ)

theorem stE_max (c : Dev nD) (t : Fin cfg0.N) (h0 : ¬t.val % 16 = 0) (h1 : t.val % 16 + 1 ≤ t.val / 16 % 16) (h2 : ¬t.val / 16 % 16 = t.val % 16) (s : St Ideal) (n : Fin 8) (r : Fin 512) :
    (stE m c t h0 h1 h2 s).1 (ix3 n r 0) = newMax (scv m c t n) (View.readAt (Elt Ideal) scM0_0.view (rM n.val n.isLt).toLoadRect ((Memref.isWhole_whole _ : scM0_0.IsWhole).unread s.1)) (ix2 r 0) := by
  have e : (stE m c t h0 h1 h2 s).1 = View.canon (Val := Elt Ideal) (runE m c t h0 h1 h2 (Pipeline.Dat.unnamed (cfg := cfg0) 3 t) s).1 := by
    unfold stE; dsimp only; rw [View.read_writes_junk_eq_canon]
  rw [e]
  rw [runE_max, canon_tilesM]
  exact cast_col _ r

theorem stE_sum (c : Dev nD) (t : Fin cfg0.N) (h0 : ¬t.val % 16 = 0) (h1 : t.val % 16 + 1 ≤ t.val / 16 % 16) (h2 : ¬t.val / 16 % 16 = t.val % 16) (s : St Ideal) (n : Fin 8) (r : Fin 512) :
    (stE m c t h0 h1 h2 s).2.1 (ix3 n r 0) = newSum (scv m c t n) (View.readAt (Elt Ideal) scM0_0.view (rM n.val n.isLt).toLoadRect ((Memref.isWhole_whole _ : scM0_0.IsWhole).unread s.1)) (View.readAt (Elt Ideal) scM0_1.view (rM n.val n.isLt).toLoadRect ((Memref.isWhole_whole _ : scM0_1.IsWhole).unread s.2.1)) (ix2 r 0) := by
  have e : (stE m c t h0 h1 h2 s).2.1 = View.canon (Val := Elt Ideal) (runE m c t h0 h1 h2 (Pipeline.Dat.unnamed (cfg := cfg0) 3 t) s).2.1 := by
    unfold stE; dsimp only; rw [View.read_writes_junk_eq_canon]
  rw [e]
  rw [runE_sum, canon_tilesM]
  exact cast_col _ r

theorem stE_acc (c : Dev nD) (t : Fin cfg0.N) (h0 : ¬t.val % 16 = 0) (h1 : t.val % 16 + 1 ≤ t.val / 16 % 16) (h2 : ¬t.val / 16 % 16 = t.val % 16) (s : St Ideal) (n : Fin 8) (r : Fin 512) (d : Fin 128) :
    (stE m c t h0 h1 h2 s).2.2 (ix3 n r d) = newAcc (scv m c t n) (View.readAt (Elt Ideal) scM0_0.view (rM n.val n.isLt).toLoadRect ((Memref.isWhole_whole _ : scM0_0.IsWhole).unread s.1)) (View.readAt (Elt Ideal) scM0_2.view (rA n.val n.isLt).toLoadRect ((Memref.isWhole_whole _ : scM0_2.IsWhole).unread s.2.2)) (vlv m c t n) (ix2 r d) := by
  have e : (stE m c t h0 h1 h2 s).2.2 = View.canon (Val := Elt Ideal) (runE m c t h0 h1 h2 (Pipeline.Dat.unnamed (cfg := cfg0) 3 t) s).2.2.1 := by
    unfold stE; dsimp only; rw [View.read_writes_junk_eq_canon]
  rw [e]
  rw [runE_acc, canon_tilesA]
  exact cast_acc _ r d

theorem stE_upd (c : Dev nD) (t : Fin cfg0.N) (h0 : ¬t.val % 16 = 0) (h1 : t.val % 16 + 1 ≤ t.val / 16 % 16) (h2 : ¬t.val / 16 % 16 = t.val % 16) (s : St Ideal) (n : Fin 8) (r : Fin 512) :
    Upd (s.1 (ix3 n r 0)) (s.2.1 (ix3 n r 0)) (fun d => s.2.2 (ix3 n r d)) (fun x => scoreE m c t n r x) (valE m c t n)
      ((stE m c t h0 h1 h2 s).1 (ix3 n r 0)) ((stE m c t h0 h1 h2 s).2.1 (ix3 n r 0)) (fun d => (stE m c t h0 h1 h2 s).2.2 (ix3 n r d)) := by
  have h := upd_at (scv m c t n) (View.readAt (Elt Ideal) scM0_0.view (rM n.val n.isLt).toLoadRect ((Memref.isWhole_whole _ : scM0_0.IsWhole).unread s.1)) (View.readAt (Elt Ideal) scM0_1.view (rM n.val n.isLt).toLoadRect ((Memref.isWhole_whole _ : scM0_1.IsWhole).unread s.2.1)) (View.readAt (Elt Ideal) scM0_2.view (rA n.val n.isLt).toLoadRect ((Memref.isWhole_whole _ : scM0_2.IsWhole).unread s.2.2)) (vlv m c t n) r
  have es : (fun x => (scv m c t n) (ix2 r x)) = (fun x => scoreE m c t n r x) := funext fun x => scv_at m c t n r x
  have em : (View.readAt (Elt Ideal) scM0_0.view (rM n.val n.isLt).toLoadRect ((Memref.isWhole_whole _ : scM0_0.IsWhole).unread s.1)) (ix3 0 r 0) = (s.1 (ix3 n r 0)) := by rw [Memref.IsWhole.readAt_unread, idx_rM]
  have el : (View.readAt (Elt Ideal) scM0_1.view (rM n.val n.isLt).toLoadRect ((Memref.isWhole_whole _ : scM0_1.IsWhole).unread s.2.1)) (ix3 0 r 0) = (s.2.1 (ix3 n r 0)) := by rw [Memref.IsWhole.readAt_unread, idx_rM]
  have ea : (fun d => (View.readAt (Elt Ideal) scM0_2.view (rA n.val n.isLt).toLoadRect ((Memref.isWhole_whole _ : scM0_2.IsWhole).unread s.2.2)) (ix3 0 r d)) = (fun d => s.2.2 (ix3 n r d)) := funext fun d => by rw [Memref.IsWhole.readAt_unread, idx_rA]
  have ev : (fun x d => vlv m c t n (ix3 0 x d)) = valE m c t n := funext fun x => funext fun d => vlv_at m c t n x d
  rw [es, em, el, ea, ev] at h
  rw [stE_max, stE_sum, funext fun d => stE_acc m c t h0 h1 h2 s n r d]
  exact h

end Cert.Kernel4Ideal.Mla

end
-- ==== Proof.MlaInv.lean ====
/-
  The running softmax across the points of a row of the grid, and what the row's diagonal point leaves in the output block.
-/
module

public import proofs.«01_k».proof.Proof.MlaUpdA
public import proofs.«01_k».proof.Proof.MlaUpdC
public import proofs.«01_k».proof.Proof.MlaUpdD
public import proofs.«01_k».proof.Proof.MlaUpdE

@[expose] public section

set_option maxRecDepth 16384

noncomputable section

namespace Cert.Kernel4Ideal.Mla

open Cert.Kernel4Ideal.Gen Cert.Kernel4Ideal.Facts
open Idealize.ShloMosaic Idealize.ShloMosaic.TcCoe
open Cert.Attn (Kept soft)

theorem Upd.kept {mp lp : EReal} {ap : Fin 128 → EReal} {sb : Fin 512 → EReal} {vb : Fin 512 → Fin 128 → EReal} {M L : EReal} {A : Fin 128 → EReal}
    (hu : Upd mp lp ap sb vb M L A) {n : ℕ} {s : ℕ → ℝ} {v : ℕ → Fin 128 → ℝ} (h : Kept n s v mp lp ap) (w : ℕ) (hw : w ≤ 512) (hw0 : 0 < w)
    (hs : ∀ x : Fin 512, sb x = if x.val < w then ((s (n + x.val) : ℝ) : EReal) else ⊥)
    (hv : ∀ x d, vb x d = ((v (n + x.val) d : ℝ) : EReal)) : Kept (n + w) s v M L A :=
  h.step 512 w hw hw0 sb vb hs hv hu.1 hu.2.1 hu.2.2

theorem kept_zero (s : ℕ → ℝ) (v : ℕ → Fin 128 → ℝ) : Kept 0 s v ⊥ 0 (fun _ => 0) := Or.inl ⟨rfl, rfl, rfl, fun _ => rfl⟩

variable (m : (ℓ : Loc nD τ sig) → Buf (Elt Ideal) ℓ) (c : Dev nD)
  (s : ℕ → ℕ → ℕ → ℕ → ℝ) (v : ℕ → ℕ → ℕ → Fin 128 → ℝ)

/-- The scores and values of every point up to the diagonal are these reals, by batch, row, head and key. -/
def Reals : Prop := ∀ t : Fin cfg0.N, t.val % 16 ≤ t.val / 16 % 16 →
  (∀ (n : Fin 8) (r x : Fin 512), scoreE m c t n r x = ((s (t.val / 256) (512 * (t.val / 16 % 16) + r.val) n.val (512 * (t.val % 16) + x.val) : ℝ) : EReal)) ∧
  ∀ (n : Fin 8) (x : Fin 512) (d : Fin 128), valE m c t n x d = ((v (t.val / 256) n.val (512 * (t.val % 16) + x.val) d : ℝ) : EReal)

/-- How many keys row `r` has seen after point `t`. -/
def seen (t : ℕ) (r : Fin 512) : ℕ := if t % 16 = t / 16 % 16 then 512 * (t % 16) + (r.val + 1) else 512 * (t % 16) + 512

variable {m c s v}

theorem kept_at (hR : Reals m c s v) : ∀ (k : ℕ) (hk : k < cfg0.N), k % 16 ≤ k / 16 % 16 → ∀ (n : Fin 8) (r : Fin 512),
    Kept (seen k r) (s (k / 256) (512 * (k / 16 % 16) + r.val) n.val) (v (k / 256) n.val)
      ((stAt m c k hk).1 (ix3 n r 0)) ((stAt m c k hk).2.1 (ix3 n r 0)) (fun d => (stAt m c k hk).2.2 (ix3 n r d)) := by
  intro k
  induction k using Nat.strong_induction_on with
  | _ k ih =>
  intro hk hle n r
  obtain ⟨hS, hV⟩ := hR ⟨k, hk⟩ hle
  have hr := r.isLt
  by_cases h0 : k % 16 = 0
  · by_cases h1 : k % 16 + 1 ≤ k / 16 % 16
    · have h2 : ¬ k / 16 % 16 = k % 16 := by omega
      rw [stAt_C m c ⟨k, hk⟩ h0 h1 h2]
      have := (stC_upd m c ⟨k, hk⟩ h0 h1 h2 n r).kept (kept_zero (s (k / 256) (512 * (k / 16 % 16) + r.val) n.val) (v (k / 256) n.val)) 512 le_rfl (by decide)
        (fun x => by rw [if_pos x.isLt, hS]; simp only [h0, Nat.mul_zero])
        (fun x d => by rw [hV]; simp only [h0, Nat.mul_zero])
      have e : seen k r = 0 + 512 := by unfold seen; rw [if_neg (by omega), h0]
      rw [e]; exact this
    · have h2 : k / 16 % 16 = k % 16 := by omega
      rw [stAt_A m c ⟨k, hk⟩ h0 h1 h2]
      have := (stA_upd m c ⟨k, hk⟩ h0 h1 h2 n r).kept (kept_zero (s (k / 256) (512 * (k / 16 % 16) + r.val) n.val) (v (k / 256) n.val)) (r.val + 1) (by omega) (by omega)
        (fun x => by
          simp only [Nat.lt_succ_iff]
          split
          · rw [hS]; simp only [h0, Nat.mul_zero]
          · rfl)
        (fun x d => by rw [hV]; simp only [h0, Nat.mul_zero])
      have e : seen k r = 0 + (r.val + 1) := by unfold seen; rw [if_pos h2.symm, h0]
      rw [e]; exact this
  · have hq : (k - 1) / 16 = k / 16 := by omega
    have hq' : (k - 1) / 256 = k / 256 := by omega
    have hm : 512 * ((k - 1) % 16) + 512 = 512 * (k % 16) := by omega
    have hp := ih (k - 1) (by omega) (by omega) (by omega) n r
    have e0 : seen (k - 1) r = 512 * (k % 16) := by unfold seen; rw [if_neg (by omega), hm]
    rw [e0, hq, hq'] at hp
    by_cases h1 : k % 16 + 1 ≤ k / 16 % 16
    · have h2 : ¬ k / 16 % 16 = k % 16 := by omega
      rw [stAt_E m c ⟨k, hk⟩ h0 h1 h2]
      have := (stE_upd m c ⟨k, hk⟩ h0 h1 h2 _ n r).kept hp 512 le_rfl (by decide)
        (fun x => by rw [if_pos x.isLt, hS])
        (fun x d => by rw [hV])
      have e : seen k r = 512 * (k % 16) + 512 := by unfold seen; rw [if_neg (by omega)]
      rw [e]; exact this
    · have h2 : k / 16 % 16 = k % 16 := by omega
      rw [stAt_D m c ⟨k, hk⟩ h0 h1 h2]
      have := (stD_upd m c ⟨k, hk⟩ h0 h1 h2 _ n r).kept hp (r.val + 1) (by omega) (by omega)
        (fun x => by
          simp only [Nat.lt_succ_iff]
          split
          · rw [hS]
          · rfl)
        (fun x d => by rw [hV])
      have e : seen k r = 512 * (k % 16) + (r.val + 1) := by unfold seen; rw [if_pos h2.symm]
      rw [e]; exact this

/-- The output block of a diagonal point: each row's softmax average over the keys up to the row. -/
theorem outBlk_at (hR : Reals m c s v) (t : Fin cfg0.N) (h2 : t.val / 16 % 16 = t.val % 16) (n : Fin 8) (r : Fin 512) (d : Fin 64) :
    outBlk m c t (ix3 0 r (outLane n d)) =
      ((soft (512 * (t.val / 16 % 16) + r.val + 1) (s (t.val / 256) (512 * (t.val / 16 % 16) + r.val) n.val)
        (fun k => v (t.val / 256) n.val k ⟨64 * (n.val % 2) + d.val, by have := n.isLt; have := d.isLt; omega⟩) : ℝ) : EReal) := by
  have hk := kept_at hR t.val t.isLt (by omega) n r
  have e : seen t.val r = 512 * (t.val / 16 % 16) + r.val + 1 := by unfold seen; rw [if_pos h2.symm]; omega
  rw [e] at hk
  unfold outBlk
  rw [dif_pos h2]
  by_cases h0 : t.val % 16 = 0
  · rw [dif_pos h0]
    refine (outA_at m c t h0 (by omega) h2 n r d).trans ?_
    rw [stAt_A m c t h0 (by omega) h2] at hk
    exact hk.div (Nat.succ_pos _) _
  · rw [dif_neg h0]
    refine (outD_at m c t h0 (by omega) h2 _ n r d).trans ?_
    rw [stAt_D m c t h0 (by omega) h2] at hk
    exact hk.div (Nat.succ_pos _) _

end Cert.Kernel4Ideal.Mla

end
-- ==== Proof.MlaReals.lean ====
/-
  The launch's scores and values are the reals of the arguments.
-/
module

public import proofs.«01_k».proof.Proof.MlaBlocks
public import proofs.«01_k».proof.Proof.MlaInv

@[expose] public section

set_option maxRecDepth 16384

noncomputable section

namespace Cert.Kernel4Ideal.Mla

open Cert.Kernel4Ideal.Gen Cert.Kernel4Ideal.Facts
open Idealize.ShloMosaic Idealize.ShloMosaic.TcCoe

/-- The padded lanes contribute nothing. -/
theorem sum_pad (f : ℕ → ℝ) : (∑ d : Fin 128, if d.val < 96 then f d.val else 0) = ∑ e : Fin 96, f e.val := by
  rw [show (∑ d : Fin 128, if d.val < 96 then f d.val else 0) = ∑ d : Fin (96 + 32), if d.val < 96 then f d.val else 0 from rfl, Fin.sum_univ_add]
  simp

variable (m : (ℓ : Loc nD τ sig) → Buf (Elt Ideal) ℓ) (c : Dev nD)

/-- The score of the launch's queries and keys. -/
abbrev scR (b r h k : ℕ) : ℝ := Attn.Mla.score (argQ m c) (argK m c) b r h k
/-- The launch's values, a head's pair of heads side by side. -/
abbrev vlR (b n k : ℕ) (d : Fin 128) : ℝ := Attn.Fox.qR (argV m c) b k (2 * (n / 2) + d.val / 64) (d.val % 64)

variable (hq : Attn.Fox.Real (argQ m c)) (hk : Attn.Fox.Real (argK m c)) (hv : Attn.Fox.Real (argV m c))
variable (t : Fin cfg0.N) (ht : t.val % 16 ≤ t.val / 16 % 16) (b : Fin 4) (hb : b.val = t.val / 256) (R K : Fin 8192) (r x : Fin 512)

include hb ht

include hq in
theorem bq_real (hR : R.val = 512 * (t.val / 16 % 16) + r.val) (n : Fin 8) (d : Fin 128) (l : Fin 1024) (hl : l.val = 128 * n.val + d.val) :
    bq m c t (ix3 0 r l) = (((if d.val < 96 then Attn.Mla.wR (argQ m c) b R n d.val / Real.sqrt 96 else 0 : ℝ)) : EReal) := by
  rw [bq_at m c t b hb R r hR, V5_at m c b R n d l hl]
  split
  · rw [Attn.Mla.w_eq hq, Attn.Mla.div_root]
  · rfl

include hk in
theorem bk_real (hK : K.val = 512 * (t.val % 16) + x.val) (n : Fin 8) (d : Fin 128) (l : Fin 1024) (hl : l.val = 128 * n.val + d.val) :
    bk m c t (ix3 0 x l) = (((if d.val < 96 then Attn.Mla.wR (argK m c) b K n d.val else 0 : ℝ)) : EReal) := by
  rw [bk_at m c t b hb K x ht hK, V8_at m c b K n d l hl]
  split
  · rw [Attn.Mla.w_eq hk]
  · rfl

include hv in
theorem valE_real (hK : K.val = 512 * (t.val % 16) + x.val) (n : Fin 8) (d : Fin 128) :
    valE m c t n x d = ((vlR m c b n K d : ℝ) : EReal) := by
  unfold valE
  rw [bv_at m c t b hb K x ht hK, V10_at, Attn.Fox.q_eq hv]
  have e1 : (128 * (n.val / 2) + d.val) / 64 = 2 * (n.val / 2) + d.val / 64 := by omega
  have e2 : (128 * (n.val / 2) + d.val) % 64 = d.val % 64 := by omega
  simp only [e1, e2]

include hq hk in
theorem score_real (hR : R.val = 512 * (t.val / 16 % 16) + r.val) (hK : K.val = 512 * (t.val % 16) + x.val) (n : Fin 8) :
    scoreE m c t n r x = ((scR m c b R n K : ℝ) : EReal) := by
  unfold scoreE
  refine (Finset.sum_congr rfl fun d _ => congrArg₂ (fun a b : EReal => a * b)
    (bq_real m c hq t ht b hb R r hR n d _ rfl) (bk_real m c hk t ht b hb K x hK n d _ rfl)).trans ?_
  simp only [← EReal.coe_mul, Attn.coe_sum]
  refine congrArg (fun x : ℝ => (x : EReal)) ?_
  unfold scR Attn.Mla.score
  rw [Finset.sum_div]
  refine Eq.trans (Finset.sum_congr rfl fun d _ => ?_) (sum_pad (fun e => Attn.Mla.wR (argK m c) b K n e * Attn.Mla.wR (argQ m c) b R n e / Real.sqrt 96))
  split
  · ring
  · ring

omit hb ht in
include hq hk hv in
/-- The launch's scores and values. -/
theorem reals : Reals m c (scR m c) (vlR m c) := by
  intro t ht
  have hN : t.val < 1024 := t.isLt.trans_eq N_0
  refine ⟨fun n r x => ?_, fun n x d => ?_⟩
  · exact score_real m c hq hk t ht ⟨t.val / 256, by omega⟩ rfl ⟨512 * (t.val / 16 % 16) + r.val, by omega⟩ ⟨512 * (t.val % 16) + x.val, by omega⟩ r x rfl rfl n
  · exact valE_real m c hv t ht ⟨t.val / 256, by omega⟩ rfl ⟨512 * (t.val % 16) + x.val, by omega⟩ x rfl n d

end Cert.Kernel4Ideal.Mla

end
-- ==== Proof.MlaFrame.lean ====
/-
  The MLA flash kernel's proof data with the output named, its body's triple at every point, and its launch.
-/
module

public import proofs.«01_k».proof.Proof.MlaState
public import Idealize.ShloMosaic.Lib.Claim

@[expose] public section

set_option maxRecDepth 16384

noncomputable section

namespace Cert.Kernel4Ideal.Mla

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The invariant between points: before the first, every scratch buffer at anything; afterwards at what the point before left. -/
def PhiS (c : Dev nD) : (n : ℕ) → n ≤ cfg0.N → sProp 𝕄
  | 0, _ => Pipeline.ΦA spec0 c
  | n + 1, hn => iprop(iprop(owns (c : Thread nD τ) scM0_0 fullShare ((stAt m c n hn).1) ∗ owns (c : Thread nD τ) scM0_1 fullShare ((stAt m c n hn).2.1) ∗ owns (c : Thread nD τ) scM0_2 fullShare ((stAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((stAt m c n hn).1) ∗ owns (c : Thread nD τ) scM0_1 fullShare ((stAt m c n hn).2.1) ∗ owns (c : Thread nD τ) scM0_2 fullShare ((stAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((stAt m c (n - 1) (by omega)).1) ∗ owns (c : Thread nD τ) scM0_1 fullShare ((stAt m c (n - 1) (by omega)).2.1) ∗ owns (c : Thread nD τ) scM0_2 fullShare ((stAt m c (n - 1) (by omega)).2.2)) ∗ (∃ r, prngReg c r)) := by
  cases n with
  | zero => exact absurd rfl hz
  | succ n => rfl

/-- The proof data: each input's buffer at its block; the output's, at every point of a row, at what the row's point on the
    diagonal leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c (diag t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]

theorem after0_3 (c : Dev nD) (t : Fin cfg0.N) : (dats m 0 c).after 3 t = outBlk m c (diag t) := by dsimp only [dats]

/-- The output is stored at the points on the diagonal and idle at the others. -/
theorem idle0_3 (t : Fin cfg0.N) : cfg0.idle 3 (grid0.coords t) = false ↔ t.val / 16 % 16 = t.val % 16 := by
  rw [← hcond0_3 t]
  show (!(k0_cond4 (grid0.coords t) == 1#1)) = false ↔ _
  simp [cond0_3]

theorem idle0_3_true (t : Fin cfg0.N) (h : ¬ t.val / 16 % 16 = t.val % 16) : cfg0.idle 3 (grid0.coords t) = true := by
  rw [← Bool.not_eq_false]; exact fun h' => h ((idle0_3 t).mp h')

theorem flush0_3_false (t : Fin cfg0.N) (h : ¬ t.val % 16 = 15) : (cfg0.win 3).flush t = false := by
  rw [← Bool.not_eq_true]; exact fun h' => h ((flush0_3 t).mp h')

/-- Past the diagonal the output's buffer still holds what the diagonal left. -/
theorem before0_3 (c : Dev nD) : ∀ (n : ℕ) (hn : n < cfg0.N) (d), n / 16 % 16 < n % 16 →
    (dats m 0 c).before 3 ⟨n, hn⟩ d = outBlk m c (diag ⟨n, hn⟩)
  | 0, _, _, h => by simp at h
  | n + 1, hn, d, h => by
    have hN : n + 1 < 1024 := lt_of_lt_of_eq hn (show cfg0.N = 1024 from N_0)
    have hq : (n + 1) / 16 = n / 16 := by omega
    have hd : diag ⟨n + 1, hn⟩ = diag ⟨n, Nat.lt_of_succ_lt hn⟩ := Fin.ext (by
      show (n + 1) / 16 * 16 + (n + 1) / 16 % 16 = n / 16 * 16 + n / 16 % 16; rw [hq])
    rw [hq] at h
    have e1 : (⟨(⟨n + 1, hn⟩ : Fin cfg0.N).val - 1, Nat.lt_of_le_of_lt (Nat.sub_le _ _) hn⟩ : Fin cfg0.N) = ⟨n, Nat.lt_of_succ_lt hn⟩ := Fin.ext (by simp)
    rw [(dats m 0 c).before_of_pos 3 ⟨n + 1, hn⟩ (Nat.succ_ne_zero n) rfl, hd, e1,
      flush0_3_false ⟨n, Nat.lt_of_succ_lt hn⟩ (by show ¬ n % 16 = 15; omega), if_neg Bool.false_ne_true]
    unfold Dat.left
    by_cases he : n / 16 % 16 = n % 16
    · rw [(idle0_3 ⟨n, Nat.lt_of_succ_lt hn⟩).mpr he]
      show (dats m 0 c).kept 3 ⟨n, Nat.lt_of_succ_lt hn⟩ d = _
      unfold Dat.kept
      rw [Pipeline.fill_of_clip_none 3 _ (fun _ => rfl) d ((dats m 0 c).after 3 _), Window.fill_cut]
      exact after0_3 m c _
    · rw [idle0_3_true ⟨n, Nat.lt_of_succ_lt hn⟩ he]
      exact before0_3 c n (Nat.lt_of_succ_lt hn) d (by omega)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- At a point on the diagonal the output's buffer is left at the point's own block. -/
theorem leaves0_3_diag (c : Dev nD) (t : Fin cfg0.N) (h2 : t.val / 16 % 16 = t.val % 16) :
    (dats m 0 c).leavesExact 3 t = owns (c : Thread nD τ) (ms0_3 t) fullShare (outBlk m c t) := by
  have hd : diag t = t := Fin.ext (by show t.val / 16 * 16 + t.val / 16 % 16 = t.val; omega)
  unfold Dat.leavesExact; rw [(idle0_3 t).mpr h2, after0_3, hd]

/-- At a point off the diagonal the output's buffer may be left as found. -/
theorem leaves0_3_off (c : Dev nD) (t : Fin cfg0.N) (h2 : ¬ t.val / 16 % 16 = t.val % 16) (d) :
    owns (c : Thread nD τ) (ms0_3 t) fullShare ((dats m 0 c).before 3 t d) ⊢ ((dats m 0 c).leavesExact 3 t : sProp 𝕄) := by
  unfold Dat.leavesExact; rw [idle0_3_true t h2]
  by_cases hf : t.val % 16 = 15
  · rw [(flush0_3 t).mpr hf, after0_3]
    have hN : t.val < 1024 := lt_of_lt_of_eq t.isLt (show cfg0.N = 1024 from N_0)
    rw [before0_3 m c t.val t.isLt d (by omega)]
  · rw [flush0_3_false t hf]
    iintro H; iexists d; iexact H

set_option maxHeartbeats 4000000 in
/-- The body's triple at a point of case A. -/
theorem sound_A (c : Dev nD) (t : Fin cfg0.N) (h0 : t.val % 16 = 0) (h1 : ¬t.val % 16 + 1 ≤ t.val / 16 % 16) (h2 : t.val / 16 % 16 = t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, leaves0_0, leaves0_1, leaves0_2]
  rw [show (dats m 0 c).owesAt () t.succ = (dats m 0 c).owesAt () t.castSucc from rfl]
  rw [show (dats m 0 c).Φ t.succ = PhiS m c (t.val + 1) t.isLt from rfl, PhiS_succ]
  by_cases hz : t.val = 0
  · rw [PhiS_castSucc m c t, PhiS_zero m c _ _ hz, PhiA0_eq, stAt_A m c t h0 h1 h2]
    unfold stA; (try dsimp only)
    rw [leaves0_3_diag m c t h2, show outBlk m c t = outA m c t h0 h1 h2 from (dif_pos h2).trans (dif_pos h0)]
    unfold outA
    iintro ⟨⟨⟨HS0, HS1, HS2⟩, Hg⟩, Ho, ⟨%d0, H0⟩, ⟨%d1, H1⟩, ⟨%d2, H2⟩, ⟨%d5, H5⟩⟩
    iapply ((runA m c t h0 h1 h2 ).2.2.2.2 Set.univ _)
    isplitl [H0]; · iexact H0
    isplitl [H1]; · iexact H1
    isplitl [H2]; · iexact H2
    isplitl [H5]; · iexists _; iexact H5
    isplitl [HS0]; · iexact HS0
    isplitl [HS1]; · iexact HS1
    isplitl [HS2]; · iexact HS2
    iintro ⟨H0, H1, H2, ⟨%e5, H5⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scoverA_0 m c t h0 h1 h2)
        isplitl [HS1]
        · unfold owns; iexists _; isplitr
          swap; · iexact HS1
          ipureintro; exact View.read_writes_of_cover _ _ _ _ _ (scoverA_1 m c t h0 h1 h2)
        unfold owns; iexists _; isplitr
        swap; · iexact HS2
        ipureintro; exact View.read_writes_of_cover _ _ _ _ _ (scoverA_2 m c t h0 h1 h2)
      iexact Hg
    isplitl [Ho]; · iexact Ho
    isplitl [H0]; · iexact H0
    isplitl [H1]; · iexact H1
    isplitl [H2]; · iexact H2
    unfold owns; iexists _; isplitr
    swap; · iexact H5
    ipureintro; exact View.read_writes_of_cover _ _ _ _ _ (ocoverA m c t h0 h1 h2)
  · rw [PhiS_castSucc m c t, PhiS_pos m c _ _ hz, stAt_A m c t h0 h1 h2]
    unfold stA; (try dsimp only)
    rw [leaves0_3_diag m c t h2, show outBlk m c t = outA m c t h0 h1 h2 from (dif_pos h2).trans (dif_pos h0)]
    unfold outA
    iintro ⟨⟨⟨HS0, HS1, HS2⟩, Hg⟩, Ho, ⟨%d0, H0⟩, ⟨%d1, H1⟩, ⟨%d2, H2⟩, ⟨%d5, H5⟩⟩
    iapply ((runA m c t h0 h1 h2 ).2.2.2.2 Set.univ _)
    isplitl [H0]; · iexact H0
    isplitl [H1]; · iexact H1
    isplitl [H2]; · iexact H2
    isplitl [H5]; · iexists _; iexact H5
    isplitl [HS0]; · iexists _; iexact HS0
    isplitl [HS1]; · iexists _; iexact HS1
    isplitl [HS2]; · iexists _; iexact HS2
    iintro ⟨H0, H1, H2, ⟨%e5, H5⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scoverA_0 m c t h0 h1 h2)
        isplitl [HS1]
        · unfold owns; iexists _; isplitr
          swap; · iexact HS1
          ipureintro; exact View.read_writes_of_cover _ _ _ _ _ (scoverA_1 m c t h0 h1 h2)
        unfold owns; iexists _; isplitr
        swap; · iexact HS2
        ipureintro; exact View.read_writes_of_cover _ _ _ _ _ (scoverA_2 m c t h0 h1 h2)
      iexact Hg
    isplitl [Ho]; · iexact Ho
    isplitl [H0]; · iexact H0
    isplitl [H1]; · iexact H1
    isplitl [H2]; · iexact H2
    unfold owns; iexists _; isplitr
    swap; · iexact H5
    ipureintro; exact View.read_writes_of_cover _ _ _ _ _ (ocoverA m c t h0 h1 h2)

set_option maxHeartbeats 4000000 in
/-- The body's triple at a point of case B. -/
theorem sound_B (c : Dev nD) (t : Fin cfg0.N) (h0 : ¬t.val % 16 = 0) (h1 : ¬t.val % 16 + 1 ≤ t.val / 16 % 16) (h2 : ¬t.val / 16 % 16 = t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, leaves0_0, leaves0_1, leaves0_2]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun h => h0 (by rw [h])
  rw [PhiS_castSucc m c t, PhiS_pos m c _ _ hz, stAt_B m c t h0 h1 h2]
  iintro ⟨⟨⟨HS0, HS1, HS2⟩, Hg⟩, Ho, ⟨%d0, H0⟩, ⟨%d1, H1⟩, ⟨%d2, H2⟩, ⟨%d5, H5⟩⟩
  iapply (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (fun h => h2 ((hcond0_3 t).mp h)) (iblk m c 0 t) (iblk m c 1 t) (iblk m c 2 t) ((dats m 0 c).before 3 t d5) (stAt m c (t.val - 1) (lt_of_le_of_lt (Nat.sub_le _ _) t.isLt)).1 (stAt m c (t.val - 1) (lt_of_le_of_lt (Nat.sub_le _ _) t.isLt)).2.1 (stAt m c (t.val - 1) (lt_of_le_of_lt (Nat.sub_le _ _) t.isLt)).2.2 Set.univ _)
  isplitl [H0]; · iexact H0
  isplitl [H1]; · iexact H1
  isplitl [H2]; · iexact H2
  isplitl [H5]; · iexact H5
  isplitl [HS0]; · iexact HS0
  isplitl [HS1]; · iexact HS1
  isplitl [HS2]; · iexact HS2
  iintro ⟨H0, H1, H2, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iapply (leaves0_3_off m c t h2 d5); iexact H5

set_option maxHeartbeats 4000000 in
/-- The body's triple at a point of case C. -/
theorem sound_C (c : Dev nD) (t : Fin cfg0.N) (h0 : t.val % 16 = 0) (h1 : t.val % 16 + 1 ≤ t.val / 16 % 16) (h2 : ¬t.val / 16 % 16 = t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, leaves0_0, leaves0_1, leaves0_2]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun h => by rw [h] at h1; simp at h1
  rw [PhiS_castSucc m c t, PhiS_pos m c _ _ hz, stAt_C m c t h0 h1 h2]
  unfold stC; (try dsimp only)
  iintro ⟨⟨⟨HS0, HS1, HS2⟩, Hg⟩, Ho, ⟨%d0, H0⟩, ⟨%d1, H1⟩, ⟨%d2, H2⟩, ⟨%d5, H5⟩⟩
  iapply ((runC m c t h0 h1 h2 ((dats m 0 c).before 3 t d5) ).2.2.2 Set.univ _)
  isplitl [H0]; · iexact H0
  isplitl [H1]; · iexact H1
  isplitl [H2]; · iexact H2
  isplitl [H5]; · iexact H5
  isplitl [HS0]; · iexists _; iexact HS0
  isplitl [HS1]; · iexists _; iexact HS1
  isplitl [HS2]; · iexists _; iexact HS2
  iintro ⟨H0, H1, H2, H5, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scoverC_0 m c t h0 h1 h2 _)
      isplitl [HS1]
      · unfold owns; iexists _; isplitr
        swap; · iexact HS1
        ipureintro; exact View.read_writes_of_cover _ _ _ _ _ (scoverC_1 m c t h0 h1 h2 _)
      unfold owns; iexists _; isplitr
      swap; · iexact HS2
      ipureintro; exact View.read_writes_of_cover _ _ _ _ _ (scoverC_2 m c t h0 h1 h2 _)
    iexact Hg
  isplitl [Ho]; · iexact Ho
  isplitl [H0]; · iexact H0
  isplitl [H1]; · iexact H1
  isplitl [H2]; · iexact H2
  iapply (leaves0_3_off m c t h2 d5); iexact H5

set_option maxHeartbeats 4000000 in
/-- The body's triple at a point of case D. -/
theorem sound_D (c : Dev nD) (t : Fin cfg0.N) (h0 : ¬t.val % 16 = 0) (h1 : ¬t.val % 16 + 1 ≤ t.val / 16 % 16) (h2 : t.val / 16 % 16 = t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, leaves0_0, leaves0_1, leaves0_2]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun h => h0 (by rw [h])
  rw [PhiS_castSucc m c t, PhiS_pos m c _ _ hz, stAt_D m c t h0 h1 h2]
  unfold stD; (try dsimp only)
  rw [leaves0_3_diag m c t h2, show outBlk m c t = outD m c t h0 h1 h2 (stAt m c (t.val - 1) (lt_of_le_of_lt (Nat.sub_le _ _) t.isLt)) from (dif_pos h2).trans (dif_neg h0)]
  unfold outD
  iintro ⟨⟨⟨HS0, HS1, HS2⟩, Hg⟩, Ho, ⟨%d0, H0⟩, ⟨%d1, H1⟩, ⟨%d2, H2⟩, ⟨%d5, H5⟩⟩
  iapply ((runD m c t h0 h1 h2 (stAt m c (t.val - 1) (lt_of_le_of_lt (Nat.sub_le _ _) t.isLt))).2.2.2.2 Set.univ _)
  isplitl [H0]; · iexact H0
  isplitl [H1]; · iexact H1
  isplitl [H2]; · iexact H2
  isplitl [H5]; · iexists _; iexact H5
  isplitl [HS0]; · iexact HS0
  isplitl [HS1]; · iexact HS1
  isplitl [HS2]; · iexact HS2
  iintro ⟨H0, H1, H2, ⟨%e5, H5⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scoverD_0 m c t h0 h1 h2 (stAt m c (t.val - 1) (lt_of_le_of_lt (Nat.sub_le _ _) t.isLt)))
      isplitl [HS1]
      · unfold owns; iexists _; isplitr
        swap; · iexact HS1
        ipureintro; exact View.read_writes_of_cover _ _ _ _ _ (scoverD_1 m c t h0 h1 h2 (stAt m c (t.val - 1) (lt_of_le_of_lt (Nat.sub_le _ _) t.isLt)))
      unfold owns; iexists _; isplitr
      swap; · iexact HS2
      ipureintro; exact View.read_writes_of_cover _ _ _ _ _ (scoverD_2 m c t h0 h1 h2 (stAt m c (t.val - 1) (lt_of_le_of_lt (Nat.sub_le _ _) t.isLt)))
    iexact Hg
  isplitl [Ho]; · iexact Ho
  isplitl [H0]; · iexact H0
  isplitl [H1]; · iexact H1
  isplitl [H2]; · iexact H2
  unfold owns; iexists _; isplitr
  swap; · iexact H5
  ipureintro; exact View.read_writes_of_cover _ _ _ _ _ (ocoverD m c t h0 h1 h2 (stAt m c (t.val - 1) (lt_of_le_of_lt (Nat.sub_le _ _) t.isLt)))

set_option maxHeartbeats 4000000 in
/-- The body's triple at a point of case E. -/
theorem sound_E (c : Dev nD) (t : Fin cfg0.N) (h0 : ¬t.val % 16 = 0) (h1 : t.val % 16 + 1 ≤ t.val / 16 % 16) (h2 : ¬t.val / 16 % 16 = t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, leaves0_0, leaves0_1, leaves0_2]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun h => h0 (by rw [h])
  rw [PhiS_castSucc m c t, PhiS_pos m c _ _ hz, stAt_E m c t h0 h1 h2]
  unfold stE; (try dsimp only)
  iintro ⟨⟨⟨HS0, HS1, HS2⟩, Hg⟩, Ho, ⟨%d0, H0⟩, ⟨%d1, H1⟩, ⟨%d2, H2⟩, ⟨%d5, H5⟩⟩
  iapply ((runE m c t h0 h1 h2 ((dats m 0 c).before 3 t d5) (stAt m c (t.val - 1) (lt_of_le_of_lt (Nat.sub_le _ _) t.isLt))).2.2.2 Set.univ _)
  isplitl [H0]; · iexact H0
  isplitl [H1]; · iexact H1
  isplitl [H2]; · iexact H2
  isplitl [H5]; · iexact H5
  isplitl [HS0]; · iexact HS0
  isplitl [HS1]; · iexact HS1
  isplitl [HS2]; · iexact HS2
  iintro ⟨H0, H1, H2, H5, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scoverE_0 m c t h0 h1 h2 _ (stAt m c (t.val - 1) (lt_of_le_of_lt (Nat.sub_le _ _) t.isLt)))
      isplitl [HS1]
      · unfold owns; iexists _; isplitr
        swap; · iexact HS1
        ipureintro; exact View.read_writes_of_cover _ _ _ _ _ (scoverE_1 m c t h0 h1 h2 _ (stAt m c (t.val - 1) (lt_of_le_of_lt (Nat.sub_le _ _) t.isLt)))
      unfold owns; iexists _; isplitr
      swap; · iexact HS2
      ipureintro; exact View.read_writes_of_cover _ _ _ _ _ (scoverE_2 m c t h0 h1 h2 _ (stAt m c (t.val - 1) (lt_of_le_of_lt (Nat.sub_le _ _) t.isLt)))
    iexact Hg
  isplitl [Ho]; · iexact Ho
  isplitl [H0]; · iexact H0
  isplitl [H1]; · iexact H1
  isplitl [H2]; · iexact H2
  iapply (leaves0_3_off m c t h2 d5); iexact H5

/-- The body's triple at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · by_cases h1 : t.val % 16 + 1 ≤ t.val / 16 % 16
    · exact sound_C m c t h0 h1 (by omega)
    · exact sound_A m c t h0 h1 (by omega)
  · by_cases h1 : t.val % 16 + 1 ≤ t.val / 16 % 16
    · exact sound_E m c t h0 h1 (by omega)
    · by_cases h2 : t.val / 16 % 16 = t.val % 16
      · exact sound_D m c t h0 h1 h2
      · exact sound_B m c t h0 h1 h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 1024 := N_0; omega)

set_option backward.isDefEq.respectTransparency.types false in
/-- The launch: the program runs to the pipeline's arrays as the proof data name them, every counter back at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

end Cert.Kernel4Ideal.Mla

end
-- ==== Proof.MlaOut.lean ====
/-
  The launch's result array.
-/
module

public import proofs.«01_k».proof.Proof.MlaReals
public import proofs.«01_k».proof.Proof.MlaFrame

@[expose] public section

set_option maxRecDepth 16384

noncomputable section

namespace Cert.Kernel4Ideal.Mla

open Cert.Kernel4Ideal.Gen Cert.Kernel4Ideal.Facts
open Idealize.ShloMosaic Idealize.ShloMosaic.TcCoe

variable (m : (ℓ : Loc nD τ sig) → Buf (Elt Ideal) ℓ) (c : Dev nD)

/-- The softmax over the keys up to the query, heads side by side. -/
def res : FVec Ideal S4x8192x512 .f32 := fun i =>
  ((Attn.soft ((i 1).val + 1) (scR m c (i 0).val (i 1).val ((i 2).val / 64))
    (fun k => Attn.Fox.qR (argV m c) (i 0).val k ((i 2).val / 64) ((i 2).val % 64)) : ℝ) : EReal)

variable (hq : Attn.Fox.Real (argQ m c)) (hk : Attn.Fox.Real (argK m c)) (hv : Attn.Fox.Real (argV m c))

include hq hk hv in
/-- A block of the result array. -/
theorem outBlk_res (t : Fin cfg0.N) (y : S1x512x512.Idx) (i : S4x8192x512.Idx) (h0 : (i 0).val = t.val / 256)
    (h1 : (i 1).val = 512 * (t.val / 16 % 16) + (y 1).val) (h2 : (i 2).val = (y 2).val) :
    outBlk m c (diag t) y = res m c i := by
  have hN : t.val < 1024 := t.isLt.trans_eq N_0
  have y0 : (y 0).val < 1 := (y 0).isLt
  have y2 : (y 2).val < 512 := (y 2).isLt
  have hd : (diag t).val = t.val / 16 * 16 + t.val / 16 % 16 := rfl
  have a0 : (diag t).val / 16 = t.val / 16 := by omega
  have a1 : (diag t).val / 16 % 16 = t.val / 16 % 16 := by omega
  have a2 : (diag t).val % 16 = t.val / 16 % 16 := by omega
  have a3 : (diag t).val / 256 = t.val / 256 := by omega
  have hy : y = ix3 0 (y 1) (outLane ⟨(y 2).val / 64, by omega⟩ ⟨(y 2).val % 64, by omega⟩) := by
    funext a
    apply Fin.ext
    match a with
    | ⟨0, _⟩ => show (y 0).val = 0; omega
    | ⟨1, _⟩ => rfl
    | ⟨2, _⟩ => show (y 2).val = 64 * ((y 2).val / 64) + (y 2).val % 64; omega
  have e := outBlk_at (reals m c hq hk hv) (diag t) (a1.trans a2.symm) ⟨(y 2).val / 64, by omega⟩ (y 1) ⟨(y 2).val % 64, by omega⟩
  rw [hy]
  refine e.trans ?_
  unfold res
  rw [a1, a3, h0, h1, h2]
  refine congrArg (fun x : ℝ => (x : EReal)) (Attn.soft_congr (fun k _ => rfl) fun k _ => ?_)
  have b1 : 2 * ((y 2).val / 64 / 2) + (64 * ((y 2).val / 64 % 2) + (y 2).val % 64) / 64 = (y 2).val / 64 := by omega
  have b2 : (64 * ((y 2).val / 64 % 2) + (y 2).val % 64) % 64 = (y 2).val % 64 := by omega
  simp only [vlR, b1, b2]

include hq hk hv in
theorem arr_eq : (dats m 0 c).arrAt 3 cfg0.N = res m c := by
  refine (dats m 0 c).arrAt_eq_of_covers 3 (res m c) (by decide +kernel) fun t hf y => ?_
  blk_simp
  rw [after0_3]
  refine outBlk_res m c hq hk hv t y _ ?_ ?_ ?_
  · blk_simp [(places t).2.2.2]
  · blk_simp [(places t).2.2.2]
    rw [Nat.mul_comm]
  · blk_simp [(places t).2.2.2]

end Cert.Kernel4Ideal.Mla

end
-- ==== Proof.MlaPre.lean ====
/-
  What the precondition says: every element of the arguments is a real number.
-/
module

public import proofs.«01_k».proof.Defs
public import proofs.«01_k».proof.Proof.FoxPre
public import Idealize.ShloMosaic.Lib.ReduceAll

@[expose] public section

set_option maxRecDepth 16384

noncomputable section

namespace Cert.Pre_finite_inputs4

open Idealize.ShloMosaic

theorem facts : Facts where
  bcast_S_S4x8192x8x96 := by decide
  reducesTo_S4x8192x8x96_S_d0_1_2_3 := by decide
  h_S_ := by decide
  bcast_S_S4x8192x8x64 := by decide
  reducesTo_S4x8192x8x64_S_d0_1_2_3 := by decide

variable [Facts]

theorem real_of_pre (q k : FVec Ideal S4x8192x8x96 .f32) (v : FVec Ideal S4x8192x8x64 .f32)
    (h : fn (F := Ideal) q k v = fun _ => 1#1) : Attn.Fox.Real q ∧ Attn.Fox.Real k ∧ Attn.Fox.Real v := by
  have e := congrFun h ix0
  unfold fn at e
  dsimp only at e
  have andi_one : ∀ a b : BitVec 1, IntOp.andi a b = 1#1 → a = 1#1 ∧ b = 1#1 := by decide
  obtain ⟨e12, e3⟩ := andi_one _ _ e
  obtain ⟨e1, e2⟩ := andi_one _ _ e12
  refine ⟨fun i => ?_, fun i => ?_, fun i => ?_⟩
  · exact Cert.Pre_finite_inputs.real_of_word _ (Host.reduce_andi_all _ _ _ _ _ e1 i)
  · exact Cert.Pre_finite_inputs.real_of_word _ (Host.reduce_andi_all _ _ _ _ _ e2 i)
  · exact Cert.Pre_finite_inputs.real_of_word _ (Host.reduce_andi_all _ _ _ _ _ e3 i)

end Cert.Pre_finite_inputs4

end
-- ==== Proof.MlaRef.lean ====
/-
  The reference at an element, in pieces.
-/
module

public import proofs.«01_k».proof.Proof.Gen.Reference4Ideal.Run
public import proofs.«01_k».proof.Proof.MlaReal

@[expose] public section

set_option maxRecDepth 16384

noncomputable section

namespace Cert.Reference4Ideal.Direct

open Cert.Reference4Ideal.Gen Cert.Reference4Ideal.Facts
open Idealize.ShloMosaic Idealize.ShloMosaic.TcCoe

/-- Keys not after the query. -/
def mask : IVec S4x8x1x8192x8192 1 :=
  broadcastInDim S4x8x1x8192x8192 ![3, 4] bcast_S8192x8192_S4x8x1x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The scores, scaled. -/
def logits (q k : FVec Ideal S4x8192x8x96 .f32) : FVec Ideal S4x8x1x8192x8192 .f32 :=
  Host.divf (transpose S4x8x1x8192x8192 [0, 1, 4, 3, 2] (Host.dotGeneral dot_S4x8192x8x96_S4x8192x8x1x96_S4x8x8192x8192x1_3_4_1_13_02_02 none k (shapeCast _ q shapeCasts_S4x8192x8x96_S4x8192x8x1x96)) transposes_S4x8x8192x8192x1_S4x8x1x8192x8192_0_1_4_3_2) (broadcastInDim S4x8x1x8192x8192 ![] bcast_S_S4x8x1x8192x8192 (Host.sqrt (constant S_ .f32 0x42C00000#32)))

/-- The scores with the keys after the query at minus infinity. -/
def cut (l : FVec Ideal S4x8x1x8192x8192 .f32) : FVec Ideal S4x8x1x8192x8192 .f32 :=
  select mask l (broadcastInDim S4x8x1x8192x8192 ![] bcast_S_S4x8x1x8192x8192 (id (constant S_ .f32 0xFF800000#32)))

/-- Each row's maximum. -/
def top (l : FVec Ideal S4x8x1x8192x8192 .f32) : FVec Ideal S4x8x1x8192x1 .f32 :=
  broadcastInDim S4x8x1x8192x1 ![0, 1, 2, 3] bcast_S4x8x1x8192_S4x8x1x8192x1_0_1_2_3 (Host.reduce FloatOps.maximumf l (constant S_ .f32 0xFF800000#32) reducesTo_S4x8x1x8192x8192_S4x8x1x8192_d4 h_S_)

/-- The maximum, or zero where it is infinite. -/
def level (t : FVec Ideal S4x8x1x8192x1 .f32) : FVec Ideal S4x8x1x8192x1 .f32 :=
  select (cmpf .olt (Host.absf t) (broadcastInDim S4x8x1x8192x1 ![] bcast_S_S4x8x1x8192x1 (constant S_ .f32 0x7F800000#32))) t (broadcastInDim S4x8x1x8192x1 ![] bcast_S_S4x8x1x8192x1 (id (constant S_ .f32 0x00000000#32)))

/-- The weights. -/
def wts (l : FVec Ideal S4x8x1x8192x8192 .f32) (t : FVec Ideal S4x8x1x8192x1 .f32) : FVec Ideal S4x8x1x8192x8192 .f32 :=
  select mask (Host.exp (subf l (broadcastInDim S4x8x1x8192x8192 ![0, 1, 2, 3, 4] bcast_S4x8x1x8192x1_S4x8x1x8192x8192_0_1_2_3_4 t))) (broadcastInDim S4x8x1x8192x8192 ![] bcast_S_S4x8x1x8192x8192 (id (constant S_ .f32 0x00000000#32)))

/-- The weights over their sum. -/
def probs (p : FVec Ideal S4x8x1x8192x8192 .f32) : FVec Ideal S4x8x1x8192x8192 .f32 :=
  Host.divf p (broadcastInDim S4x8x1x8192x8192 ![0, 1, 2, 3, 4] bcast_S4x8x1x8192x1_S4x8x1x8192x8192_0_1_2_3_4 (maximumf (broadcastInDim S4x8x1x8192x1 ![0, 1, 2, 3] bcast_S4x8x1x8192_S4x8x1x8192x1_0_1_2_3 (Host.reduceAdd p (constant S_ .f32 0x00000000#32) reducesTo_S4x8x1x8192x8192_S4x8x1x8192_d4 h_S_)) (broadcastInDim S4x8x1x8192x1 ![] bcast_S_S4x8x1x8192x1 (constant S_ .f32 0x0DA24260#32))))

/-- The weighted values, heads side by side. -/
def mix (v : FVec Ideal S4x8192x8x64 .f32) (p : FVec Ideal S4x8x1x8192x8192 .f32) : FVec Ideal S4x8192x512 .f32 :=
  shapeCast _ (transpose S4x8192x8x1x64 [0, 4, 1, 3, 2] (Host.dotGeneral dot_S4x8192x8x64_S4x8x1x8192x8192_S4x8x64x1x8192_1_4_3_23_02_01 none v p) transposes_S4x8x64x1x8192_S4x8192x8x1x64_0_4_1_3_2) shapeCasts_S4x8192x8x1x64_S4x8192x512

variable (b : Fin 4) (g : Fin 8) (r k : Fin 8192)

theorem select_word {α : Type} {n : ℕ} (a c : α) : Scalar.select (BitVec.ofBool (decide (k.val < n))) a c = if k.val < n then a else c := by
  by_cases h : k.val < n <;> simp [Scalar.select, h]

theorem mask_at : mask (ix5 b g 0 r k) = BitVec.ofBool (decide (k.val < r.val + 1)) := by
  pointwise [mask]
  exact Attn.Fox.sle_word _ _ k.isLt r.isLt

variable {q k' : FVec Ideal S4x8192x8x96 .f32} {v : FVec Ideal S4x8192x8x64 .f32}

theorem logits_at (hq : Attn.Fox.Real q) (hk : Attn.Fox.Real k') :
    logits q k' (ix5 b g 0 r k) = ((Attn.Mla.score q k' b r g k : ℝ) : EReal) := by
  pointwise [logits]
  simp only [Attn.Mla.w_eq hq, Attn.Mla.w_eq hk, ← EReal.coe_mul, Attn.coe_sum]
  rw [Attn.Mla.div_root]
  rfl

theorem cut_at (l : FVec Ideal S4x8x1x8192x8192 .f32) : cut l (ix5 b g 0 r k) = if k.val < r.val + 1 then l (ix5 b g 0 r k) else ⊥ := by
  pointwise [cut]
  rw [mask_at, select_word]
  exact congrArg _ Attn.ofBits_neg_inf

theorem top_at (l : FVec Ideal S4x8x1x8192x8192 .f32) : top l (ix5 b g 0 r 0) = Finset.univ.fold max ⊥ fun x => l (ix5 b g 0 r x) := by
  pointwise [top]
  rw [Attn.ofBits_neg_inf]

theorem level_at (t : FVec Ideal S4x8x1x8192x1 .f32) (μ : ℝ) (h : t (ix5 b g 0 r 0) = (μ : EReal)) : level t (ix5 b g 0 r 0) = (μ : EReal) := by
  pointwise [level]
  rw [Attn.ofBits_inf, h, if_pos]
  exact EReal.coe_lt_top _

theorem wts_at (l : FVec Ideal S4x8x1x8192x8192 .f32) (t : FVec Ideal S4x8x1x8192x1 .f32) :
    wts l t (ix5 b g 0 r k) = if k.val < r.val + 1 then Ideal.exp (l (ix5 b g 0 r k) - t (ix5 b g 0 r 0)) else 0 := by
  pointwise [wts]
  rw [mask_at, select_word]
  exact congrArg _ Ideal.ofBits_zero_f32

theorem probs_at (l : FVec Ideal S4x8x1x8192x8192 .f32) :
    probs l (ix5 b g 0 r k) = Ideal.div (l (ix5 b g 0 r k)) (max (∑ x, l (ix5 b g 0 r x)) (Ideal.ofBits FTy.f32 0x0DA24260#32)) := by
  pointwise [probs]

theorem mix_at (v : FVec Ideal S4x8192x8x64 .f32) (w : FVec Ideal S4x8x1x8192x8192 .f32) (l : Fin 512) :
    mix v w (ix3 b r l) = ∑ x, v (ix4 b x ⟨l / 64, by omega⟩ ⟨l % 64, by omega⟩) * w (ix5 b ⟨l / 64, by omega⟩ 0 r x) := by
  pointwise [mix]

/-- The reference's result, as a function of its arguments. -/
def out (q k : FVec Ideal S4x8192x8x96 .f32) (v : FVec Ideal S4x8192x8x64 .f32) : FVec Ideal S4x8192x512 .f32 :=
  mix v (probs (wts (cut (logits q k)) (level (top (cut (logits q k))))))

theorem res_eq (m : (ℓ : Loc nD τ sig) → Buf (Elt Ideal) ℓ) (c : Dev nD) :
    Cert.Reference4Ideal.Value.res_main_v31 m c =
      out (m ((c.tc : Thread nD τ).loc main_arg0)) (m ((c.tc : Thread nD τ).loc main_arg1)) (m ((c.tc : Thread nD τ).loc main_arg2)) := by
  unfold Cert.Reference4Ideal.Value.res_main_v31
  rfl

/-- The reference is the softmax over the keys up to the query. -/
theorem out_at (hq : Attn.Fox.Real q) (hk : Attn.Fox.Real k') (hv : Attn.Fox.Real v) (l : Fin 512) :
    out q k' v (ix3 b r l) =
      ((Attn.soft (r.val + 1) (Attn.Mla.score q k' b r (l.val / 64)) (fun k => Attn.Fox.qR v b k (l.val / 64) (l.val % 64)) : ℝ) : EReal) := by
  obtain ⟨lo, hlo0, hlo, elo⟩ := Attn.Fox.ofBits_tiny
  have hs : ∀ x : Fin 8192, cut (logits q k') (ix5 b ⟨l.val / 64, by omega⟩ 0 r x) =
      if x.val < r.val + 1 then ((Attn.Mla.score q k' b r (l.val / 64) x : ℝ) : EReal) else ⊥ := by
    intro x
    rw [cut_at, logits_at _ _ _ _ hq hk]
  have ht := top_at b ⟨l.val / 64, by omega⟩ r (cut (logits q k'))
  obtain ⟨μ, hμ⟩ := Attn.max_real Finset.univ (fun x => cut (logits q k') (ix5 b ⟨l.val / 64, by omega⟩ 0 r x)) ⊥ bot_ne_top
    (fun x _ => by rw [hs]; split; exacts [EReal.coe_ne_top _, bot_ne_top])
    (Or.inr ⟨⟨0, by omega⟩, Finset.mem_univ _, by rw [hs, if_pos (Nat.succ_pos _)]; exact EReal.coe_ne_bot _⟩)
  rw [max_eq_right bot_le] at hμ
  have hl := level_at b ⟨l.val / 64, by omega⟩ r (top (cut (logits q k'))) μ (ht.trans hμ)
  rw [out, mix_at]
  rw [← Attn.soft_direct (B := 8192) (Nat.succ_pos _) (by omega) _ _ lo hlo0 hlo _ hs _ rfl
    (fun x => wts (cut (logits q k')) (level (top (cut (logits q k')))) (ix5 b ⟨l.val / 64, by omega⟩ 0 r x))
    (fun x => by rw [wts_at, hl, hμ])
    (fun x => v (ix4 b x ⟨l / 64, by omega⟩ ⟨l % 64, by omega⟩))
    (fun x => Attn.Fox.q_eq hv _ _ _ _)]
  refine Finset.sum_congr rfl fun x _ => ?_
  rw [probs_at, elo, mul_comm]

end Cert.Reference4Ideal.Direct

end
-- ==== Proof.MlaClaims.lean ====
/-
  The multi-latent attention: the launch and the reference end with the same array.
-/
module

public import proofs.«01_k».proof.Defs
public import proofs.«01_k».proof.Proof.MlaOut
public import proofs.«01_k».proof.Proof.MlaPre
public import proofs.«01_k».proof.Proof.MlaRef
public import proofs.«01_k».proof.Proof.KMlaFrame
public import Idealize.ShloMosaic.Adequacy
public import Idealize.ShloMosaic.Init

@[expose] public section

set_option maxRecDepth 16384

noncomputable section

namespace Cert.MlaClaims

open Idealize.ShloMosaic Idealize.SL.Sem Idealize.ShloMosaic.TcCoe

section Launch

open Cert.Kernel4Ideal Cert.Kernel4Ideal.Gen Cert.Kernel4Ideal.Mla

variable (m : (ℓ : Loc nD τ sig) → Buf (Elt Ideal) ℓ) (ρ : Dev nD → PrngReg)

theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ))
    ((θ_run defs _ _).mono (fun _ h => h.2) (run_main_quiescent m ρ))

theorem value (h : ∀ c : Dev nD, Attn.Fox.Real (argQ m c) ∧ Attn.Fox.Real (argK m c) ∧ Attn.Fox.Real (argV m c)) :
    θ_run (defs (F := Ideal)) (onTc (τ := τ) (main (F := Ideal))) ⟨m, fun _ => 0, ρ⟩ (fun r => ∀ c : Dev nD,
      r.2.mem ((c.tc : Thread nD τ).loc main_v11) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have e : θ_run (defs (F := Ideal)) (onTc (τ := τ) (main (F := Ideal))) ⟨m, fun _ => 0, ρ⟩ (fun r => ∀ c : Dev nD,
      r.2.mem ((c.tc : Thread nD τ).loc main_v11) = res m c) :=
    (θ_run defs _ _).mono (fun r hr c => ((hr c).1 3).trans (arr_eq m c (h c).1 (h c).2.1 (h c).2.2)) (run_main m ρ)
  exact (θ_run defs _ _).mono (fun _ hr c => ⟨hr.1 c, hr.2.1 c⟩) (θ_run_and e (frame m ρ))

end Launch

theorem kernel : Cert.quiescent_Kernel4 (hKernel4 := Cert.Kernel4.Gen.facts) := fun m ρ _ =>
  θ_run_and (Cert.Kernel4.Gen.frame_of m ρ (Cert.Kernel4.Mla.dats m) (Cert.Kernel4.Mla.A_eq m) (Cert.Kernel4.Mla.run_main m ρ))
    ((θ_run Cert.Kernel4.defs _ _).mono (fun _ h => h.2) (Cert.Kernel4.Mla.run_main_quiescent m ρ))

theorem kernelIdeal : Cert.quiescent_Kernel4Ideal (hKernel4Ideal := Cert.Kernel4Ideal.Gen.facts) := fun m ρ _ => frame m ρ

theorem kernelIdeal_pre : Cert.quiescent_Kernel4Ideal_pre_finite_inputs4 (hKernel4Ideal := Cert.Kernel4Ideal.Gen.facts) (hPre_finite_inputs4 := Cert.Pre_finite_inputs4.facts) :=
  fun m ρ _ => frame m ρ

theorem referenceIdeal : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem referenceIdeal_pre : Cert.quiescent_Reference4Ideal_pre_finite_inputs4 (hReference4Ideal := Cert.Reference4Ideal.Gen.facts) (hPre_finite_inputs4 := Cert.Pre_finite_inputs4.facts) :=
  fun m ρ _ => referenceIdeal m ρ trivial

theorem preserves : Cert.preserves_Kernel4_Kernel4Ideal :=
  IdealRules.named_const.statement Cert.Kernel4Ideal.κ "mask" .f32 0xF149F2CA#32 ⊥ rfl

/-- The reference's array is the launch's. -/
theorem same (m : (ℓ : Loc Cert.Kernel4Ideal.nD Cert.Kernel4Ideal.τ Cert.Kernel4Ideal.sig) → Buf (Elt Ideal) ℓ) (c : Dev Cert.Kernel4Ideal.nD)
    (hq : Attn.Fox.Real (Cert.Kernel4Ideal.Mla.argQ m c)) (hk : Attn.Fox.Real (Cert.Kernel4Ideal.Mla.argK m c)) (hv : Attn.Fox.Real (Cert.Kernel4Ideal.Mla.argV m c)) :
    Cert.Reference4Ideal.Direct.out (Cert.Kernel4Ideal.Mla.argQ m c) (Cert.Kernel4Ideal.Mla.argK m c) (Cert.Kernel4Ideal.Mla.argV m c) = Cert.Kernel4Ideal.Mla.res m c := by
  funext i
  have hi : i = ix3 (i 0) (i 1) (i 2) := by
    funext a
    match a with
    | ⟨0, _⟩ => rfl
    | ⟨1, _⟩ => rfl
    | ⟨2, _⟩ => rfl
  rw [hi]
  exact Cert.Reference4Ideal.Direct.out_at (i 0) (i 1) hq hk hv (i 2)

theorem algebraic : Cert.algebraic_Kernel4Ideal_Reference4Ideal_pre_finite_inputs4 (hKernel4Ideal := Cert.Kernel4Ideal.Gen.facts) (hReference4Ideal := Cert.Reference4Ideal.Gen.facts) (hPre_finite_inputs4 := Cert.Pre_finite_inputs4.facts) := by
  intro m ρ m' ρ' hpre hagree
  have hr : ∀ c : Dev Cert.Kernel4Ideal.nD, Attn.Fox.Real (Cert.Kernel4Ideal.Mla.argQ m c) ∧ Attn.Fox.Real (Cert.Kernel4Ideal.Mla.argK m c) ∧ Attn.Fox.Real (Cert.Kernel4Ideal.Mla.argV m c) :=
    fun c => @Cert.Pre_finite_inputs4.real_of_pre Cert.Pre_finite_inputs4.facts _ _ _ (hpre c)
  refine ⟨_, value m ρ hr, ?_⟩
  refine (θ_run Cert.Reference4Ideal.defs _ _).mono (fun _ h c => ⟨(h c).1.trans ?_, (h c).2⟩) (Cert.Reference4Ideal.Value.run m' ρ')
  rw [Cert.Reference4Ideal.Direct.res_eq]
  obtain ⟨e0, e1, e2⟩ := hagree c
  rw [e0, e1, e2]
  exact same m c (hr c).1 (hr c).2.1 (hr c).2.2

end Cert.MlaClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.FoxClaims
public import proofs.«01_k».proof.Proof.Post2Claims
public import proofs.«01_k».proof.Proof.Post3Claims
public import proofs.«01_k».proof.Proof.MlaClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_inputs.facts, Cert.Pre_finite_inputs4.facts,
    Cert.FoxClaims.kernel, Cert.FoxClaims.kernelIdeal, Cert.FoxClaims.kernelIdeal_pre, Cert.FoxClaims.referenceIdeal,
    Cert.FoxClaims.referenceIdeal_pre, Cert.Post2Claims.kernel, Cert.Post2Claims.kernelIdeal, Cert.Post2Claims.referenceIdeal,
    Cert.Post3Claims.kernel, Cert.Post3Claims.kernelIdeal, Cert.Post3Claims.referenceIdeal,
    Cert.MlaClaims.kernel, Cert.MlaClaims.kernelIdeal, Cert.MlaClaims.kernelIdeal_pre, Cert.MlaClaims.referenceIdeal, Cert.MlaClaims.referenceIdeal_pre,
    Cert.FoxClaims.preserves, Cert.FoxClaims.algebraic, Cert.Post2Claims.preserves, Cert.Post2Claims.algebraic, Cert.Post3Claims.preserves, Cert.Post3Claims.algebraic,
    Cert.MlaClaims.preserves, Cert.MlaClaims.algebraic⟩

end Cert.Proof

end
